-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x11520 : Shape := ⟨3, ![192, 1, 11520]⟩
abbrev S1440x20736 : Shape := ⟨2, ![1440, 20736]⟩
abbrev S90x20736 : Shape := ⟨2, ![90, 20736]⟩
abbrev S90x2592 : Shape := ⟨2, ![90, 2592]⟩
abbrev S192x11520 : Shape := ⟨2, ![192, 11520]⟩
abbrev S192x20736 : Shape := ⟨2, ![192, 20736]⟩
abbrev S45x192x256 : Shape := ⟨3, ![45, 192, 256]⟩
abbrev S3x1440x512 : Shape := ⟨3, ![3, 1440, 512]⟩
abbrev S2x90x512 : Shape := ⟨3, ![2, 90, 512]⟩
abbrev S90x128 : Shape := ⟨2, ![90, 128]⟩
abbrev S2x45x512 : Shape := ⟨3, ![2, 45, 512]⟩
abbrev S2x192x512 : Shape := ⟨3, ![2, 192, 512]⟩
abbrev S_ : Shape := ⟨0, ![]⟩
abbrev S3x2 : Shape := ⟨2, ![3, 2]⟩
abbrev S2x2 : Shape := ⟨2, ![2, 2]⟩
abbrev S2 : Shape := ⟨1, ![2]⟩
abbrev S1x128 : Shape := ⟨2, ![1, 128]⟩
abbrev S256x256 : Shape := ⟨2, ![256, 256]⟩
abbrev S1x1 : Shape := ⟨2, ![1, 1]⟩
abbrev S1x1440x256 : Shape := ⟨3, ![1, 1440, 256]⟩
abbrev S1440x256 : Shape := ⟨2, ![1440, 256]⟩
abbrev S1x90x256 : Shape := ⟨3, ![1, 90, 256]⟩
abbrev S90x256 : Shape := ⟨2, ![90, 256]⟩
abbrev S96x256 : Shape := ⟨2, ![96, 256]⟩
abbrev S1x96x256 : Shape := ⟨3, ![1, 96, 256]⟩
abbrev S192x128 : Shape := ⟨2, ![192, 128]⟩
abbrev S192x128x1 : Shape := ⟨3, ![192, 128, 1]⟩
abbrev S1x192x128 : Shape := ⟨3, ![1, 192, 128]⟩
abbrev S90x128x1 : Shape := ⟨3, ![90, 128, 1]⟩
abbrev S45x128 : Shape := ⟨2, ![45, 128]⟩
abbrev S1x45x128 : Shape := ⟨3, ![1, 45, 128]⟩
abbrev S1x90x128 : Shape := ⟨3, ![1, 90, 128]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩
abbrev S1 : Shape := ⟨1, ![1]⟩
abbrev S192x512 : Shape := ⟨2, ![192, 512]⟩
abbrev S1x192x512 : Shape := ⟨3, ![1, 192, 512]⟩
abbrev S1x32x256 : Shape := ⟨3, ![1, 32, 256]⟩
abbrev S32x256 : Shape := ⟨2, ![32, 256]⟩
abbrev S1x64x256 : Shape := ⟨3, ![1, 64, 256]⟩
abbrev S64x256 : Shape := ⟨2, ![64, 256]⟩
abbrev S192x256 : Shape := ⟨2, ![192, 256]⟩
abbrev S1x192x256 : Shape := ⟨3, ![1, 192, 256]⟩
abbrev S192x1x20736 : Shape := ⟨3, ![192, 1, 20736]⟩

abbrev nBuf : Space → Nat
  | .hbm => 7
  | .vmem => 10
  | .smem => 0
  | _ => 0

abbrev bufTy : (tb : Table) → Fin (tcTables nBuf tb) → BufTy
  | .hbm, ⟨0, _⟩ => ⟨S192x1x11520, .bf16⟩
  | .hbm, ⟨1, _⟩ => ⟨S1440x20736, .i32⟩
  | .hbm, ⟨2, _⟩ => ⟨S90x20736, .bf16⟩
  | .hbm, ⟨3, _⟩ => ⟨S90x2592, .i32⟩
  | .hbm, ⟨4, _⟩ => ⟨S192x11520, .bf16⟩
  | .hbm, ⟨5, _⟩ => ⟨S192x20736, .bf16⟩
  | .hbm, ⟨6, _⟩ => ⟨S192x1x20736, .bf16⟩
  | .local _ .vmem, ⟨0, _⟩ => ⟨S192x11520, .bf16⟩
  | .local _ .vmem, ⟨1, _⟩ => ⟨S45x192x256, .bf16⟩
  | .local _ .vmem, ⟨2, _⟩ => ⟨S3x1440x512, .i32⟩
  | .local _ .vmem, ⟨3, _⟩ => ⟨S2x90x512, .bf16⟩
  | .local _ .vmem, ⟨4, _⟩ => ⟨S90x2592, .i32⟩
  | .local _ .vmem, ⟨5, _⟩ => ⟨S90x128, .i32⟩
  | .local _ .vmem, ⟨6, _⟩ => ⟨S90x128, .f32⟩
  | .local _ .vmem, ⟨7, _⟩ => ⟨S2x90x512, .f32⟩
  | .local _ .vmem, ⟨8, _⟩ => ⟨S2x45x512, .i32⟩
  | .local _ .vmem, ⟨9, _⟩ => ⟨S2x192x512, .bf16⟩
  | _, _ => ⟨S192x1x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩

abbrev nD : Nat := 1
abbrev τ : Topo := Topo.v7x

variable {F : FTy → Type} [FloatOps F]

abbrev grid0 : Pipeline.Grid := .none

def k0_mult1 : BitVec 32 :=
  let c0_i32_1_r0 : BitVec 32 := 0#32
  let c20480_i32_r0 : BitVec 32 := 20480#32
  let v7_r0 : BitVec 32 := Scalar.minsi c0_i32_1_r0 c20480_i32_r0
  v7_r0
def k0_off1 (c0_i32_0_r0 : BitVec 32) : Fin 2 → Nat :=
  let c3_i32_r0 : BitVec 32 := 3#32
  let v6_r0 : BitVec 32 := Scalar.remsi c0_i32_0_r0 c3_i32_r0
  let c0_i32_2_r0 : BitVec 32 := 0#32
  ![v6_r0.toNat, 0]
def k0_off2 (c0_i32_0_r0 : BitVec 32) : Fin 3 → Nat :=
  let c3_i32_r0 : BitVec 32 := 3#32
  let v6_r0 : BitVec 32 := Scalar.remsi c0_i32_0_r0 c3_i32_r0
  let c0_i32_3_r0 : BitVec 32 := 0#32
  let c0_i32_4_r0 : BitVec 32 := 0#32
  ![v6_r0.toNat, 0, 0]
def k0_off3 (c0_i32_1_r0 : BitVec 32) : Fin 2 → Nat :=
  let c0_i32_5_r0 : BitVec 32 := 0#32
  let c20480_i32_r0 : BitVec 32 := 20480#32
  let v7_r0 : BitVec 32 := Scalar.minsi c0_i32_1_r0 c20480_i32_r0
  let v8_r0 : BitVec 32 := v7_r0
  ![0, v8_r0.toNat]
def k0_mult2 : BitVec 32 :=
  let c0_i32_6_r0 : BitVec 32 := 0#32
  let c20480_i32_7_r0 : BitVec 32 := 20480#32
  let v14_r0 : BitVec 32 := Scalar.minsi c0_i32_6_r0 c20480_i32_7_r0
  v14_r0
def k0_off4 (c0_i32_6_r0 : BitVec 32) : Fin 2 → Nat :=
  let c0_i32_13_r0 : BitVec 32 := 0#32
  let c20480_i32_7_r0 : BitVec 32 := 20480#32
  let v14_r0 : BitVec 32 := Scalar.minsi c0_i32_6_r0 c20480_i32_7_r0
  let v15_r0 : BitVec 32 := v14_r0
  ![0, v15_r0.toNat]
def k0_mult3 : BitVec 32 :=
  let c256_i32_r0 : BitVec 32 := 256#32
  let c20480_i32_16_r0 : BitVec 32 := 20480#32
  let v22_r0 : BitVec 32 := Scalar.minsi c256_i32_r0 c20480_i32_16_r0
  v22_r0
def k0_off5 (c0_i32_14_r0 : BitVec 32) : Fin 2 → Nat :=
  let c3_i32_15_r0 : BitVec 32 := 3#32
  let v21_r0 : BitVec 32 := Scalar.remsi c0_i32_14_r0 c3_i32_15_r0
  let c1_i32_17_r0 : BitVec 32 := 1#32
  ![v21_r0.toNat, 1]
def k0_off6 (c0_i32_14_r0 : BitVec 32) : Fin 3 → Nat :=
  let c3_i32_15_r0 : BitVec 32 := 3#32
  let v21_r0 : BitVec 32 := Scalar.remsi c0_i32_14_r0 c3_i32_15_r0
  let c0_i32_18_r0 : BitVec 32 := 0#32
  let c256_i32_19_r0 : BitVec 32 := 256#32
  ![v21_r0.toNat, 0, 256]
def k0_mult4 : BitVec 32 :=
  let c256_i32_21_r0 : BitVec 32 := 256#32
  let c20480_i32_22_r0 : BitVec 32 := 20480#32
  let v29_r0 : BitVec 32 := Scalar.minsi c256_i32_21_r0 c20480_i32_22_r0
  v29_r0
def k0_mult5 : BitVec 32 :=
  let c512_i32_r0 : BitVec 32 := 512#32
  let c20480_i32_31_r0 : BitVec 32 := 20480#32
  let v37_r0 : BitVec 32 := Scalar.minsi c512_i32_r0 c20480_i32_31_r0
  v37_r0
def k0_mult6 : BitVec 32 :=
  let c512_i32_36_r0 : BitVec 32 := 512#32
  let c20480_i32_37_r0 : BitVec 32 := 20480#32
  let v44_r0 : BitVec 32 := Scalar.minsi c512_i32_36_r0 c20480_i32_37_r0
  v44_r0
def k0_mult7 : BitVec 32 :=
  let c768_i32_r0 : BitVec 32 := 768#32
  let c20480_i32_46_r0 : BitVec 32 := 20480#32
  let v52_r0 : BitVec 32 := Scalar.minsi c768_i32_r0 c20480_i32_46_r0
  v52_r0
def k0_mult8 : BitVec 32 :=
  let c768_i32_51_r0 : BitVec 32 := 768#32
  let c20480_i32_52_r0 : BitVec 32 := 20480#32
  let v59_r0 : BitVec 32 := Scalar.minsi c768_i32_51_r0 c20480_i32_52_r0
  v59_r0
def k0_mult9 : BitVec 32 :=
  let c0_i32_1972_r0 : BitVec 32 := 0#32
  let c20480_i32_1973_r0 : BitVec 32 := 20480#32
  let v5822_r0 : BitVec 32 := Scalar.minsi c0_i32_1972_r0 c20480_i32_1973_r0
  v5822_r0
def k0_mult10 : BitVec 32 :=
  let c0_i32_1978_r0 : BitVec 32 := 0#32
  let c20480_i32_1979_r0 : BitVec 32 := 20480#32
  let v5829_r0 : BitVec 32 := Scalar.minsi c0_i32_1978_r0 c20480_i32_1979_r0
  v5829_r0
def k0_mult11 : BitVec 32 :=
  let c256_i32_1988_r0 : BitVec 32 := 256#32
  let c20480_i32_1989_r0 : BitVec 32 := 20480#32
  let v5837_r0 : BitVec 32 := Scalar.minsi c256_i32_1988_r0 c20480_i32_1989_r0
  v5837_r0
def k0_mult12 : BitVec 32 :=
  let c256_i32_1994_r0 : BitVec 32 := 256#32
  let c20480_i32_1995_r0 : BitVec 32 := 20480#32
  let v5844_r0 : BitVec 32 := Scalar.minsi c256_i32_1994_r0 c20480_i32_1995_r0
  v5844_r0
def k0_mult13 : BitVec 32 :=
  let c0_i32_2002_r0 : BitVec 32 := 0#32
  let c20480_i32_2003_r0 : BitVec 32 := 20480#32
  let v5851_r0 : BitVec 32 := Scalar.minsi c0_i32_2002_r0 c20480_i32_2003_r0
  v5851_r0
def k0_off7 (c0_i32_2002_r0 : BitVec 32) : Fin 2 → Nat :=
  let c0_2026_r0 : Index := 0#32
  let c20480_i32_2003_r0 : BitVec 32 := 20480#32
  let v5851_r0 : BitVec 32 := Scalar.minsi c0_i32_2002_r0 c20480_i32_2003_r0
  let v5852_r0 : BitVec 32 := v5851_r0
  let c0_i32_2004_r0 : BitVec 32 := 0#32
  let v5854_r0 : BitVec 1 := Scalar.cmpi .sgt v5852_r0 c0_i32_2004_r0
  let v5855_r0 : BitVec 32 := Scalar.extui v5854_r0
  let c0_i32_2005_r0 : BitVec 32 := 0#32
  let v5856_r0 : BitVec 1 := Scalar.cmpi .slt v5852_r0 c0_i32_2005_r0
  let v5857_r0 : BitVec 32 := Scalar.extui v5856_r0
  let v5858_r0 : BitVec 32 := Scalar.subi v5855_r0 v5857_r0
  let c8_i32_r0 : BitVec 32 := 8#32
  let c0_i32_2006_r0 : BitVec 32 := 0#32
  let v5859_r0 : BitVec 1 := Scalar.cmpi .sgt c8_i32_r0 c0_i32_2006_r0
  let v5860_r0 : BitVec 32 := Scalar.extui v5859_r0
  let c0_i32_2007_r0 : BitVec 32 := 0#32
  let v5861_r0 : BitVec 1 := Scalar.cmpi .slt c8_i32_r0 c0_i32_2007_r0
  let v5862_r0 : BitVec 32 := Scalar.extui v5861_r0
  let v5863_r0 : BitVec 32 := Scalar.subi v5860_r0 v5862_r0
  let v5864_r0 : BitVec 1 := Scalar.cmpi .ne v5858_r0 v5863_r0
  let v5865_r0 : BitVec 32 := Scalar.remsi v5852_r0 c8_i32_r0
  let c0_i32_2008_r0 : BitVec 32 := 0#32
  let v5866_r0 : BitVec 1 := Scalar.cmpi .ne v5865_r0 c0_i32_2008_r0
  let v5867_r0 : BitVec 1 := Scalar.andi v5864_r0 v5866_r0
  let v5853_r0 : BitVec 32 := Scalar.divsi v5852_r0 c8_i32_r0
  let c1_i32_2009_r0 : BitVec 32 := 1#32
  let v5868_r0 : BitVec 32 := Scalar.subi v5853_r0 c1_i32_2009_r0
  let v5869_r0 : BitVec 32 := Scalar.select v5867_r0 v5868_r0 v5853_r0
  let c0_i32_2011_r0 : BitVec 32 := 0#32
  let v5871_r0 : BitVec 1 := Scalar.cmpi .sgt v5869_r0 c0_i32_2011_r0
  let v5872_r0 : BitVec 32 := Scalar.extui v5871_r0
  let c0_i32_2012_r0 : BitVec 32 := 0#32
  let v5873_r0 : BitVec 1 := Scalar.cmpi .slt v5869_r0 c0_i32_2012_r0
  let v5874_r0 : BitVec 32 := Scalar.extui v5873_r0
  let v5875_r0 : BitVec 32 := Scalar.subi v5872_r0 v5874_r0
  let c128_i32_2010_r0 : BitVec 32 := 128#32
  let c0_i32_2013_r0 : BitVec 32 := 0#32
  let v5876_r0 : BitVec 1 := Scalar.cmpi .sgt c128_i32_2010_r0 c0_i32_2013_r0
  let v5877_r0 : BitVec 32 := Scalar.extui v5876_r0
  let c0_i32_2014_r0 : BitVec 32 := 0#32
  let v5878_r0 : BitVec 1 := Scalar.cmpi .slt c128_i32_2010_r0 c0_i32_2014_r0
  let v5879_r0 : BitVec 32 := Scalar.extui v5878_r0
  let v5880_r0 : BitVec 32 := Scalar.subi v5877_r0 v5879_r0
  let v5881_r0 : BitVec 1 := Scalar.cmpi .ne v5875_r0 v5880_r0
  let v5882_r0 : BitVec 32 := Scalar.remsi v5869_r0 c128_i32_2010_r0
  let c0_i32_2015_r0 : BitVec 32 := 0#32
  let v5883_r0 : BitVec 1 := Scalar.cmpi .ne v5882_r0 c0_i32_2015_r0
  let v5884_r0 : BitVec 1 := Scalar.andi v5881_r0 v5883_r0
  let v5870_r0 : BitVec 32 := Scalar.divsi v5869_r0 c128_i32_2010_r0
  let c1_i32_2016_r0 : BitVec 32 := 1#32
  let v5885_r0 : BitVec 32 := Scalar.subi v5870_r0 c1_i32_2016_r0
  let v5886_r0 : BitVec 32 := Scalar.select v5884_r0 v5885_r0 v5870_r0
  let c128_i32_2017_r0 : BitVec 32 := 128#32
  let v5887_r0 : BitVec 32 := Scalar.muli v5886_r0 c128_i32_2017_r0
  let c2464_i32_r0 : BitVec 32 := 2464#32
  let v5888_r0 : BitVec 32 := Scalar.minsi v5887_r0 c2464_i32_r0
  let v5919_r0 : Index := Scalar.indexCast v5888_r0
  ![0, v5919_r0.toNat]
def k0_mult14 : BitVec 32 :=
  let c0_i32_2053_r0 : BitVec 32 := 0#32
  let c20480_i32_2054_r0 : BitVec 32 := 20480#32
  let v5975_r0 : BitVec 32 := Scalar.minsi c0_i32_2053_r0 c20480_i32_2054_r0
  v5975_r0
def k0_mult15 : BitVec 32 :=
  let c256_i32_2111_r0 : BitVec 32 := 256#32
  let c20480_i32_2112_r0 : BitVec 32 := 20480#32
  let v6099_r0 : BitVec 32 := Scalar.minsi c256_i32_2111_r0 c20480_i32_2112_r0
  v6099_r0
def k0_mult16 : BitVec 32 :=
  let c256_i32_2169_r0 : BitVec 32 := 256#32
  let c20480_i32_2170_r0 : BitVec 32 := 20480#32
  let v6223_r0 : BitVec 32 := Scalar.minsi c256_i32_2169_r0 c20480_i32_2170_r0
  v6223_r0
@[reducible] def k0_t1_loop : Scf.Loop 32 :=
  let c0_i32_2254_r0 : BitVec 32 := 0#32
  let c20_i32_r0 : BitVec 32 := 20#32
  let v6395_r0 : BitVec 32 := Scalar.addi c0_i32_2254_r0 c20_i32_r0
  let c1_i32_2255_r0 : BitVec 32 := 1#32
  ⟨c0_i32_2254_r0, v6395_r0, c1_i32_2255_r0⟩
def k0_mult17 (k0_t1 : Fin k0_t1_loop.trips) : BitVec 32 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3179_r0 : BitVec 32 := 1#32
  let v7802_r0 : BitVec 32 := Scalar.addi v7801_r0 c1_i32_3179_r0
  let c512_i32_3181_r0 : BitVec 32 := 512#32
  let v7804_r0 : BitVec 32 := Scalar.muli v7802_r0 c512_i32_3181_r0
  let c0_i32_3182_r0 : BitVec 32 := 0#32
  let v7805_r0 : BitVec 32 := Scalar.addi v7804_r0 c0_i32_3182_r0
  let c20480_i32_3183_r0 : BitVec 32 := 20480#32
  let v7806_r0 : BitVec 32 := Scalar.minsi v7805_r0 c20480_i32_3183_r0
  v7806_r0
def k0_off8 (k0_t1 : Fin k0_t1_loop.trips) : Fin 2 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3179_r0 : BitVec 32 := 1#32
  let v7802_r0 : BitVec 32 := Scalar.addi v7801_r0 c1_i32_3179_r0
  let c3_i32_3180_r0 : BitVec 32 := 3#32
  let v7803_r0 : BitVec 32 := Scalar.remsi v7802_r0 c3_i32_3180_r0
  let c0_i32_3184_r0 : BitVec 32 := 0#32
  ![v7803_r0.toNat, 0]
def k0_off9 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3179_r0 : BitVec 32 := 1#32
  let v7802_r0 : BitVec 32 := Scalar.addi v7801_r0 c1_i32_3179_r0
  let c3_i32_3180_r0 : BitVec 32 := 3#32
  let v7803_r0 : BitVec 32 := Scalar.remsi v7802_r0 c3_i32_3180_r0
  let c0_i32_3185_r0 : BitVec 32 := 0#32
  let c0_i32_3186_r0 : BitVec 32 := 0#32
  ![v7803_r0.toNat, 0, 0]
def k0_off10 (k0_t1 : Fin k0_t1_loop.trips) (c0_i32_3182_r0 : BitVec 32) : Fin 2 → Nat :=
  let c0_i32_3187_r0 : BitVec 32 := 0#32
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3179_r0 : BitVec 32 := 1#32
  let v7802_r0 : BitVec 32 := Scalar.addi v7801_r0 c1_i32_3179_r0
  let c512_i32_3181_r0 : BitVec 32 := 512#32
  let v7804_r0 : BitVec 32 := Scalar.muli v7802_r0 c512_i32_3181_r0
  let v7805_r0 : BitVec 32 := Scalar.addi v7804_r0 c0_i32_3182_r0
  let c20480_i32_3183_r0 : BitVec 32 := 20480#32
  let v7806_r0 : BitVec 32 := Scalar.minsi v7805_r0 c20480_i32_3183_r0
  let v7807_r0 : BitVec 32 := v7806_r0
  ![0, v7807_r0.toNat]
def k0_mult18 (k0_t1 : Fin k0_t1_loop.trips) : BitVec 32 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3179_r0 : BitVec 32 := 1#32
  let v7802_r0 : BitVec 32 := Scalar.addi v7801_r0 c1_i32_3179_r0
  let c512_i32_3188_r0 : BitVec 32 := 512#32
  let v7813_r0 : BitVec 32 := Scalar.muli v7802_r0 c512_i32_3188_r0
  let c0_i32_3189_r0 : BitVec 32 := 0#32
  let v7814_r0 : BitVec 32 := Scalar.addi v7813_r0 c0_i32_3189_r0
  let c20480_i32_3190_r0 : BitVec 32 := 20480#32
  let v7815_r0 : BitVec 32 := Scalar.minsi v7814_r0 c20480_i32_3190_r0
  v7815_r0
def k0_off11 (k0_t1 : Fin k0_t1_loop.trips) (c0_i32_3189_r0 : BitVec 32) : Fin 2 → Nat :=
  let c0_i32_3196_r0 : BitVec 32 := 0#32
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3179_r0 : BitVec 32 := 1#32
  let v7802_r0 : BitVec 32 := Scalar.addi v7801_r0 c1_i32_3179_r0
  let c512_i32_3188_r0 : BitVec 32 := 512#32
  let v7813_r0 : BitVec 32 := Scalar.muli v7802_r0 c512_i32_3188_r0
  let v7814_r0 : BitVec 32 := Scalar.addi v7813_r0 c0_i32_3189_r0
  let c20480_i32_3190_r0 : BitVec 32 := 20480#32
  let v7815_r0 : BitVec 32 := Scalar.minsi v7814_r0 c20480_i32_3190_r0
  let v7816_r0 : BitVec 32 := v7815_r0
  ![0, v7816_r0.toNat]
def k0_mult19 (k0_t1 : Fin k0_t1_loop.trips) : BitVec 32 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3179_r0 : BitVec 32 := 1#32
  let v7802_r0 : BitVec 32 := Scalar.addi v7801_r0 c1_i32_3179_r0
  let c512_i32_3198_r0 : BitVec 32 := 512#32
  let v7823_r0 : BitVec 32 := Scalar.muli v7802_r0 c512_i32_3198_r0
  let c256_i32_3199_r0 : BitVec 32 := 256#32
  let v7824_r0 : BitVec 32 := Scalar.addi v7823_r0 c256_i32_3199_r0
  let c20480_i32_3200_r0 : BitVec 32 := 20480#32
  let v7825_r0 : BitVec 32 := Scalar.minsi v7824_r0 c20480_i32_3200_r0
  v7825_r0
def k0_off12 (k0_t1 : Fin k0_t1_loop.trips) : Fin 2 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3179_r0 : BitVec 32 := 1#32
  let v7802_r0 : BitVec 32 := Scalar.addi v7801_r0 c1_i32_3179_r0
  let c3_i32_3197_r0 : BitVec 32 := 3#32
  let v7822_r0 : BitVec 32 := Scalar.remsi v7802_r0 c3_i32_3197_r0
  let c1_i32_3201_r0 : BitVec 32 := 1#32
  ![v7822_r0.toNat, 1]
def k0_off13 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3179_r0 : BitVec 32 := 1#32
  let v7802_r0 : BitVec 32 := Scalar.addi v7801_r0 c1_i32_3179_r0
  let c3_i32_3197_r0 : BitVec 32 := 3#32
  let v7822_r0 : BitVec 32 := Scalar.remsi v7802_r0 c3_i32_3197_r0
  let c0_i32_3202_r0 : BitVec 32 := 0#32
  let c256_i32_3203_r0 : BitVec 32 := 256#32
  ![v7822_r0.toNat, 0, 256]
def k0_mult20 (k0_t1 : Fin k0_t1_loop.trips) : BitVec 32 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3179_r0 : BitVec 32 := 1#32
  let v7802_r0 : BitVec 32 := Scalar.addi v7801_r0 c1_i32_3179_r0
  let c512_i32_3205_r0 : BitVec 32 := 512#32
  let v7832_r0 : BitVec 32 := Scalar.muli v7802_r0 c512_i32_3205_r0
  let c256_i32_3206_r0 : BitVec 32 := 256#32
  let v7833_r0 : BitVec 32 := Scalar.addi v7832_r0 c256_i32_3206_r0
  let c20480_i32_3207_r0 : BitVec 32 := 20480#32
  let v7834_r0 : BitVec 32 := Scalar.minsi v7833_r0 c20480_i32_3207_r0
  v7834_r0
def k0_cond1 (k0_t1 : Fin k0_t1_loop.trips) : BitVec 1 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c2_i32_3214_r0 : BitVec 32 := 2#32
  let v7841_r0 : BitVec 32 := Scalar.addi v7801_r0 c2_i32_3214_r0
  let c40_i32_r0 : BitVec 32 := 40#32
  let v7842_r0 : BitVec 1 := Scalar.cmpi .sle v7841_r0 c40_i32_r0
  let v7843_r0 : BitVec 32 := Scalar.extui v7842_r0
  let c0_i32_3215_r0 : BitVec 32 := 0#32
  let v7844_r0 : BitVec 1 := Scalar.cmpi .ne v7843_r0 c0_i32_3215_r0
  v7844_r0

def k0_mult21 (k0_t1 : Fin k0_t1_loop.trips) : BitVec 32 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c2_i32_7386_r0 : BitVec 32 := 2#32
  let v14568_r0 : BitVec 32 := Scalar.addi v7801_r0 c2_i32_7386_r0
  let c512_i32_7388_r0 : BitVec 32 := 512#32
  let v14570_r0 : BitVec 32 := Scalar.muli v14568_r0 c512_i32_7388_r0
  let c0_i32_7389_r0 : BitVec 32 := 0#32
  let v14571_r0 : BitVec 32 := Scalar.addi v14570_r0 c0_i32_7389_r0
  let c20480_i32_7390_r0 : BitVec 32 := 20480#32
  let v14572_r0 : BitVec 32 := Scalar.minsi v14571_r0 c20480_i32_7390_r0
  v14572_r0
def k0_off14 (k0_t1 : Fin k0_t1_loop.trips) : Fin 2 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c2_i32_7386_r0 : BitVec 32 := 2#32
  let v14568_r0 : BitVec 32 := Scalar.addi v7801_r0 c2_i32_7386_r0
  let c3_i32_7387_r0 : BitVec 32 := 3#32
  let v14569_r0 : BitVec 32 := Scalar.remsi v14568_r0 c3_i32_7387_r0
  let c0_i32_7391_r0 : BitVec 32 := 0#32
  ![v14569_r0.toNat, 0]
def k0_off15 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c2_i32_7386_r0 : BitVec 32 := 2#32
  let v14568_r0 : BitVec 32 := Scalar.addi v7801_r0 c2_i32_7386_r0
  let c3_i32_7387_r0 : BitVec 32 := 3#32
  let v14569_r0 : BitVec 32 := Scalar.remsi v14568_r0 c3_i32_7387_r0
  let c0_i32_7392_r0 : BitVec 32 := 0#32
  let c0_i32_7393_r0 : BitVec 32 := 0#32
  ![v14569_r0.toNat, 0, 0]
def k0_off16 (k0_t1 : Fin k0_t1_loop.trips) (c0_i32_7389_r0 : BitVec 32) : Fin 2 → Nat :=
  let c0_i32_7394_r0 : BitVec 32 := 0#32
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c2_i32_7386_r0 : BitVec 32 := 2#32
  let v14568_r0 : BitVec 32 := Scalar.addi v7801_r0 c2_i32_7386_r0
  let c512_i32_7388_r0 : BitVec 32 := 512#32
  let v14570_r0 : BitVec 32 := Scalar.muli v14568_r0 c512_i32_7388_r0
  let v14571_r0 : BitVec 32 := Scalar.addi v14570_r0 c0_i32_7389_r0
  let c20480_i32_7390_r0 : BitVec 32 := 20480#32
  let v14572_r0 : BitVec 32 := Scalar.minsi v14571_r0 c20480_i32_7390_r0
  let v14573_r0 : BitVec 32 := v14572_r0
  ![0, v14573_r0.toNat]
def k0_mult22 (k0_t1 : Fin k0_t1_loop.trips) : BitVec 32 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c2_i32_7386_r0 : BitVec 32 := 2#32
  let v14568_r0 : BitVec 32 := Scalar.addi v7801_r0 c2_i32_7386_r0
  let c512_i32_7395_r0 : BitVec 32 := 512#32
  let v14579_r0 : BitVec 32 := Scalar.muli v14568_r0 c512_i32_7395_r0
  let c0_i32_7396_r0 : BitVec 32 := 0#32
  let v14580_r0 : BitVec 32 := Scalar.addi v14579_r0 c0_i32_7396_r0
  let c20480_i32_7397_r0 : BitVec 32 := 20480#32
  let v14581_r0 : BitVec 32 := Scalar.minsi v14580_r0 c20480_i32_7397_r0
  v14581_r0
def k0_off17 (k0_t1 : Fin k0_t1_loop.trips) (c0_i32_7396_r0 : BitVec 32) : Fin 2 → Nat :=
  let c0_i32_7403_r0 : BitVec 32 := 0#32
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c2_i32_7386_r0 : BitVec 32 := 2#32
  let v14568_r0 : BitVec 32 := Scalar.addi v7801_r0 c2_i32_7386_r0
  let c512_i32_7395_r0 : BitVec 32 := 512#32
  let v14579_r0 : BitVec 32 := Scalar.muli v14568_r0 c512_i32_7395_r0
  let v14580_r0 : BitVec 32 := Scalar.addi v14579_r0 c0_i32_7396_r0
  let c20480_i32_7397_r0 : BitVec 32 := 20480#32
  let v14581_r0 : BitVec 32 := Scalar.minsi v14580_r0 c20480_i32_7397_r0
  let v14582_r0 : BitVec 32 := v14581_r0
  ![0, v14582_r0.toNat]
def k0_mult23 (k0_t1 : Fin k0_t1_loop.trips) : BitVec 32 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c2_i32_7386_r0 : BitVec 32 := 2#32
  let v14568_r0 : BitVec 32 := Scalar.addi v7801_r0 c2_i32_7386_r0
  let c512_i32_7405_r0 : BitVec 32 := 512#32
  let v14589_r0 : BitVec 32 := Scalar.muli v14568_r0 c512_i32_7405_r0
  let c256_i32_7406_r0 : BitVec 32 := 256#32
  let v14590_r0 : BitVec 32 := Scalar.addi v14589_r0 c256_i32_7406_r0
  let c20480_i32_7407_r0 : BitVec 32 := 20480#32
  let v14591_r0 : BitVec 32 := Scalar.minsi v14590_r0 c20480_i32_7407_r0
  v14591_r0
def k0_off18 (k0_t1 : Fin k0_t1_loop.trips) : Fin 2 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c2_i32_7386_r0 : BitVec 32 := 2#32
  let v14568_r0 : BitVec 32 := Scalar.addi v7801_r0 c2_i32_7386_r0
  let c3_i32_7404_r0 : BitVec 32 := 3#32
  let v14588_r0 : BitVec 32 := Scalar.remsi v14568_r0 c3_i32_7404_r0
  let c1_i32_7408_r0 : BitVec 32 := 1#32
  ![v14588_r0.toNat, 1]
def k0_off19 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c2_i32_7386_r0 : BitVec 32 := 2#32
  let v14568_r0 : BitVec 32 := Scalar.addi v7801_r0 c2_i32_7386_r0
  let c3_i32_7404_r0 : BitVec 32 := 3#32
  let v14588_r0 : BitVec 32 := Scalar.remsi v14568_r0 c3_i32_7404_r0
  let c0_i32_7409_r0 : BitVec 32 := 0#32
  let c256_i32_7410_r0 : BitVec 32 := 256#32
  ![v14588_r0.toNat, 0, 256]
def k0_mult24 (k0_t1 : Fin k0_t1_loop.trips) : BitVec 32 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c2_i32_7386_r0 : BitVec 32 := 2#32
  let v14568_r0 : BitVec 32 := Scalar.addi v7801_r0 c2_i32_7386_r0
  let c512_i32_7412_r0 : BitVec 32 := 512#32
  let v14598_r0 : BitVec 32 := Scalar.muli v14568_r0 c512_i32_7412_r0
  let c256_i32_7413_r0 : BitVec 32 := 256#32
  let v14599_r0 : BitVec 32 := Scalar.addi v14598_r0 c256_i32_7413_r0
  let c20480_i32_7414_r0 : BitVec 32 := 20480#32
  let v14600_r0 : BitVec 32 := Scalar.minsi v14599_r0 c20480_i32_7414_r0
  v14600_r0
def k0_cond2 (k0_t1 : Fin k0_t1_loop.trips) : BitVec 1 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3216_r0 : BitVec 32 := 3#32
  let v7845_r0 : BitVec 1 := Scalar.cmpi .sge v7801_r0 c3_i32_3216_r0
  let v7846_r0 : BitVec 32 := Scalar.extui v7845_r0
  let c0_i32_3217_r0 : BitVec 32 := 0#32
  let v7847_r0 : BitVec 1 := Scalar.cmpi .ne v7846_r0 c0_i32_3217_r0
  v7847_r0

def k0_mult25 (k0_t1 : Fin k0_t1_loop.trips) : BitVec 32 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_7386_r0 : BitVec 32 := 3#32
  let v14568_r0 : BitVec 32 := Scalar.subi v7801_r0 c3_i32_7386_r0
  let c512_i32_7387_r0 : BitVec 32 := 512#32
  let v14569_r0 : BitVec 32 := Scalar.muli v14568_r0 c512_i32_7387_r0
  v14569_r0
def k0_off20 (k0_t1 : Fin k0_t1_loop.trips) : Fin 2 → Nat :=
  let c0_i32_7390_r0 : BitVec 32 := 0#32
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_7386_r0 : BitVec 32 := 3#32
  let v14568_r0 : BitVec 32 := Scalar.subi v7801_r0 c3_i32_7386_r0
  let c512_i32_7387_r0 : BitVec 32 := 512#32
  let v14569_r0 : BitVec 32 := Scalar.muli v14568_r0 c512_i32_7387_r0
  let v14570_r0 : BitVec 32 := v14569_r0
  ![0, v14570_r0.toNat]
def k0_cond3 (k0_t1 : Fin k0_t1_loop.trips) : BitVec 1 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c2_i32_3218_r0 : BitVec 32 := 2#32
  let v7848_r0 : BitVec 1 := Scalar.cmpi .sge v7801_r0 c2_i32_3218_r0
  let v7849_r0 : BitVec 32 := Scalar.extui v7848_r0
  let c0_i32_3219_r0 : BitVec 32 := 0#32
  let v7850_r0 : BitVec 1 := Scalar.cmpi .ne v7849_r0 c0_i32_3219_r0
  v7850_r0

def k0_mult26 (k0_t1 : Fin k0_t1_loop.trips) : BitVec 32 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c2_i32_7386_r0 : BitVec 32 := 2#32
  let v14568_r0 : BitVec 32 := Scalar.subi v7801_r0 c2_i32_7386_r0
  let c512_i32_7387_r0 : BitVec 32 := 512#32
  let v14569_r0 : BitVec 32 := Scalar.muli v14568_r0 c512_i32_7387_r0
  v14569_r0
def k0_off21 (k0_t1 : Fin k0_t1_loop.trips) : Fin 2 → Nat :=
  let c0_i32_7390_r0 : BitVec 32 := 0#32
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c2_i32_7386_r0 : BitVec 32 := 2#32
  let v14568_r0 : BitVec 32 := Scalar.subi v7801_r0 c2_i32_7386_r0
  let c512_i32_7387_r0 : BitVec 32 := 512#32
  let v14569_r0 : BitVec 32 := Scalar.muli v14568_r0 c512_i32_7387_r0
  let v14570_r0 : BitVec 32 := v14569_r0
  ![0, v14570_r0.toNat]
def k0_off22 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v7854_r0 : Index := Scalar.indexCast v7851_r0
  let c128_3223_r0 : Index := 128#32
  let c0_3224_r0 : Index := 0#32
  ![v7854_r0.toNat, 128, 0]
def k0_off23 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v7879_r0 : Index := Scalar.indexCast v7851_r0
  let c128_3236_r0 : Index := 128#32
  let c256_3237_r0 : Index := 256#32
  ![v7879_r0.toNat, 128, 256]
def k0_off24 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v7912_r0 : Index := Scalar.indexCast v7851_r0
  let c256_3261_r0 : Index := 256#32
  let c0_3262_r0 : Index := 0#32
  ![v7912_r0.toNat, 256, 0]
def k0_off25 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v7937_r0 : Index := Scalar.indexCast v7851_r0
  let c256_3274_r0 : Index := 256#32
  let c256_3275_r0 : Index := 256#32
  ![v7937_r0.toNat, 256, 256]
def k0_off26 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v7970_r0 : Index := Scalar.indexCast v7851_r0
  let c384_3299_r0 : Index := 384#32
  let c0_3300_r0 : Index := 0#32
  ![v7970_r0.toNat, 384, 0]
def k0_off27 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v7995_r0 : Index := Scalar.indexCast v7851_r0
  let c384_3312_r0 : Index := 384#32
  let c256_3313_r0 : Index := 256#32
  ![v7995_r0.toNat, 384, 256]
def k0_off28 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8028_r0 : Index := Scalar.indexCast v7851_r0
  let c512_3337_r0 : Index := 512#32
  let c0_3338_r0 : Index := 0#32
  ![v8028_r0.toNat, 512, 0]
def k0_off29 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8053_r0 : Index := Scalar.indexCast v7851_r0
  let c512_3350_r0 : Index := 512#32
  let c256_3351_r0 : Index := 256#32
  ![v8053_r0.toNat, 512, 256]
def k0_off30 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8106_r0 : Index := Scalar.indexCast v7851_r0
  let c640_3387_r0 : Index := 640#32
  let c0_3388_r0 : Index := 0#32
  ![v8106_r0.toNat, 640, 0]
def k0_off31 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8131_r0 : Index := Scalar.indexCast v7851_r0
  let c640_3400_r0 : Index := 640#32
  let c256_3401_r0 : Index := 256#32
  ![v8131_r0.toNat, 640, 256]
def k0_off32 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8164_r0 : Index := Scalar.indexCast v7851_r0
  let c768_3425_r0 : Index := 768#32
  let c0_3426_r0 : Index := 0#32
  ![v8164_r0.toNat, 768, 0]
def k0_off33 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8189_r0 : Index := Scalar.indexCast v7851_r0
  let c768_3438_r0 : Index := 768#32
  let c256_3439_r0 : Index := 256#32
  ![v8189_r0.toNat, 768, 256]
def k0_off34 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8222_r0 : Index := Scalar.indexCast v7851_r0
  let c896_3463_r0 : Index := 896#32
  let c0_3464_r0 : Index := 0#32
  ![v8222_r0.toNat, 896, 0]
def k0_off35 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8247_r0 : Index := Scalar.indexCast v7851_r0
  let c896_3476_r0 : Index := 896#32
  let c256_3477_r0 : Index := 256#32
  ![v8247_r0.toNat, 896, 256]
def k0_off36 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8280_r0 : Index := Scalar.indexCast v7851_r0
  let c1024_3501_r0 : Index := 1024#32
  let c0_3502_r0 : Index := 0#32
  ![v8280_r0.toNat, 1024, 0]
def k0_off37 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8305_r0 : Index := Scalar.indexCast v7851_r0
  let c1024_3514_r0 : Index := 1024#32
  let c256_3515_r0 : Index := 256#32
  ![v8305_r0.toNat, 1024, 256]
def k0_off38 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8338_r0 : Index := Scalar.indexCast v7851_r0
  let c1152_3539_r0 : Index := 1152#32
  let c0_3540_r0 : Index := 0#32
  ![v8338_r0.toNat, 1152, 0]
def k0_off39 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8363_r0 : Index := Scalar.indexCast v7851_r0
  let c1152_3552_r0 : Index := 1152#32
  let c256_3553_r0 : Index := 256#32
  ![v8363_r0.toNat, 1152, 256]
def k0_mult27 (k0_t1 : Fin k0_t1_loop.trips) : BitVec 32 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3577_r0 : BitVec 32 := 1#32
  let v8396_r0 : BitVec 32 := Scalar.addi v7801_r0 c1_i32_3577_r0
  let c512_i32_3578_r0 : BitVec 32 := 512#32
  let v8397_r0 : BitVec 32 := Scalar.muli v8396_r0 c512_i32_3578_r0
  let c0_i32_3579_r0 : BitVec 32 := 0#32
  let v8398_r0 : BitVec 32 := Scalar.addi v8397_r0 c0_i32_3579_r0
  let c20480_i32_3580_r0 : BitVec 32 := 20480#32
  let v8399_r0 : BitVec 32 := Scalar.minsi v8398_r0 c20480_i32_3580_r0
  v8399_r0
def k0_off40 (k0_t1 : Fin k0_t1_loop.trips) (c0_i32_3579_r0 : BitVec 32) : Fin 2 → Nat :=
  let c0_3605_r0 : Index := 0#32
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3577_r0 : BitVec 32 := 1#32
  let v8396_r0 : BitVec 32 := Scalar.addi v7801_r0 c1_i32_3577_r0
  let c512_i32_3578_r0 : BitVec 32 := 512#32
  let v8397_r0 : BitVec 32 := Scalar.muli v8396_r0 c512_i32_3578_r0
  let v8398_r0 : BitVec 32 := Scalar.addi v8397_r0 c0_i32_3579_r0
  let c20480_i32_3580_r0 : BitVec 32 := 20480#32
  let v8399_r0 : BitVec 32 := Scalar.minsi v8398_r0 c20480_i32_3580_r0
  let v8400_r0 : BitVec 32 := v8399_r0
  let c0_i32_3582_r0 : BitVec 32 := 0#32
  let v8402_r0 : BitVec 1 := Scalar.cmpi .sgt v8400_r0 c0_i32_3582_r0
  let v8403_r0 : BitVec 32 := Scalar.extui v8402_r0
  let c0_i32_3583_r0 : BitVec 32 := 0#32
  let v8404_r0 : BitVec 1 := Scalar.cmpi .slt v8400_r0 c0_i32_3583_r0
  let v8405_r0 : BitVec 32 := Scalar.extui v8404_r0
  let v8406_r0 : BitVec 32 := Scalar.subi v8403_r0 v8405_r0
  let c8_i32_3581_r0 : BitVec 32 := 8#32
  let c0_i32_3584_r0 : BitVec 32 := 0#32
  let v8407_r0 : BitVec 1 := Scalar.cmpi .sgt c8_i32_3581_r0 c0_i32_3584_r0
  let v8408_r0 : BitVec 32 := Scalar.extui v8407_r0
  let c0_i32_3585_r0 : BitVec 32 := 0#32
  let v8409_r0 : BitVec 1 := Scalar.cmpi .slt c8_i32_3581_r0 c0_i32_3585_r0
  let v8410_r0 : BitVec 32 := Scalar.extui v8409_r0
  let v8411_r0 : BitVec 32 := Scalar.subi v8408_r0 v8410_r0
  let v8412_r0 : BitVec 1 := Scalar.cmpi .ne v8406_r0 v8411_r0
  let v8413_r0 : BitVec 32 := Scalar.remsi v8400_r0 c8_i32_3581_r0
  let c0_i32_3586_r0 : BitVec 32 := 0#32
  let v8414_r0 : BitVec 1 := Scalar.cmpi .ne v8413_r0 c0_i32_3586_r0
  let v8415_r0 : BitVec 1 := Scalar.andi v8412_r0 v8414_r0
  let v8401_r0 : BitVec 32 := Scalar.divsi v8400_r0 c8_i32_3581_r0
  let c1_i32_3587_r0 : BitVec 32 := 1#32
  let v8416_r0 : BitVec 32 := Scalar.subi v8401_r0 c1_i32_3587_r0
  let v8417_r0 : BitVec 32 := Scalar.select v8415_r0 v8416_r0 v8401_r0
  let c0_i32_3589_r0 : BitVec 32 := 0#32
  let v8419_r0 : BitVec 1 := Scalar.cmpi .sgt v8417_r0 c0_i32_3589_r0
  let v8420_r0 : BitVec 32 := Scalar.extui v8419_r0
  let c0_i32_3590_r0 : BitVec 32 := 0#32
  let v8421_r0 : BitVec 1 := Scalar.cmpi .slt v8417_r0 c0_i32_3590_r0
  let v8422_r0 : BitVec 32 := Scalar.extui v8421_r0
  let v8423_r0 : BitVec 32 := Scalar.subi v8420_r0 v8422_r0
  let c128_i32_3588_r0 : BitVec 32 := 128#32
  let c0_i32_3591_r0 : BitVec 32 := 0#32
  let v8424_r0 : BitVec 1 := Scalar.cmpi .sgt c128_i32_3588_r0 c0_i32_3591_r0
  let v8425_r0 : BitVec 32 := Scalar.extui v8424_r0
  let c0_i32_3592_r0 : BitVec 32 := 0#32
  let v8426_r0 : BitVec 1 := Scalar.cmpi .slt c128_i32_3588_r0 c0_i32_3592_r0
  let v8427_r0 : BitVec 32 := Scalar.extui v8426_r0
  let v8428_r0 : BitVec 32 := Scalar.subi v8425_r0 v8427_r0
  let v8429_r0 : BitVec 1 := Scalar.cmpi .ne v8423_r0 v8428_r0
  let v8430_r0 : BitVec 32 := Scalar.remsi v8417_r0 c128_i32_3588_r0
  let c0_i32_3593_r0 : BitVec 32 := 0#32
  let v8431_r0 : BitVec 1 := Scalar.cmpi .ne v8430_r0 c0_i32_3593_r0
  let v8432_r0 : BitVec 1 := Scalar.andi v8429_r0 v8431_r0
  let v8418_r0 : BitVec 32 := Scalar.divsi v8417_r0 c128_i32_3588_r0
  let c1_i32_3594_r0 : BitVec 32 := 1#32
  let v8433_r0 : BitVec 32 := Scalar.subi v8418_r0 c1_i32_3594_r0
  let v8434_r0 : BitVec 32 := Scalar.select v8432_r0 v8433_r0 v8418_r0
  let c128_i32_3595_r0 : BitVec 32 := 128#32
  let v8435_r0 : BitVec 32 := Scalar.muli v8434_r0 c128_i32_3595_r0
  let c2464_i32_3596_r0 : BitVec 32 := 2464#32
  let v8436_r0 : BitVec 32 := Scalar.minsi v8435_r0 c2464_i32_3596_r0
  let v8467_r0 : Index := Scalar.indexCast v8436_r0
  ![0, v8467_r0.toNat]
def k0_off41 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8523_r0 : Index := Scalar.indexCast v7851_r0
  let c1280_3637_r0 : Index := 1280#32
  let c0_3638_r0 : Index := 0#32
  ![v8523_r0.toNat, 1280, 0]
def k0_off42 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8548_r0 : Index := Scalar.indexCast v7851_r0
  let c1280_3650_r0 : Index := 1280#32
  let c256_3651_r0 : Index := 256#32
  ![v8548_r0.toNat, 1280, 256]
def k0_off43 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8581_r0 : Index := Scalar.indexCast v7851_r0
  let c1408_3675_r0 : Index := 1408#32
  let c0_3676_r0 : Index := 0#32
  ![v8581_r0.toNat, 1408, 0]
def k0_off44 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8588_r0 : Index := Scalar.indexCast v7851_r0
  let c0_3679_r0 : Index := 0#32
  let c0_3680_r0 : Index := 0#32
  ![v8588_r0.toNat, 0, 0]
def k0_off45 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8616_r0 : Index := Scalar.indexCast v7851_r0
  let c1408_3693_r0 : Index := 1408#32
  let c256_3694_r0 : Index := 256#32
  ![v8616_r0.toNat, 1408, 256]
def k0_off46 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8623_r0 : Index := Scalar.indexCast v7851_r0
  let c0_3697_r0 : Index := 0#32
  let c256_3698_r0 : Index := 256#32
  ![v8623_r0.toNat, 0, 256]
def k0_off47 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8659_r0 : Index := Scalar.indexCast v7851_r0
  let c96_3723_r0 : Index := 96#32
  let c0_3724_r0 : Index := 0#32
  ![v8659_r0.toNat, 96, 0]
def k0_off48 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8686_r0 : Index := Scalar.indexCast v7851_r0
  let c96_3737_r0 : Index := 96#32
  let c256_3738_r0 : Index := 256#32
  ![v8686_r0.toNat, 96, 256]
def k0_off49 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8721_r0 : Index := Scalar.indexCast v7851_r0
  let c224_3763_r0 : Index := 224#32
  let c0_3764_r0 : Index := 0#32
  ![v8721_r0.toNat, 224, 0]
def k0_off50 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8748_r0 : Index := Scalar.indexCast v7851_r0
  let c224_3777_r0 : Index := 224#32
  let c256_3778_r0 : Index := 256#32
  ![v8748_r0.toNat, 224, 256]
def k0_mult28 (k0_t1 : Fin k0_t1_loop.trips) : BitVec 32 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3803_r0 : BitVec 32 := 1#32
  let v8783_r0 : BitVec 32 := Scalar.addi v7801_r0 c1_i32_3803_r0
  let c512_i32_3804_r0 : BitVec 32 := 512#32
  let v8784_r0 : BitVec 32 := Scalar.muli v8783_r0 c512_i32_3804_r0
  let c0_i32_3805_r0 : BitVec 32 := 0#32
  let v8785_r0 : BitVec 32 := Scalar.addi v8784_r0 c0_i32_3805_r0
  let c20480_i32_3806_r0 : BitVec 32 := 20480#32
  let v8786_r0 : BitVec 32 := Scalar.minsi v8785_r0 c20480_i32_3806_r0
  v8786_r0
def k0_off51 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8910_r0 : Index := Scalar.indexCast v7851_r0
  let c352_3863_r0 : Index := 352#32
  let c0_3864_r0 : Index := 0#32
  ![v8910_r0.toNat, 352, 0]
def k0_off52 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8937_r0 : Index := Scalar.indexCast v7851_r0
  let c352_3877_r0 : Index := 352#32
  let c256_3878_r0 : Index := 256#32
  ![v8937_r0.toNat, 352, 256]
def k0_off53 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8972_r0 : Index := Scalar.indexCast v7851_r0
  let c480_3903_r0 : Index := 480#32
  let c0_3904_r0 : Index := 0#32
  ![v8972_r0.toNat, 480, 0]
def k0_off54 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v8999_r0 : Index := Scalar.indexCast v7851_r0
  let c480_3917_r0 : Index := 480#32
  let c256_3918_r0 : Index := 256#32
  ![v8999_r0.toNat, 480, 256]
def k0_off55 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9034_r0 : Index := Scalar.indexCast v7851_r0
  let c608_3943_r0 : Index := 608#32
  let c0_3944_r0 : Index := 0#32
  ![v9034_r0.toNat, 608, 0]
def k0_off56 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9061_r0 : Index := Scalar.indexCast v7851_r0
  let c608_3957_r0 : Index := 608#32
  let c256_3958_r0 : Index := 256#32
  ![v9061_r0.toNat, 608, 256]
def k0_off57 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9096_r0 : Index := Scalar.indexCast v7851_r0
  let c736_3983_r0 : Index := 736#32
  let c0_3984_r0 : Index := 0#32
  ![v9096_r0.toNat, 736, 0]
def k0_off58 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9123_r0 : Index := Scalar.indexCast v7851_r0
  let c736_3997_r0 : Index := 736#32
  let c256_3998_r0 : Index := 256#32
  ![v9123_r0.toNat, 736, 256]
def k0_mult29 (k0_t1 : Fin k0_t1_loop.trips) : BitVec 32 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_4023_r0 : BitVec 32 := 1#32
  let v9158_r0 : BitVec 32 := Scalar.addi v7801_r0 c1_i32_4023_r0
  let c512_i32_4024_r0 : BitVec 32 := 512#32
  let v9159_r0 : BitVec 32 := Scalar.muli v9158_r0 c512_i32_4024_r0
  let c256_i32_4025_r0 : BitVec 32 := 256#32
  let v9160_r0 : BitVec 32 := Scalar.addi v9159_r0 c256_i32_4025_r0
  let c20480_i32_4026_r0 : BitVec 32 := 20480#32
  let v9161_r0 : BitVec 32 := Scalar.minsi v9160_r0 c20480_i32_4026_r0
  v9161_r0
def k0_off59 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9285_r0 : Index := Scalar.indexCast v7851_r0
  let c864_4083_r0 : Index := 864#32
  let c0_4084_r0 : Index := 0#32
  ![v9285_r0.toNat, 864, 0]
def k0_off60 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9312_r0 : Index := Scalar.indexCast v7851_r0
  let c864_4097_r0 : Index := 864#32
  let c256_4098_r0 : Index := 256#32
  ![v9312_r0.toNat, 864, 256]
def k0_off61 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9347_r0 : Index := Scalar.indexCast v7851_r0
  let c992_4123_r0 : Index := 992#32
  let c0_4124_r0 : Index := 0#32
  ![v9347_r0.toNat, 992, 0]
def k0_off62 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9374_r0 : Index := Scalar.indexCast v7851_r0
  let c992_4137_r0 : Index := 992#32
  let c256_4138_r0 : Index := 256#32
  ![v9374_r0.toNat, 992, 256]
def k0_off63 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9409_r0 : Index := Scalar.indexCast v7851_r0
  let c1120_4163_r0 : Index := 1120#32
  let c0_4164_r0 : Index := 0#32
  ![v9409_r0.toNat, 1120, 0]
def k0_off64 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9436_r0 : Index := Scalar.indexCast v7851_r0
  let c1120_4177_r0 : Index := 1120#32
  let c256_4178_r0 : Index := 256#32
  ![v9436_r0.toNat, 1120, 256]
def k0_off65 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9471_r0 : Index := Scalar.indexCast v7851_r0
  let c1248_4203_r0 : Index := 1248#32
  let c0_4204_r0 : Index := 0#32
  ![v9471_r0.toNat, 1248, 0]
def k0_off66 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9498_r0 : Index := Scalar.indexCast v7851_r0
  let c1248_4217_r0 : Index := 1248#32
  let c256_4218_r0 : Index := 256#32
  ![v9498_r0.toNat, 1248, 256]
def k0_mult30 (k0_t1 : Fin k0_t1_loop.trips) : BitVec 32 :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_4243_r0 : BitVec 32 := 1#32
  let v9533_r0 : BitVec 32 := Scalar.addi v7801_r0 c1_i32_4243_r0
  let c512_i32_4244_r0 : BitVec 32 := 512#32
  let v9534_r0 : BitVec 32 := Scalar.muli v9533_r0 c512_i32_4244_r0
  let c256_i32_4245_r0 : BitVec 32 := 256#32
  let v9535_r0 : BitVec 32 := Scalar.addi v9534_r0 c256_i32_4245_r0
  let c20480_i32_4246_r0 : BitVec 32 := 20480#32
  let v9536_r0 : BitVec 32 := Scalar.minsi v9535_r0 c20480_i32_4246_r0
  v9536_r0
def k0_off67 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9660_r0 : Index := Scalar.indexCast v7851_r0
  let c1376_4303_r0 : Index := 1376#32
  let c0_4304_r0 : Index := 0#32
  ![v9660_r0.toNat, 1376, 0]
def k0_off68 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9669_r0 : Index := Scalar.indexCast v7851_r0
  let c0_4308_r0 : Index := 0#32
  let c0_4309_r0 : Index := 0#32
  ![v9669_r0.toNat, 0, 0]
def k0_off69 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9697_r0 : Index := Scalar.indexCast v7851_r0
  let c1376_4322_r0 : Index := 1376#32
  let c256_4323_r0 : Index := 256#32
  ![v9697_r0.toNat, 1376, 256]
def k0_off70 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9706_r0 : Index := Scalar.indexCast v7851_r0
  let c0_4327_r0 : Index := 0#32
  let c256_4328_r0 : Index := 256#32
  ![v9706_r0.toNat, 0, 256]
def k0_off71 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9742_r0 : Index := Scalar.indexCast v7851_r0
  let c64_4353_r0 : Index := 64#32
  let c0_4354_r0 : Index := 0#32
  ![v9742_r0.toNat, 64, 0]
def k0_off72 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9769_r0 : Index := Scalar.indexCast v7851_r0
  let c64_4367_r0 : Index := 64#32
  let c256_4368_r0 : Index := 256#32
  ![v9769_r0.toNat, 64, 256]
def k0_off73 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9804_r0 : Index := Scalar.indexCast v7851_r0
  let c192_4393_r0 : Index := 192#32
  let c0_4394_r0 : Index := 0#32
  ![v9804_r0.toNat, 192, 0]
def k0_off74 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9831_r0 : Index := Scalar.indexCast v7851_r0
  let c192_4407_r0 : Index := 192#32
  let c256_4408_r0 : Index := 256#32
  ![v9831_r0.toNat, 192, 256]
def k0_off75 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9866_r0 : Index := Scalar.indexCast v7851_r0
  let c320_4433_r0 : Index := 320#32
  let c0_4434_r0 : Index := 0#32
  ![v9866_r0.toNat, 320, 0]
def k0_off76 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9893_r0 : Index := Scalar.indexCast v7851_r0
  let c320_4447_r0 : Index := 320#32
  let c256_4448_r0 : Index := 256#32
  ![v9893_r0.toNat, 320, 256]
def k0_off77 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9928_r0 : Index := Scalar.indexCast v7851_r0
  let c448_4473_r0 : Index := 448#32
  let c0_4474_r0 : Index := 0#32
  ![v9928_r0.toNat, 448, 0]
def k0_off78 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9955_r0 : Index := Scalar.indexCast v7851_r0
  let c448_4487_r0 : Index := 448#32
  let c256_4488_r0 : Index := 256#32
  ![v9955_r0.toNat, 448, 256]
def k0_off79 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v9990_r0 : Index := Scalar.indexCast v7851_r0
  let c576_4513_r0 : Index := 576#32
  let c0_4514_r0 : Index := 0#32
  ![v9990_r0.toNat, 576, 0]
def k0_off80 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10017_r0 : Index := Scalar.indexCast v7851_r0
  let c576_4527_r0 : Index := 576#32
  let c256_4528_r0 : Index := 256#32
  ![v10017_r0.toNat, 576, 256]
def k0_off81 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10052_r0 : Index := Scalar.indexCast v7851_r0
  let c704_4553_r0 : Index := 704#32
  let c0_4554_r0 : Index := 0#32
  ![v10052_r0.toNat, 704, 0]
def k0_off82 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10079_r0 : Index := Scalar.indexCast v7851_r0
  let c704_4567_r0 : Index := 704#32
  let c256_4568_r0 : Index := 256#32
  ![v10079_r0.toNat, 704, 256]
def k0_off83 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10114_r0 : Index := Scalar.indexCast v7851_r0
  let c832_4593_r0 : Index := 832#32
  let c0_4594_r0 : Index := 0#32
  ![v10114_r0.toNat, 832, 0]
def k0_off84 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10141_r0 : Index := Scalar.indexCast v7851_r0
  let c832_4607_r0 : Index := 832#32
  let c256_4608_r0 : Index := 256#32
  ![v10141_r0.toNat, 832, 256]
def k0_off85 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10176_r0 : Index := Scalar.indexCast v7851_r0
  let c960_4633_r0 : Index := 960#32
  let c0_4634_r0 : Index := 0#32
  ![v10176_r0.toNat, 960, 0]
def k0_off86 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10203_r0 : Index := Scalar.indexCast v7851_r0
  let c960_4647_r0 : Index := 960#32
  let c256_4648_r0 : Index := 256#32
  ![v10203_r0.toNat, 960, 256]
def k0_off87 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10238_r0 : Index := Scalar.indexCast v7851_r0
  let c1088_4673_r0 : Index := 1088#32
  let c0_4674_r0 : Index := 0#32
  ![v10238_r0.toNat, 1088, 0]
def k0_off88 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10265_r0 : Index := Scalar.indexCast v7851_r0
  let c1088_4687_r0 : Index := 1088#32
  let c256_4688_r0 : Index := 256#32
  ![v10265_r0.toNat, 1088, 256]
def k0_off89 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10300_r0 : Index := Scalar.indexCast v7851_r0
  let c1216_4713_r0 : Index := 1216#32
  let c0_4714_r0 : Index := 0#32
  ![v10300_r0.toNat, 1216, 0]
def k0_off90 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10327_r0 : Index := Scalar.indexCast v7851_r0
  let c1216_4727_r0 : Index := 1216#32
  let c256_4728_r0 : Index := 256#32
  ![v10327_r0.toNat, 1216, 256]
def k0_off91 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10362_r0 : Index := Scalar.indexCast v7851_r0
  let c1344_4753_r0 : Index := 1344#32
  let c0_4754_r0 : Index := 0#32
  ![v10362_r0.toNat, 1344, 0]
def k0_off92 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10371_r0 : Index := Scalar.indexCast v7851_r0
  let c0_4758_r0 : Index := 0#32
  let c0_4759_r0 : Index := 0#32
  ![v10371_r0.toNat, 0, 0]
def k0_off93 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10399_r0 : Index := Scalar.indexCast v7851_r0
  let c1344_4772_r0 : Index := 1344#32
  let c256_4773_r0 : Index := 256#32
  ![v10399_r0.toNat, 1344, 256]
def k0_off94 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10408_r0 : Index := Scalar.indexCast v7851_r0
  let c0_4777_r0 : Index := 0#32
  let c256_4778_r0 : Index := 256#32
  ![v10408_r0.toNat, 0, 256]
def k0_off95 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10444_r0 : Index := Scalar.indexCast v7851_r0
  let c32_4803_r0 : Index := 32#32
  let c0_4804_r0 : Index := 0#32
  ![v10444_r0.toNat, 32, 0]
def k0_off96 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10471_r0 : Index := Scalar.indexCast v7851_r0
  let c32_4817_r0 : Index := 32#32
  let c256_4818_r0 : Index := 256#32
  ![v10471_r0.toNat, 32, 256]
def k0_off97 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10506_r0 : Index := Scalar.indexCast v7851_r0
  let c160_4843_r0 : Index := 160#32
  let c0_4844_r0 : Index := 0#32
  ![v10506_r0.toNat, 160, 0]
def k0_off98 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10533_r0 : Index := Scalar.indexCast v7851_r0
  let c160_4857_r0 : Index := 160#32
  let c256_4858_r0 : Index := 256#32
  ![v10533_r0.toNat, 160, 256]
def k0_off99 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10568_r0 : Index := Scalar.indexCast v7851_r0
  let c288_4883_r0 : Index := 288#32
  let c0_4884_r0 : Index := 0#32
  ![v10568_r0.toNat, 288, 0]
def k0_off100 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10595_r0 : Index := Scalar.indexCast v7851_r0
  let c288_4897_r0 : Index := 288#32
  let c256_4898_r0 : Index := 256#32
  ![v10595_r0.toNat, 288, 256]
def k0_off101 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10630_r0 : Index := Scalar.indexCast v7851_r0
  let c416_4923_r0 : Index := 416#32
  let c0_4924_r0 : Index := 0#32
  ![v10630_r0.toNat, 416, 0]
def k0_off102 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10657_r0 : Index := Scalar.indexCast v7851_r0
  let c416_4937_r0 : Index := 416#32
  let c256_4938_r0 : Index := 256#32
  ![v10657_r0.toNat, 416, 256]
def k0_off103 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10692_r0 : Index := Scalar.indexCast v7851_r0
  let c544_4963_r0 : Index := 544#32
  let c0_4964_r0 : Index := 0#32
  ![v10692_r0.toNat, 544, 0]
def k0_off104 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10719_r0 : Index := Scalar.indexCast v7851_r0
  let c544_4977_r0 : Index := 544#32
  let c256_4978_r0 : Index := 256#32
  ![v10719_r0.toNat, 544, 256]
def k0_off105 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10754_r0 : Index := Scalar.indexCast v7851_r0
  let c672_5003_r0 : Index := 672#32
  let c0_5004_r0 : Index := 0#32
  ![v10754_r0.toNat, 672, 0]
def k0_off106 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10781_r0 : Index := Scalar.indexCast v7851_r0
  let c672_5017_r0 : Index := 672#32
  let c256_5018_r0 : Index := 256#32
  ![v10781_r0.toNat, 672, 256]
def k0_off107 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10816_r0 : Index := Scalar.indexCast v7851_r0
  let c800_5043_r0 : Index := 800#32
  let c0_5044_r0 : Index := 0#32
  ![v10816_r0.toNat, 800, 0]
def k0_off108 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10843_r0 : Index := Scalar.indexCast v7851_r0
  let c800_5057_r0 : Index := 800#32
  let c256_5058_r0 : Index := 256#32
  ![v10843_r0.toNat, 800, 256]
def k0_off109 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10878_r0 : Index := Scalar.indexCast v7851_r0
  let c928_5083_r0 : Index := 928#32
  let c0_5084_r0 : Index := 0#32
  ![v10878_r0.toNat, 928, 0]
def k0_off110 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10905_r0 : Index := Scalar.indexCast v7851_r0
  let c928_5097_r0 : Index := 928#32
  let c256_5098_r0 : Index := 256#32
  ![v10905_r0.toNat, 928, 256]
def k0_off111 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10940_r0 : Index := Scalar.indexCast v7851_r0
  let c1056_5123_r0 : Index := 1056#32
  let c0_5124_r0 : Index := 0#32
  ![v10940_r0.toNat, 1056, 0]
def k0_off112 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v10967_r0 : Index := Scalar.indexCast v7851_r0
  let c1056_5137_r0 : Index := 1056#32
  let c256_5138_r0 : Index := 256#32
  ![v10967_r0.toNat, 1056, 256]
def k0_off113 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v11002_r0 : Index := Scalar.indexCast v7851_r0
  let c1184_5163_r0 : Index := 1184#32
  let c0_5164_r0 : Index := 0#32
  ![v11002_r0.toNat, 1184, 0]
def k0_off114 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v11029_r0 : Index := Scalar.indexCast v7851_r0
  let c1184_5177_r0 : Index := 1184#32
  let c256_5178_r0 : Index := 256#32
  ![v11029_r0.toNat, 1184, 256]
def k0_off115 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v11064_r0 : Index := Scalar.indexCast v7851_r0
  let c1312_5203_r0 : Index := 1312#32
  let c0_5204_r0 : Index := 0#32
  ![v11064_r0.toNat, 1312, 0]
def k0_off116 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c3_i32_3220_r0 : BitVec 32 := 3#32
  let v7851_r0 : BitVec 32 := Scalar.remsi v7801_r0 c3_i32_3220_r0
  let v11091_r0 : Index := Scalar.indexCast v7851_r0
  let c1312_5217_r0 : Index := 1312#32
  let c256_5218_r0 : Index := 256#32
  ![v11091_r0.toNat, 1312, 256]
def k0_off117 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3221_r0 : BitVec 32 := 1#32
  let v7852_r0 : BitVec 32 := Scalar.addi v7801_r0 c1_i32_3221_r0
  let c3_i32_3222_r0 : BitVec 32 := 3#32
  let v7853_r0 : BitVec 32 := Scalar.remsi v7852_r0 c3_i32_3222_r0
  let v11126_r0 : Index := Scalar.indexCast v7853_r0
  let c0_5243_r0 : Index := 0#32
  let c0_5244_r0 : Index := 0#32
  ![v11126_r0.toNat, 0, 0]
def k0_off118 (k0_t1 : Fin k0_t1_loop.trips) : Fin 3 → Nat :=
  let c2_i32_3178_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v7801_r0 : BitVec 32 := Scalar.muli c2_i32_3178_r0 v7800_r0
  let c1_i32_3221_r0 : BitVec 32 := 1#32
  let v7852_r0 : BitVec 32 := Scalar.addi v7801_r0 c1_i32_3221_r0
  let c3_i32_3222_r0 : BitVec 32 := 3#32
  let v7853_r0 : BitVec 32 := Scalar.remsi v7852_r0 c3_i32_3222_r0
  let v11151_r0 : Index := Scalar.indexCast v7853_r0
  let c0_5256_r0 : Index := 0#32
  let c256_5257_r0 : Index := 256#32
  ![v11151_r0.toNat, 0, 256]
def k0_mult31 (k0_t1 : Fin k0_t1_loop.trips) : BitVec 32 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5283_r0 : BitVec 32 := 1#32
  let v11186_r0 : BitVec 32 := Scalar.addi v11185_r0 c1_i32_5283_r0
  let c512_i32_5285_r0 : BitVec 32 := 512#32
  let v11188_r0 : BitVec 32 := Scalar.muli v11186_r0 c512_i32_5285_r0
  let c0_i32_5286_r0 : BitVec 32 := 0#32
  let v11189_r0 : BitVec 32 := Scalar.addi v11188_r0 c0_i32_5286_r0
  let c20480_i32_5287_r0 : BitVec 32 := 20480#32
  let v11190_r0 : BitVec 32 := Scalar.minsi v11189_r0 c20480_i32_5287_r0
  v11190_r0
def k0_off119 (k0_t1 : Fin k0_t1_loop.trips) : Fin 2 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5283_r0 : BitVec 32 := 1#32
  let v11186_r0 : BitVec 32 := Scalar.addi v11185_r0 c1_i32_5283_r0
  let c3_i32_5284_r0 : BitVec 32 := 3#32
  let v11187_r0 : BitVec 32 := Scalar.remsi v11186_r0 c3_i32_5284_r0
  let c0_i32_5288_r0 : BitVec 32 := 0#32
  ![v11187_r0.toNat, 0]
def k0_off120 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5283_r0 : BitVec 32 := 1#32
  let v11186_r0 : BitVec 32 := Scalar.addi v11185_r0 c1_i32_5283_r0
  let c3_i32_5284_r0 : BitVec 32 := 3#32
  let v11187_r0 : BitVec 32 := Scalar.remsi v11186_r0 c3_i32_5284_r0
  let c0_i32_5289_r0 : BitVec 32 := 0#32
  let c0_i32_5290_r0 : BitVec 32 := 0#32
  ![v11187_r0.toNat, 0, 0]
def k0_off121 (k0_t1 : Fin k0_t1_loop.trips) (c0_i32_5286_r0 : BitVec 32) : Fin 2 → Nat :=
  let c0_i32_5291_r0 : BitVec 32 := 0#32
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5283_r0 : BitVec 32 := 1#32
  let v11186_r0 : BitVec 32 := Scalar.addi v11185_r0 c1_i32_5283_r0
  let c512_i32_5285_r0 : BitVec 32 := 512#32
  let v11188_r0 : BitVec 32 := Scalar.muli v11186_r0 c512_i32_5285_r0
  let v11189_r0 : BitVec 32 := Scalar.addi v11188_r0 c0_i32_5286_r0
  let c20480_i32_5287_r0 : BitVec 32 := 20480#32
  let v11190_r0 : BitVec 32 := Scalar.minsi v11189_r0 c20480_i32_5287_r0
  let v11191_r0 : BitVec 32 := v11190_r0
  ![0, v11191_r0.toNat]
def k0_mult32 (k0_t1 : Fin k0_t1_loop.trips) : BitVec 32 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5283_r0 : BitVec 32 := 1#32
  let v11186_r0 : BitVec 32 := Scalar.addi v11185_r0 c1_i32_5283_r0
  let c512_i32_5292_r0 : BitVec 32 := 512#32
  let v11197_r0 : BitVec 32 := Scalar.muli v11186_r0 c512_i32_5292_r0
  let c0_i32_5293_r0 : BitVec 32 := 0#32
  let v11198_r0 : BitVec 32 := Scalar.addi v11197_r0 c0_i32_5293_r0
  let c20480_i32_5294_r0 : BitVec 32 := 20480#32
  let v11199_r0 : BitVec 32 := Scalar.minsi v11198_r0 c20480_i32_5294_r0
  v11199_r0
def k0_off122 (k0_t1 : Fin k0_t1_loop.trips) (c0_i32_5293_r0 : BitVec 32) : Fin 2 → Nat :=
  let c0_i32_5300_r0 : BitVec 32 := 0#32
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5283_r0 : BitVec 32 := 1#32
  let v11186_r0 : BitVec 32 := Scalar.addi v11185_r0 c1_i32_5283_r0
  let c512_i32_5292_r0 : BitVec 32 := 512#32
  let v11197_r0 : BitVec 32 := Scalar.muli v11186_r0 c512_i32_5292_r0
  let v11198_r0 : BitVec 32 := Scalar.addi v11197_r0 c0_i32_5293_r0
  let c20480_i32_5294_r0 : BitVec 32 := 20480#32
  let v11199_r0 : BitVec 32 := Scalar.minsi v11198_r0 c20480_i32_5294_r0
  let v11200_r0 : BitVec 32 := v11199_r0
  ![0, v11200_r0.toNat]
def k0_mult33 (k0_t1 : Fin k0_t1_loop.trips) : BitVec 32 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5283_r0 : BitVec 32 := 1#32
  let v11186_r0 : BitVec 32 := Scalar.addi v11185_r0 c1_i32_5283_r0
  let c512_i32_5302_r0 : BitVec 32 := 512#32
  let v11207_r0 : BitVec 32 := Scalar.muli v11186_r0 c512_i32_5302_r0
  let c256_i32_5303_r0 : BitVec 32 := 256#32
  let v11208_r0 : BitVec 32 := Scalar.addi v11207_r0 c256_i32_5303_r0
  let c20480_i32_5304_r0 : BitVec 32 := 20480#32
  let v11209_r0 : BitVec 32 := Scalar.minsi v11208_r0 c20480_i32_5304_r0
  v11209_r0
def k0_off123 (k0_t1 : Fin k0_t1_loop.trips) : Fin 2 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5283_r0 : BitVec 32 := 1#32
  let v11186_r0 : BitVec 32 := Scalar.addi v11185_r0 c1_i32_5283_r0
  let c3_i32_5301_r0 : BitVec 32 := 3#32
  let v11206_r0 : BitVec 32 := Scalar.remsi v11186_r0 c3_i32_5301_r0
  let c1_i32_5305_r0 : BitVec 32 := 1#32
  ![v11206_r0.toNat, 1]
def k0_off124 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5283_r0 : BitVec 32 := 1#32
  let v11186_r0 : BitVec 32 := Scalar.addi v11185_r0 c1_i32_5283_r0
  let c3_i32_5301_r0 : BitVec 32 := 3#32
  let v11206_r0 : BitVec 32 := Scalar.remsi v11186_r0 c3_i32_5301_r0
  let c0_i32_5306_r0 : BitVec 32 := 0#32
  let c256_i32_5307_r0 : BitVec 32 := 256#32
  ![v11206_r0.toNat, 0, 256]
def k0_mult34 (k0_t1 : Fin k0_t1_loop.trips) : BitVec 32 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5283_r0 : BitVec 32 := 1#32
  let v11186_r0 : BitVec 32 := Scalar.addi v11185_r0 c1_i32_5283_r0
  let c512_i32_5309_r0 : BitVec 32 := 512#32
  let v11216_r0 : BitVec 32 := Scalar.muli v11186_r0 c512_i32_5309_r0
  let c256_i32_5310_r0 : BitVec 32 := 256#32
  let v11217_r0 : BitVec 32 := Scalar.addi v11216_r0 c256_i32_5310_r0
  let c20480_i32_5311_r0 : BitVec 32 := 20480#32
  let v11218_r0 : BitVec 32 := Scalar.minsi v11217_r0 c20480_i32_5311_r0
  v11218_r0
def k0_cond4 (k0_t1 : Fin k0_t1_loop.trips) : BitVec 1 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c2_i32_5318_r0 : BitVec 32 := 2#32
  let v11225_r0 : BitVec 32 := Scalar.addi v11185_r0 c2_i32_5318_r0
  let c40_i32_5319_r0 : BitVec 32 := 40#32
  let v11226_r0 : BitVec 1 := Scalar.cmpi .sle v11225_r0 c40_i32_5319_r0
  let v11227_r0 : BitVec 32 := Scalar.extui v11226_r0
  let c0_i32_5320_r0 : BitVec 32 := 0#32
  let v11228_r0 : BitVec 1 := Scalar.cmpi .ne v11227_r0 c0_i32_5320_r0
  v11228_r0

def k0_mult35 (k0_t1 : Fin k0_t1_loop.trips) : BitVec 32 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c2_i32_7386_r0 : BitVec 32 := 2#32
  let v14568_r0 : BitVec 32 := Scalar.addi v11185_r0 c2_i32_7386_r0
  let c512_i32_7388_r0 : BitVec 32 := 512#32
  let v14570_r0 : BitVec 32 := Scalar.muli v14568_r0 c512_i32_7388_r0
  let c0_i32_7389_r0 : BitVec 32 := 0#32
  let v14571_r0 : BitVec 32 := Scalar.addi v14570_r0 c0_i32_7389_r0
  let c20480_i32_7390_r0 : BitVec 32 := 20480#32
  let v14572_r0 : BitVec 32 := Scalar.minsi v14571_r0 c20480_i32_7390_r0
  v14572_r0
def k0_off125 (k0_t1 : Fin k0_t1_loop.trips) : Fin 2 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c2_i32_7386_r0 : BitVec 32 := 2#32
  let v14568_r0 : BitVec 32 := Scalar.addi v11185_r0 c2_i32_7386_r0
  let c3_i32_7387_r0 : BitVec 32 := 3#32
  let v14569_r0 : BitVec 32 := Scalar.remsi v14568_r0 c3_i32_7387_r0
  let c0_i32_7391_r0 : BitVec 32 := 0#32
  ![v14569_r0.toNat, 0]
def k0_off126 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c2_i32_7386_r0 : BitVec 32 := 2#32
  let v14568_r0 : BitVec 32 := Scalar.addi v11185_r0 c2_i32_7386_r0
  let c3_i32_7387_r0 : BitVec 32 := 3#32
  let v14569_r0 : BitVec 32 := Scalar.remsi v14568_r0 c3_i32_7387_r0
  let c0_i32_7392_r0 : BitVec 32 := 0#32
  let c0_i32_7393_r0 : BitVec 32 := 0#32
  ![v14569_r0.toNat, 0, 0]
def k0_off127 (k0_t1 : Fin k0_t1_loop.trips) (c0_i32_7389_r0 : BitVec 32) : Fin 2 → Nat :=
  let c0_i32_7394_r0 : BitVec 32 := 0#32
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c2_i32_7386_r0 : BitVec 32 := 2#32
  let v14568_r0 : BitVec 32 := Scalar.addi v11185_r0 c2_i32_7386_r0
  let c512_i32_7388_r0 : BitVec 32 := 512#32
  let v14570_r0 : BitVec 32 := Scalar.muli v14568_r0 c512_i32_7388_r0
  let v14571_r0 : BitVec 32 := Scalar.addi v14570_r0 c0_i32_7389_r0
  let c20480_i32_7390_r0 : BitVec 32 := 20480#32
  let v14572_r0 : BitVec 32 := Scalar.minsi v14571_r0 c20480_i32_7390_r0
  let v14573_r0 : BitVec 32 := v14572_r0
  ![0, v14573_r0.toNat]
def k0_mult36 (k0_t1 : Fin k0_t1_loop.trips) : BitVec 32 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c2_i32_7386_r0 : BitVec 32 := 2#32
  let v14568_r0 : BitVec 32 := Scalar.addi v11185_r0 c2_i32_7386_r0
  let c512_i32_7395_r0 : BitVec 32 := 512#32
  let v14579_r0 : BitVec 32 := Scalar.muli v14568_r0 c512_i32_7395_r0
  let c0_i32_7396_r0 : BitVec 32 := 0#32
  let v14580_r0 : BitVec 32 := Scalar.addi v14579_r0 c0_i32_7396_r0
  let c20480_i32_7397_r0 : BitVec 32 := 20480#32
  let v14581_r0 : BitVec 32 := Scalar.minsi v14580_r0 c20480_i32_7397_r0
  v14581_r0
def k0_off128 (k0_t1 : Fin k0_t1_loop.trips) (c0_i32_7396_r0 : BitVec 32) : Fin 2 → Nat :=
  let c0_i32_7403_r0 : BitVec 32 := 0#32
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c2_i32_7386_r0 : BitVec 32 := 2#32
  let v14568_r0 : BitVec 32 := Scalar.addi v11185_r0 c2_i32_7386_r0
  let c512_i32_7395_r0 : BitVec 32 := 512#32
  let v14579_r0 : BitVec 32 := Scalar.muli v14568_r0 c512_i32_7395_r0
  let v14580_r0 : BitVec 32 := Scalar.addi v14579_r0 c0_i32_7396_r0
  let c20480_i32_7397_r0 : BitVec 32 := 20480#32
  let v14581_r0 : BitVec 32 := Scalar.minsi v14580_r0 c20480_i32_7397_r0
  let v14582_r0 : BitVec 32 := v14581_r0
  ![0, v14582_r0.toNat]
def k0_mult37 (k0_t1 : Fin k0_t1_loop.trips) : BitVec 32 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c2_i32_7386_r0 : BitVec 32 := 2#32
  let v14568_r0 : BitVec 32 := Scalar.addi v11185_r0 c2_i32_7386_r0
  let c512_i32_7405_r0 : BitVec 32 := 512#32
  let v14589_r0 : BitVec 32 := Scalar.muli v14568_r0 c512_i32_7405_r0
  let c256_i32_7406_r0 : BitVec 32 := 256#32
  let v14590_r0 : BitVec 32 := Scalar.addi v14589_r0 c256_i32_7406_r0
  let c20480_i32_7407_r0 : BitVec 32 := 20480#32
  let v14591_r0 : BitVec 32 := Scalar.minsi v14590_r0 c20480_i32_7407_r0
  v14591_r0
def k0_off129 (k0_t1 : Fin k0_t1_loop.trips) : Fin 2 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c2_i32_7386_r0 : BitVec 32 := 2#32
  let v14568_r0 : BitVec 32 := Scalar.addi v11185_r0 c2_i32_7386_r0
  let c3_i32_7404_r0 : BitVec 32 := 3#32
  let v14588_r0 : BitVec 32 := Scalar.remsi v14568_r0 c3_i32_7404_r0
  let c1_i32_7408_r0 : BitVec 32 := 1#32
  ![v14588_r0.toNat, 1]
def k0_off130 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c2_i32_7386_r0 : BitVec 32 := 2#32
  let v14568_r0 : BitVec 32 := Scalar.addi v11185_r0 c2_i32_7386_r0
  let c3_i32_7404_r0 : BitVec 32 := 3#32
  let v14588_r0 : BitVec 32 := Scalar.remsi v14568_r0 c3_i32_7404_r0
  let c0_i32_7409_r0 : BitVec 32 := 0#32
  let c256_i32_7410_r0 : BitVec 32 := 256#32
  ![v14588_r0.toNat, 0, 256]
def k0_mult38 (k0_t1 : Fin k0_t1_loop.trips) : BitVec 32 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c2_i32_7386_r0 : BitVec 32 := 2#32
  let v14568_r0 : BitVec 32 := Scalar.addi v11185_r0 c2_i32_7386_r0
  let c512_i32_7412_r0 : BitVec 32 := 512#32
  let v14598_r0 : BitVec 32 := Scalar.muli v14568_r0 c512_i32_7412_r0
  let c256_i32_7413_r0 : BitVec 32 := 256#32
  let v14599_r0 : BitVec 32 := Scalar.addi v14598_r0 c256_i32_7413_r0
  let c20480_i32_7414_r0 : BitVec 32 := 20480#32
  let v14600_r0 : BitVec 32 := Scalar.minsi v14599_r0 c20480_i32_7414_r0
  v14600_r0
def k0_cond5 (k0_t1 : Fin k0_t1_loop.trips) : BitVec 1 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5321_r0 : BitVec 32 := 3#32
  let v11229_r0 : BitVec 1 := Scalar.cmpi .sge v11185_r0 c3_i32_5321_r0
  let v11230_r0 : BitVec 32 := Scalar.extui v11229_r0
  let c0_i32_5322_r0 : BitVec 32 := 0#32
  let v11231_r0 : BitVec 1 := Scalar.cmpi .ne v11230_r0 c0_i32_5322_r0
  v11231_r0

def k0_mult39 (k0_t1 : Fin k0_t1_loop.trips) : BitVec 32 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_7386_r0 : BitVec 32 := 3#32
  let v14568_r0 : BitVec 32 := Scalar.subi v11185_r0 c3_i32_7386_r0
  let c512_i32_7387_r0 : BitVec 32 := 512#32
  let v14569_r0 : BitVec 32 := Scalar.muli v14568_r0 c512_i32_7387_r0
  v14569_r0
def k0_off131 (k0_t1 : Fin k0_t1_loop.trips) : Fin 2 → Nat :=
  let c0_i32_7390_r0 : BitVec 32 := 0#32
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_7386_r0 : BitVec 32 := 3#32
  let v14568_r0 : BitVec 32 := Scalar.subi v11185_r0 c3_i32_7386_r0
  let c512_i32_7387_r0 : BitVec 32 := 512#32
  let v14569_r0 : BitVec 32 := Scalar.muli v14568_r0 c512_i32_7387_r0
  let v14570_r0 : BitVec 32 := v14569_r0
  ![0, v14570_r0.toNat]
def k0_cond6 (k0_t1 : Fin k0_t1_loop.trips) : BitVec 1 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c2_i32_5323_r0 : BitVec 32 := 2#32
  let v11232_r0 : BitVec 1 := Scalar.cmpi .sge v11185_r0 c2_i32_5323_r0
  let v11233_r0 : BitVec 32 := Scalar.extui v11232_r0
  let c0_i32_5324_r0 : BitVec 32 := 0#32
  let v11234_r0 : BitVec 1 := Scalar.cmpi .ne v11233_r0 c0_i32_5324_r0
  v11234_r0

def k0_mult40 (k0_t1 : Fin k0_t1_loop.trips) : BitVec 32 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c2_i32_7386_r0 : BitVec 32 := 2#32
  let v14568_r0 : BitVec 32 := Scalar.subi v11185_r0 c2_i32_7386_r0
  let c512_i32_7387_r0 : BitVec 32 := 512#32
  let v14569_r0 : BitVec 32 := Scalar.muli v14568_r0 c512_i32_7387_r0
  v14569_r0
def k0_off132 (k0_t1 : Fin k0_t1_loop.trips) : Fin 2 → Nat :=
  let c0_i32_7390_r0 : BitVec 32 := 0#32
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c2_i32_7386_r0 : BitVec 32 := 2#32
  let v14568_r0 : BitVec 32 := Scalar.subi v11185_r0 c2_i32_7386_r0
  let c512_i32_7387_r0 : BitVec 32 := 512#32
  let v14569_r0 : BitVec 32 := Scalar.muli v14568_r0 c512_i32_7387_r0
  let v14570_r0 : BitVec 32 := v14569_r0
  ![0, v14570_r0.toNat]
def k0_off133 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11238_r0 : Index := Scalar.indexCast v11235_r0
  let c128_5328_r0 : Index := 128#32
  let c0_5329_r0 : Index := 0#32
  ![v11238_r0.toNat, 128, 0]
def k0_off134 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11263_r0 : Index := Scalar.indexCast v11235_r0
  let c128_5341_r0 : Index := 128#32
  let c256_5342_r0 : Index := 256#32
  ![v11263_r0.toNat, 128, 256]
def k0_off135 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11296_r0 : Index := Scalar.indexCast v11235_r0
  let c256_5366_r0 : Index := 256#32
  let c0_5367_r0 : Index := 0#32
  ![v11296_r0.toNat, 256, 0]
def k0_off136 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11321_r0 : Index := Scalar.indexCast v11235_r0
  let c256_5379_r0 : Index := 256#32
  let c256_5380_r0 : Index := 256#32
  ![v11321_r0.toNat, 256, 256]
def k0_off137 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11354_r0 : Index := Scalar.indexCast v11235_r0
  let c384_5404_r0 : Index := 384#32
  let c0_5405_r0 : Index := 0#32
  ![v11354_r0.toNat, 384, 0]
def k0_off138 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11379_r0 : Index := Scalar.indexCast v11235_r0
  let c384_5417_r0 : Index := 384#32
  let c256_5418_r0 : Index := 256#32
  ![v11379_r0.toNat, 384, 256]
def k0_off139 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11412_r0 : Index := Scalar.indexCast v11235_r0
  let c512_5442_r0 : Index := 512#32
  let c0_5443_r0 : Index := 0#32
  ![v11412_r0.toNat, 512, 0]
def k0_off140 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11437_r0 : Index := Scalar.indexCast v11235_r0
  let c512_5455_r0 : Index := 512#32
  let c256_5456_r0 : Index := 256#32
  ![v11437_r0.toNat, 512, 256]
def k0_off141 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11490_r0 : Index := Scalar.indexCast v11235_r0
  let c640_5492_r0 : Index := 640#32
  let c0_5493_r0 : Index := 0#32
  ![v11490_r0.toNat, 640, 0]
def k0_off142 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11515_r0 : Index := Scalar.indexCast v11235_r0
  let c640_5505_r0 : Index := 640#32
  let c256_5506_r0 : Index := 256#32
  ![v11515_r0.toNat, 640, 256]
def k0_off143 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11548_r0 : Index := Scalar.indexCast v11235_r0
  let c768_5530_r0 : Index := 768#32
  let c0_5531_r0 : Index := 0#32
  ![v11548_r0.toNat, 768, 0]
def k0_off144 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11573_r0 : Index := Scalar.indexCast v11235_r0
  let c768_5543_r0 : Index := 768#32
  let c256_5544_r0 : Index := 256#32
  ![v11573_r0.toNat, 768, 256]
def k0_off145 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11606_r0 : Index := Scalar.indexCast v11235_r0
  let c896_5568_r0 : Index := 896#32
  let c0_5569_r0 : Index := 0#32
  ![v11606_r0.toNat, 896, 0]
def k0_off146 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11631_r0 : Index := Scalar.indexCast v11235_r0
  let c896_5581_r0 : Index := 896#32
  let c256_5582_r0 : Index := 256#32
  ![v11631_r0.toNat, 896, 256]
def k0_off147 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11664_r0 : Index := Scalar.indexCast v11235_r0
  let c1024_5606_r0 : Index := 1024#32
  let c0_5607_r0 : Index := 0#32
  ![v11664_r0.toNat, 1024, 0]
def k0_off148 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11689_r0 : Index := Scalar.indexCast v11235_r0
  let c1024_5619_r0 : Index := 1024#32
  let c256_5620_r0 : Index := 256#32
  ![v11689_r0.toNat, 1024, 256]
def k0_off149 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11722_r0 : Index := Scalar.indexCast v11235_r0
  let c1152_5644_r0 : Index := 1152#32
  let c0_5645_r0 : Index := 0#32
  ![v11722_r0.toNat, 1152, 0]
def k0_off150 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11747_r0 : Index := Scalar.indexCast v11235_r0
  let c1152_5657_r0 : Index := 1152#32
  let c256_5658_r0 : Index := 256#32
  ![v11747_r0.toNat, 1152, 256]
def k0_mult41 (k0_t1 : Fin k0_t1_loop.trips) : BitVec 32 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5682_r0 : BitVec 32 := 1#32
  let v11780_r0 : BitVec 32 := Scalar.addi v11185_r0 c1_i32_5682_r0
  let c512_i32_5683_r0 : BitVec 32 := 512#32
  let v11781_r0 : BitVec 32 := Scalar.muli v11780_r0 c512_i32_5683_r0
  let c0_i32_5684_r0 : BitVec 32 := 0#32
  let v11782_r0 : BitVec 32 := Scalar.addi v11781_r0 c0_i32_5684_r0
  let c20480_i32_5685_r0 : BitVec 32 := 20480#32
  let v11783_r0 : BitVec 32 := Scalar.minsi v11782_r0 c20480_i32_5685_r0
  v11783_r0
def k0_off151 (k0_t1 : Fin k0_t1_loop.trips) (c0_i32_5684_r0 : BitVec 32) : Fin 2 → Nat :=
  let c0_5710_r0 : Index := 0#32
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5682_r0 : BitVec 32 := 1#32
  let v11780_r0 : BitVec 32 := Scalar.addi v11185_r0 c1_i32_5682_r0
  let c512_i32_5683_r0 : BitVec 32 := 512#32
  let v11781_r0 : BitVec 32 := Scalar.muli v11780_r0 c512_i32_5683_r0
  let v11782_r0 : BitVec 32 := Scalar.addi v11781_r0 c0_i32_5684_r0
  let c20480_i32_5685_r0 : BitVec 32 := 20480#32
  let v11783_r0 : BitVec 32 := Scalar.minsi v11782_r0 c20480_i32_5685_r0
  let v11784_r0 : BitVec 32 := v11783_r0
  let c0_i32_5687_r0 : BitVec 32 := 0#32
  let v11786_r0 : BitVec 1 := Scalar.cmpi .sgt v11784_r0 c0_i32_5687_r0
  let v11787_r0 : BitVec 32 := Scalar.extui v11786_r0
  let c0_i32_5688_r0 : BitVec 32 := 0#32
  let v11788_r0 : BitVec 1 := Scalar.cmpi .slt v11784_r0 c0_i32_5688_r0
  let v11789_r0 : BitVec 32 := Scalar.extui v11788_r0
  let v11790_r0 : BitVec 32 := Scalar.subi v11787_r0 v11789_r0
  let c8_i32_5686_r0 : BitVec 32 := 8#32
  let c0_i32_5689_r0 : BitVec 32 := 0#32
  let v11791_r0 : BitVec 1 := Scalar.cmpi .sgt c8_i32_5686_r0 c0_i32_5689_r0
  let v11792_r0 : BitVec 32 := Scalar.extui v11791_r0
  let c0_i32_5690_r0 : BitVec 32 := 0#32
  let v11793_r0 : BitVec 1 := Scalar.cmpi .slt c8_i32_5686_r0 c0_i32_5690_r0
  let v11794_r0 : BitVec 32 := Scalar.extui v11793_r0
  let v11795_r0 : BitVec 32 := Scalar.subi v11792_r0 v11794_r0
  let v11796_r0 : BitVec 1 := Scalar.cmpi .ne v11790_r0 v11795_r0
  let v11797_r0 : BitVec 32 := Scalar.remsi v11784_r0 c8_i32_5686_r0
  let c0_i32_5691_r0 : BitVec 32 := 0#32
  let v11798_r0 : BitVec 1 := Scalar.cmpi .ne v11797_r0 c0_i32_5691_r0
  let v11799_r0 : BitVec 1 := Scalar.andi v11796_r0 v11798_r0
  let v11785_r0 : BitVec 32 := Scalar.divsi v11784_r0 c8_i32_5686_r0
  let c1_i32_5692_r0 : BitVec 32 := 1#32
  let v11800_r0 : BitVec 32 := Scalar.subi v11785_r0 c1_i32_5692_r0
  let v11801_r0 : BitVec 32 := Scalar.select v11799_r0 v11800_r0 v11785_r0
  let c0_i32_5694_r0 : BitVec 32 := 0#32
  let v11803_r0 : BitVec 1 := Scalar.cmpi .sgt v11801_r0 c0_i32_5694_r0
  let v11804_r0 : BitVec 32 := Scalar.extui v11803_r0
  let c0_i32_5695_r0 : BitVec 32 := 0#32
  let v11805_r0 : BitVec 1 := Scalar.cmpi .slt v11801_r0 c0_i32_5695_r0
  let v11806_r0 : BitVec 32 := Scalar.extui v11805_r0
  let v11807_r0 : BitVec 32 := Scalar.subi v11804_r0 v11806_r0
  let c128_i32_5693_r0 : BitVec 32 := 128#32
  let c0_i32_5696_r0 : BitVec 32 := 0#32
  let v11808_r0 : BitVec 1 := Scalar.cmpi .sgt c128_i32_5693_r0 c0_i32_5696_r0
  let v11809_r0 : BitVec 32 := Scalar.extui v11808_r0
  let c0_i32_5697_r0 : BitVec 32 := 0#32
  let v11810_r0 : BitVec 1 := Scalar.cmpi .slt c128_i32_5693_r0 c0_i32_5697_r0
  let v11811_r0 : BitVec 32 := Scalar.extui v11810_r0
  let v11812_r0 : BitVec 32 := Scalar.subi v11809_r0 v11811_r0
  let v11813_r0 : BitVec 1 := Scalar.cmpi .ne v11807_r0 v11812_r0
  let v11814_r0 : BitVec 32 := Scalar.remsi v11801_r0 c128_i32_5693_r0
  let c0_i32_5698_r0 : BitVec 32 := 0#32
  let v11815_r0 : BitVec 1 := Scalar.cmpi .ne v11814_r0 c0_i32_5698_r0
  let v11816_r0 : BitVec 1 := Scalar.andi v11813_r0 v11815_r0
  let v11802_r0 : BitVec 32 := Scalar.divsi v11801_r0 c128_i32_5693_r0
  let c1_i32_5699_r0 : BitVec 32 := 1#32
  let v11817_r0 : BitVec 32 := Scalar.subi v11802_r0 c1_i32_5699_r0
  let v11818_r0 : BitVec 32 := Scalar.select v11816_r0 v11817_r0 v11802_r0
  let c128_i32_5700_r0 : BitVec 32 := 128#32
  let v11819_r0 : BitVec 32 := Scalar.muli v11818_r0 c128_i32_5700_r0
  let c2464_i32_5701_r0 : BitVec 32 := 2464#32
  let v11820_r0 : BitVec 32 := Scalar.minsi v11819_r0 c2464_i32_5701_r0
  let v11851_r0 : Index := Scalar.indexCast v11820_r0
  ![0, v11851_r0.toNat]
def k0_off152 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11907_r0 : Index := Scalar.indexCast v11235_r0
  let c1280_5742_r0 : Index := 1280#32
  let c0_5743_r0 : Index := 0#32
  ![v11907_r0.toNat, 1280, 0]
def k0_off153 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11932_r0 : Index := Scalar.indexCast v11235_r0
  let c1280_5755_r0 : Index := 1280#32
  let c256_5756_r0 : Index := 256#32
  ![v11932_r0.toNat, 1280, 256]
def k0_off154 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11965_r0 : Index := Scalar.indexCast v11235_r0
  let c1408_5780_r0 : Index := 1408#32
  let c0_5781_r0 : Index := 0#32
  ![v11965_r0.toNat, 1408, 0]
def k0_off155 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v11972_r0 : Index := Scalar.indexCast v11235_r0
  let c0_5784_r0 : Index := 0#32
  let c0_5785_r0 : Index := 0#32
  ![v11972_r0.toNat, 0, 0]
def k0_off156 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12000_r0 : Index := Scalar.indexCast v11235_r0
  let c1408_5798_r0 : Index := 1408#32
  let c256_5799_r0 : Index := 256#32
  ![v12000_r0.toNat, 1408, 256]
def k0_off157 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12007_r0 : Index := Scalar.indexCast v11235_r0
  let c0_5802_r0 : Index := 0#32
  let c256_5803_r0 : Index := 256#32
  ![v12007_r0.toNat, 0, 256]
def k0_off158 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12043_r0 : Index := Scalar.indexCast v11235_r0
  let c96_5828_r0 : Index := 96#32
  let c0_5829_r0 : Index := 0#32
  ![v12043_r0.toNat, 96, 0]
def k0_off159 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12070_r0 : Index := Scalar.indexCast v11235_r0
  let c96_5842_r0 : Index := 96#32
  let c256_5843_r0 : Index := 256#32
  ![v12070_r0.toNat, 96, 256]
def k0_off160 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12105_r0 : Index := Scalar.indexCast v11235_r0
  let c224_5868_r0 : Index := 224#32
  let c0_5869_r0 : Index := 0#32
  ![v12105_r0.toNat, 224, 0]
def k0_off161 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12132_r0 : Index := Scalar.indexCast v11235_r0
  let c224_5882_r0 : Index := 224#32
  let c256_5883_r0 : Index := 256#32
  ![v12132_r0.toNat, 224, 256]
def k0_mult42 (k0_t1 : Fin k0_t1_loop.trips) : BitVec 32 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5908_r0 : BitVec 32 := 1#32
  let v12167_r0 : BitVec 32 := Scalar.addi v11185_r0 c1_i32_5908_r0
  let c512_i32_5909_r0 : BitVec 32 := 512#32
  let v12168_r0 : BitVec 32 := Scalar.muli v12167_r0 c512_i32_5909_r0
  let c0_i32_5910_r0 : BitVec 32 := 0#32
  let v12169_r0 : BitVec 32 := Scalar.addi v12168_r0 c0_i32_5910_r0
  let c20480_i32_5911_r0 : BitVec 32 := 20480#32
  let v12170_r0 : BitVec 32 := Scalar.minsi v12169_r0 c20480_i32_5911_r0
  v12170_r0
def k0_off162 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12294_r0 : Index := Scalar.indexCast v11235_r0
  let c352_5968_r0 : Index := 352#32
  let c0_5969_r0 : Index := 0#32
  ![v12294_r0.toNat, 352, 0]
def k0_off163 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12321_r0 : Index := Scalar.indexCast v11235_r0
  let c352_5982_r0 : Index := 352#32
  let c256_5983_r0 : Index := 256#32
  ![v12321_r0.toNat, 352, 256]
def k0_off164 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12356_r0 : Index := Scalar.indexCast v11235_r0
  let c480_6008_r0 : Index := 480#32
  let c0_6009_r0 : Index := 0#32
  ![v12356_r0.toNat, 480, 0]
def k0_off165 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12383_r0 : Index := Scalar.indexCast v11235_r0
  let c480_6022_r0 : Index := 480#32
  let c256_6023_r0 : Index := 256#32
  ![v12383_r0.toNat, 480, 256]
def k0_off166 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12418_r0 : Index := Scalar.indexCast v11235_r0
  let c608_6048_r0 : Index := 608#32
  let c0_6049_r0 : Index := 0#32
  ![v12418_r0.toNat, 608, 0]
def k0_off167 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12445_r0 : Index := Scalar.indexCast v11235_r0
  let c608_6062_r0 : Index := 608#32
  let c256_6063_r0 : Index := 256#32
  ![v12445_r0.toNat, 608, 256]
def k0_off168 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12480_r0 : Index := Scalar.indexCast v11235_r0
  let c736_6088_r0 : Index := 736#32
  let c0_6089_r0 : Index := 0#32
  ![v12480_r0.toNat, 736, 0]
def k0_off169 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12507_r0 : Index := Scalar.indexCast v11235_r0
  let c736_6102_r0 : Index := 736#32
  let c256_6103_r0 : Index := 256#32
  ![v12507_r0.toNat, 736, 256]
def k0_mult43 (k0_t1 : Fin k0_t1_loop.trips) : BitVec 32 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_6128_r0 : BitVec 32 := 1#32
  let v12542_r0 : BitVec 32 := Scalar.addi v11185_r0 c1_i32_6128_r0
  let c512_i32_6129_r0 : BitVec 32 := 512#32
  let v12543_r0 : BitVec 32 := Scalar.muli v12542_r0 c512_i32_6129_r0
  let c256_i32_6130_r0 : BitVec 32 := 256#32
  let v12544_r0 : BitVec 32 := Scalar.addi v12543_r0 c256_i32_6130_r0
  let c20480_i32_6131_r0 : BitVec 32 := 20480#32
  let v12545_r0 : BitVec 32 := Scalar.minsi v12544_r0 c20480_i32_6131_r0
  v12545_r0
def k0_off170 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12669_r0 : Index := Scalar.indexCast v11235_r0
  let c864_6188_r0 : Index := 864#32
  let c0_6189_r0 : Index := 0#32
  ![v12669_r0.toNat, 864, 0]
def k0_off171 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12696_r0 : Index := Scalar.indexCast v11235_r0
  let c864_6202_r0 : Index := 864#32
  let c256_6203_r0 : Index := 256#32
  ![v12696_r0.toNat, 864, 256]
def k0_off172 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12731_r0 : Index := Scalar.indexCast v11235_r0
  let c992_6228_r0 : Index := 992#32
  let c0_6229_r0 : Index := 0#32
  ![v12731_r0.toNat, 992, 0]
def k0_off173 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12758_r0 : Index := Scalar.indexCast v11235_r0
  let c992_6242_r0 : Index := 992#32
  let c256_6243_r0 : Index := 256#32
  ![v12758_r0.toNat, 992, 256]
def k0_off174 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12793_r0 : Index := Scalar.indexCast v11235_r0
  let c1120_6268_r0 : Index := 1120#32
  let c0_6269_r0 : Index := 0#32
  ![v12793_r0.toNat, 1120, 0]
def k0_off175 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12820_r0 : Index := Scalar.indexCast v11235_r0
  let c1120_6282_r0 : Index := 1120#32
  let c256_6283_r0 : Index := 256#32
  ![v12820_r0.toNat, 1120, 256]
def k0_off176 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12855_r0 : Index := Scalar.indexCast v11235_r0
  let c1248_6308_r0 : Index := 1248#32
  let c0_6309_r0 : Index := 0#32
  ![v12855_r0.toNat, 1248, 0]
def k0_off177 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v12882_r0 : Index := Scalar.indexCast v11235_r0
  let c1248_6322_r0 : Index := 1248#32
  let c256_6323_r0 : Index := 256#32
  ![v12882_r0.toNat, 1248, 256]
def k0_mult44 (k0_t1 : Fin k0_t1_loop.trips) : BitVec 32 :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_6348_r0 : BitVec 32 := 1#32
  let v12917_r0 : BitVec 32 := Scalar.addi v11185_r0 c1_i32_6348_r0
  let c512_i32_6349_r0 : BitVec 32 := 512#32
  let v12918_r0 : BitVec 32 := Scalar.muli v12917_r0 c512_i32_6349_r0
  let c256_i32_6350_r0 : BitVec 32 := 256#32
  let v12919_r0 : BitVec 32 := Scalar.addi v12918_r0 c256_i32_6350_r0
  let c20480_i32_6351_r0 : BitVec 32 := 20480#32
  let v12920_r0 : BitVec 32 := Scalar.minsi v12919_r0 c20480_i32_6351_r0
  v12920_r0
def k0_off178 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13044_r0 : Index := Scalar.indexCast v11235_r0
  let c1376_6408_r0 : Index := 1376#32
  let c0_6409_r0 : Index := 0#32
  ![v13044_r0.toNat, 1376, 0]
def k0_off179 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13053_r0 : Index := Scalar.indexCast v11235_r0
  let c0_6413_r0 : Index := 0#32
  let c0_6414_r0 : Index := 0#32
  ![v13053_r0.toNat, 0, 0]
def k0_off180 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13081_r0 : Index := Scalar.indexCast v11235_r0
  let c1376_6427_r0 : Index := 1376#32
  let c256_6428_r0 : Index := 256#32
  ![v13081_r0.toNat, 1376, 256]
def k0_off181 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13090_r0 : Index := Scalar.indexCast v11235_r0
  let c0_6432_r0 : Index := 0#32
  let c256_6433_r0 : Index := 256#32
  ![v13090_r0.toNat, 0, 256]
def k0_off182 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13126_r0 : Index := Scalar.indexCast v11235_r0
  let c64_6458_r0 : Index := 64#32
  let c0_6459_r0 : Index := 0#32
  ![v13126_r0.toNat, 64, 0]
def k0_off183 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13153_r0 : Index := Scalar.indexCast v11235_r0
  let c64_6472_r0 : Index := 64#32
  let c256_6473_r0 : Index := 256#32
  ![v13153_r0.toNat, 64, 256]
def k0_off184 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13188_r0 : Index := Scalar.indexCast v11235_r0
  let c192_6498_r0 : Index := 192#32
  let c0_6499_r0 : Index := 0#32
  ![v13188_r0.toNat, 192, 0]
def k0_off185 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13215_r0 : Index := Scalar.indexCast v11235_r0
  let c192_6512_r0 : Index := 192#32
  let c256_6513_r0 : Index := 256#32
  ![v13215_r0.toNat, 192, 256]
def k0_off186 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13250_r0 : Index := Scalar.indexCast v11235_r0
  let c320_6538_r0 : Index := 320#32
  let c0_6539_r0 : Index := 0#32
  ![v13250_r0.toNat, 320, 0]
def k0_off187 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13277_r0 : Index := Scalar.indexCast v11235_r0
  let c320_6552_r0 : Index := 320#32
  let c256_6553_r0 : Index := 256#32
  ![v13277_r0.toNat, 320, 256]
def k0_off188 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13312_r0 : Index := Scalar.indexCast v11235_r0
  let c448_6578_r0 : Index := 448#32
  let c0_6579_r0 : Index := 0#32
  ![v13312_r0.toNat, 448, 0]
def k0_off189 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13339_r0 : Index := Scalar.indexCast v11235_r0
  let c448_6592_r0 : Index := 448#32
  let c256_6593_r0 : Index := 256#32
  ![v13339_r0.toNat, 448, 256]
def k0_off190 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13374_r0 : Index := Scalar.indexCast v11235_r0
  let c576_6618_r0 : Index := 576#32
  let c0_6619_r0 : Index := 0#32
  ![v13374_r0.toNat, 576, 0]
def k0_off191 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13401_r0 : Index := Scalar.indexCast v11235_r0
  let c576_6632_r0 : Index := 576#32
  let c256_6633_r0 : Index := 256#32
  ![v13401_r0.toNat, 576, 256]
def k0_off192 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13436_r0 : Index := Scalar.indexCast v11235_r0
  let c704_6658_r0 : Index := 704#32
  let c0_6659_r0 : Index := 0#32
  ![v13436_r0.toNat, 704, 0]
def k0_off193 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13463_r0 : Index := Scalar.indexCast v11235_r0
  let c704_6672_r0 : Index := 704#32
  let c256_6673_r0 : Index := 256#32
  ![v13463_r0.toNat, 704, 256]
def k0_off194 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13498_r0 : Index := Scalar.indexCast v11235_r0
  let c832_6698_r0 : Index := 832#32
  let c0_6699_r0 : Index := 0#32
  ![v13498_r0.toNat, 832, 0]
def k0_off195 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13525_r0 : Index := Scalar.indexCast v11235_r0
  let c832_6712_r0 : Index := 832#32
  let c256_6713_r0 : Index := 256#32
  ![v13525_r0.toNat, 832, 256]
def k0_off196 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13560_r0 : Index := Scalar.indexCast v11235_r0
  let c960_6738_r0 : Index := 960#32
  let c0_6739_r0 : Index := 0#32
  ![v13560_r0.toNat, 960, 0]
def k0_off197 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13587_r0 : Index := Scalar.indexCast v11235_r0
  let c960_6752_r0 : Index := 960#32
  let c256_6753_r0 : Index := 256#32
  ![v13587_r0.toNat, 960, 256]
def k0_off198 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13622_r0 : Index := Scalar.indexCast v11235_r0
  let c1088_6778_r0 : Index := 1088#32
  let c0_6779_r0 : Index := 0#32
  ![v13622_r0.toNat, 1088, 0]
def k0_off199 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13649_r0 : Index := Scalar.indexCast v11235_r0
  let c1088_6792_r0 : Index := 1088#32
  let c256_6793_r0 : Index := 256#32
  ![v13649_r0.toNat, 1088, 256]
def k0_off200 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13684_r0 : Index := Scalar.indexCast v11235_r0
  let c1216_6818_r0 : Index := 1216#32
  let c0_6819_r0 : Index := 0#32
  ![v13684_r0.toNat, 1216, 0]
def k0_off201 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13711_r0 : Index := Scalar.indexCast v11235_r0
  let c1216_6832_r0 : Index := 1216#32
  let c256_6833_r0 : Index := 256#32
  ![v13711_r0.toNat, 1216, 256]
def k0_off202 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13746_r0 : Index := Scalar.indexCast v11235_r0
  let c1344_6858_r0 : Index := 1344#32
  let c0_6859_r0 : Index := 0#32
  ![v13746_r0.toNat, 1344, 0]
def k0_off203 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13755_r0 : Index := Scalar.indexCast v11235_r0
  let c0_6863_r0 : Index := 0#32
  let c0_6864_r0 : Index := 0#32
  ![v13755_r0.toNat, 0, 0]
def k0_off204 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13783_r0 : Index := Scalar.indexCast v11235_r0
  let c1344_6877_r0 : Index := 1344#32
  let c256_6878_r0 : Index := 256#32
  ![v13783_r0.toNat, 1344, 256]
def k0_off205 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13792_r0 : Index := Scalar.indexCast v11235_r0
  let c0_6882_r0 : Index := 0#32
  let c256_6883_r0 : Index := 256#32
  ![v13792_r0.toNat, 0, 256]
def k0_off206 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13828_r0 : Index := Scalar.indexCast v11235_r0
  let c32_6908_r0 : Index := 32#32
  let c0_6909_r0 : Index := 0#32
  ![v13828_r0.toNat, 32, 0]
def k0_off207 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13855_r0 : Index := Scalar.indexCast v11235_r0
  let c32_6922_r0 : Index := 32#32
  let c256_6923_r0 : Index := 256#32
  ![v13855_r0.toNat, 32, 256]
def k0_off208 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13890_r0 : Index := Scalar.indexCast v11235_r0
  let c160_6948_r0 : Index := 160#32
  let c0_6949_r0 : Index := 0#32
  ![v13890_r0.toNat, 160, 0]
def k0_off209 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13917_r0 : Index := Scalar.indexCast v11235_r0
  let c160_6962_r0 : Index := 160#32
  let c256_6963_r0 : Index := 256#32
  ![v13917_r0.toNat, 160, 256]
def k0_off210 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13952_r0 : Index := Scalar.indexCast v11235_r0
  let c288_6988_r0 : Index := 288#32
  let c0_6989_r0 : Index := 0#32
  ![v13952_r0.toNat, 288, 0]
def k0_off211 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v13979_r0 : Index := Scalar.indexCast v11235_r0
  let c288_7002_r0 : Index := 288#32
  let c256_7003_r0 : Index := 256#32
  ![v13979_r0.toNat, 288, 256]
def k0_off212 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14014_r0 : Index := Scalar.indexCast v11235_r0
  let c416_7028_r0 : Index := 416#32
  let c0_7029_r0 : Index := 0#32
  ![v14014_r0.toNat, 416, 0]
def k0_off213 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14041_r0 : Index := Scalar.indexCast v11235_r0
  let c416_7042_r0 : Index := 416#32
  let c256_7043_r0 : Index := 256#32
  ![v14041_r0.toNat, 416, 256]
def k0_off214 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14076_r0 : Index := Scalar.indexCast v11235_r0
  let c544_7068_r0 : Index := 544#32
  let c0_7069_r0 : Index := 0#32
  ![v14076_r0.toNat, 544, 0]
def k0_off215 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14103_r0 : Index := Scalar.indexCast v11235_r0
  let c544_7082_r0 : Index := 544#32
  let c256_7083_r0 : Index := 256#32
  ![v14103_r0.toNat, 544, 256]
def k0_off216 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14138_r0 : Index := Scalar.indexCast v11235_r0
  let c672_7108_r0 : Index := 672#32
  let c0_7109_r0 : Index := 0#32
  ![v14138_r0.toNat, 672, 0]
def k0_off217 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14165_r0 : Index := Scalar.indexCast v11235_r0
  let c672_7122_r0 : Index := 672#32
  let c256_7123_r0 : Index := 256#32
  ![v14165_r0.toNat, 672, 256]
def k0_off218 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14200_r0 : Index := Scalar.indexCast v11235_r0
  let c800_7148_r0 : Index := 800#32
  let c0_7149_r0 : Index := 0#32
  ![v14200_r0.toNat, 800, 0]
def k0_off219 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14227_r0 : Index := Scalar.indexCast v11235_r0
  let c800_7162_r0 : Index := 800#32
  let c256_7163_r0 : Index := 256#32
  ![v14227_r0.toNat, 800, 256]
def k0_off220 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14262_r0 : Index := Scalar.indexCast v11235_r0
  let c928_7188_r0 : Index := 928#32
  let c0_7189_r0 : Index := 0#32
  ![v14262_r0.toNat, 928, 0]
def k0_off221 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14289_r0 : Index := Scalar.indexCast v11235_r0
  let c928_7202_r0 : Index := 928#32
  let c256_7203_r0 : Index := 256#32
  ![v14289_r0.toNat, 928, 256]
def k0_off222 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14324_r0 : Index := Scalar.indexCast v11235_r0
  let c1056_7228_r0 : Index := 1056#32
  let c0_7229_r0 : Index := 0#32
  ![v14324_r0.toNat, 1056, 0]
def k0_off223 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14351_r0 : Index := Scalar.indexCast v11235_r0
  let c1056_7242_r0 : Index := 1056#32
  let c256_7243_r0 : Index := 256#32
  ![v14351_r0.toNat, 1056, 256]
def k0_off224 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14386_r0 : Index := Scalar.indexCast v11235_r0
  let c1184_7268_r0 : Index := 1184#32
  let c0_7269_r0 : Index := 0#32
  ![v14386_r0.toNat, 1184, 0]
def k0_off225 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14413_r0 : Index := Scalar.indexCast v11235_r0
  let c1184_7282_r0 : Index := 1184#32
  let c256_7283_r0 : Index := 256#32
  ![v14413_r0.toNat, 1184, 256]
def k0_off226 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14448_r0 : Index := Scalar.indexCast v11235_r0
  let c1312_7308_r0 : Index := 1312#32
  let c0_7309_r0 : Index := 0#32
  ![v14448_r0.toNat, 1312, 0]
def k0_off227 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c3_i32_5325_r0 : BitVec 32 := 3#32
  let v11235_r0 : BitVec 32 := Scalar.remsi v11185_r0 c3_i32_5325_r0
  let v14475_r0 : Index := Scalar.indexCast v11235_r0
  let c1312_7322_r0 : Index := 1312#32
  let c256_7323_r0 : Index := 256#32
  ![v14475_r0.toNat, 1312, 256]
def k0_off228 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5326_r0 : BitVec 32 := 1#32
  let v11236_r0 : BitVec 32 := Scalar.addi v11185_r0 c1_i32_5326_r0
  let c3_i32_5327_r0 : BitVec 32 := 3#32
  let v11237_r0 : BitVec 32 := Scalar.remsi v11236_r0 c3_i32_5327_r0
  let v14510_r0 : Index := Scalar.indexCast v11237_r0
  let c0_7348_r0 : Index := 0#32
  let c0_7349_r0 : Index := 0#32
  ![v14510_r0.toNat, 0, 0]
def k0_off229 (k0_t1 : Fin k0_t1_loop.trips) : Fin 3 → Nat :=
  let c2_i32_5281_r0 : BitVec 32 := 2#32
  let c0_i32_3177_r0 : BitVec 32 := 0#32
  let c0_i32_2254_r0 : BitVec 32 := 0#32
  let c1_i32_2255_r0 : BitVec 32 := 1#32
  let arg20_r0 : BitVec 32 := Scf.iv c0_i32_2254_r0 c1_i32_2255_r0 k0_t1
  let c1_i32_3176_r0 : BitVec 32 := 1#32
  let v7799_r0 : BitVec 32 := Scalar.muli arg20_r0 c1_i32_3176_r0
  let v7800_r0 : BitVec 32 := Scalar.addi c0_i32_3177_r0 v7799_r0
  let v11184_r0 : BitVec 32 := Scalar.muli c2_i32_5281_r0 v7800_r0
  let c1_i32_5282_r0 : BitVec 32 := 1#32
  let v11185_r0 : BitVec 32 := Scalar.addi v11184_r0 c1_i32_5282_r0
  let c1_i32_5326_r0 : BitVec 32 := 1#32
  let v11236_r0 : BitVec 32 := Scalar.addi v11185_r0 c1_i32_5326_r0
  let c3_i32_5327_r0 : BitVec 32 := 3#32
  let v11237_r0 : BitVec 32 := Scalar.remsi v11236_r0 c3_i32_5327_r0
  let v14535_r0 : Index := Scalar.indexCast v11237_r0
  let c0_7361_r0 : Index := 0#32
  let c256_7362_r0 : Index := 256#32
  ![v14535_r0.toNat, 0, 256]
def k0_mult45 : BitVec 32 :=
  let c18944_i32_r0 : BitVec 32 := 18944#32
  c18944_i32_r0
def k0_mult46 : BitVec 32 :=
  let c19456_i32_r0 : BitVec 32 := 19456#32
  c19456_i32_r0
def k0_mult47 : BitVec 32 :=
  let c19968_i32_r0 : BitVec 32 := 19968#32
  c19968_i32_r0
def k0_mult48 : BitVec 32 :=
  let c19456_i32_3146_r0 : BitVec 32 := 19456#32
  c19456_i32_3146_r0
def k0_mult49 : BitVec 32 :=
  let c19968_i32_3164_r0 : BitVec 32 := 19968#32
  c19968_i32_3164_r0
-- ==== ReferenceIdeal.lean ====
abbrev S192x1x11520 : Shape := ⟨3, ![192, 1, 11520]⟩
abbrev S1440x20736 : Shape := ⟨2, ![1440, 20736]⟩
abbrev S90x20736 : Shape := ⟨2, ![90, 20736]⟩
abbrev S90x2592 : Shape := ⟨2, ![90, 2592]⟩
abbrev S8 : Shape := ⟨1, ![8]⟩
abbrev S_ : Shape := ⟨0, ![]⟩
abbrev S90x2592x1 : Shape := ⟨3, ![90, 2592, 1]⟩
abbrev S1x1x8 : Shape := ⟨3, ![1, 1, 8]⟩
abbrev S90x2592x8 : Shape := ⟨3, ![90, 2592, 8]⟩
abbrev S1x1440x20736 : Shape := ⟨3, ![1, 1440, 20736]⟩
abbrev S8x1x1 : Shape := ⟨3, ![8, 1, 1]⟩
abbrev S8x1440x20736 : Shape := ⟨3, ![8, 1440, 20736]⟩
abbrev S90x128x20736 : Shape := ⟨3, ![90, 128, 20736]⟩
abbrev S90x1x20736 : Shape := ⟨3, ![90, 1, 20736]⟩
abbrev S11520x20736 : Shape := ⟨2, ![11520, 20736]⟩
abbrev S192x11520 : Shape := ⟨2, ![192, 11520]⟩
abbrev S192x20736 : Shape := ⟨2, ![192, 20736]⟩
abbrev S192x1x20736 : Shape := ⟨3, ![192, 1, 20736]⟩

abbrev nBuf : Space → Nat
  | .hbm => 39
  | .vmem => 0
  | .smem => 0
  | _ => 0

abbrev bufTy : (tb : Table) → Fin (tcTables nBuf tb) → BufTy
  | .hbm, ⟨0, _⟩ => ⟨S192x1x11520, .bf16⟩
  | .hbm, ⟨1, _⟩ => ⟨S1440x20736, .i32⟩
  | .hbm, ⟨2, _⟩ => ⟨S90x20736, .bf16⟩
  | .hbm, ⟨3, _⟩ => ⟨S90x2592, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S90x2592x1, .i32⟩
  | .hbm, ⟨9, _⟩ => ⟨S1x1x8, .i32⟩
  | .hbm, ⟨10, _⟩ => ⟨S90x2592x8, .i32⟩
  | .hbm, ⟨11, _⟩ => ⟨S90x2592x8, .i32⟩
  | .hbm, ⟨12, _⟩ => ⟨S90x2592x8, .i32⟩
  | .hbm, ⟨13, _⟩ => ⟨S_, .i32⟩
  | .hbm, ⟨14, _⟩ => ⟨S90x2592x8, .i32⟩
  | .hbm, ⟨15, _⟩ => ⟨S90x2592x8, .i32⟩
  | .hbm, ⟨16, _⟩ => ⟨S90x20736, .i32⟩
  | .hbm, ⟨17, _⟩ => ⟨S90x20736, .bf16⟩
  | .hbm, ⟨18, _⟩ => ⟨S1x1440x20736, .i32⟩
  | .hbm, ⟨19, _⟩ => ⟨S8x1x1, .i32⟩
  | .hbm, ⟨20, _⟩ => ⟨S8x1440x20736, .i32⟩
  | .hbm, ⟨21, _⟩ => ⟨S8x1440x20736, .i32⟩
  | .hbm, ⟨22, _⟩ => ⟨S8x1440x20736, .i32⟩
  | .hbm, ⟨23, _⟩ => ⟨S_, .i32⟩
  | .hbm, ⟨24, _⟩ => ⟨S8x1440x20736, .i32⟩
  | .hbm, ⟨25, _⟩ => ⟨S8x1440x20736, .i32⟩
  | .hbm, ⟨26, _⟩ => ⟨S8x1440x20736, .bf16⟩
  | .hbm, ⟨27, _⟩ => ⟨S90x128x20736, .bf16⟩
  | .hbm, ⟨28, _⟩ => ⟨S90x1x20736, .bf16⟩
  | .hbm, ⟨29, _⟩ => ⟨S90x128x20736, .bf16⟩
  | .hbm, ⟨30, _⟩ => ⟨S90x128x20736, .bf16⟩
  | .hbm, ⟨31, _⟩ => ⟨S90x1x20736, .bf16⟩
  | .hbm, ⟨32, _⟩ => ⟨S90x128x20736, .bf16⟩
  | .hbm, ⟨33, _⟩ => ⟨S90x128x20736, .bf16⟩
  | .hbm, ⟨34, _⟩ => ⟨S11520x20736, .bf16⟩
  | .hbm, ⟨35, _⟩ => ⟨S192x11520, .bf16⟩
  | .hbm, ⟨36, _⟩ => ⟨S192x20736, .f32⟩
  | .hbm, ⟨37, _⟩ => ⟨S192x20736, .bf16⟩
  | .hbm, ⟨38, _⟩ => ⟨S192x1x20736, .bf16⟩
  | _, _ => ⟨S192x1x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Proof.Rolled.lean ====
/- The kernel's body written with its chunk, tile and column loops still loops: the same memory
   operations in the same order as the printed text, over parameters for the chunk, the matrix unit,
   the parity and the ring slot. `RolledEq.lean` shows that the printed body is this one. -/
module

public import proofs.«01_k».proof.Proof.Gen.Kernel

@[expose] public section

noncomputable section

namespace Cert.Kernel.Rolled

open Idealize.ShloMosaic Idealize.SL.Sem Cert.Kernel Cert.Kernel.Gen

variable {F : FTy → Type} [FloatOps F]

/-- The kernel's operands, scratch buffers and semaphores. -/
structure Refs where
  x : Memref sig .tc .hbm S192x11520 .bf16
  hx : x.IsWhole
  q : Memref sig .tc .hbm S1440x20736 .i32
  hq : q.IsWhole
  s : Memref sig .tc .hbm S90x20736 .bf16
  hs : s.IsWhole
  z : Memref sig .tc .hbm S90x2592 .i32
  hz : z.IsWhole
  y : Memref sig .tc .hbm S192x20736 .bf16
  hy : y.IsWhole
  xr : Memref sig .tc .vmem S192x11520 .bf16
  hxr : xr.IsWhole
  xm : Memref sig .tc .vmem S45x192x256 .bf16
  hxm : xm.IsWhole
  qb : Memref sig .tc .vmem S3x1440x512 .i32
  hqb : qb.IsWhole
  sb : Memref sig .tc .vmem S2x90x512 .bf16
  hsb : sb.IsWhole
  zb : Memref sig .tc .vmem S90x2592 .i32
  hzb : zb.IsWhole
  nb : Memref sig .tc .vmem S90x128 .i32
  hnb : nb.IsWhole
  sc : Memref sig .tc .vmem S90x128 .f32
  hsc : sc.IsWhole
  st : Memref sig .tc .vmem S2x90x512 .f32
  hst : st.IsWhole
  zt : Memref sig .tc .vmem S2x45x512 .i32
  hzt : zt.IsWhole
  ot : Memref sig .tc .vmem S2x192x512 .bf16
  hot : ot.IsWhole
  xS : DmaSems sig S_
  qS : DmaSems sig S3x2
  sS : DmaSems sig S2x2
  zS : DmaSems sig S_
  oS : DmaSems sig S2

/-- A program of the core. -/
abbrev PR (F : FTy → Type) [FloatOps F] (α : Type) := Prog (TpuEff nD τ sig (Elt F) Λ₀ .tc) α

/-! ## The bounds of the accesses -/

theorem zin : ∀ (p : Fin 2) (g : Fin 45) (h : Fin 2), ∀ a,
    (![p.val, g.val, 256 * h.val] : Fin 3 → Nat) a + S1x1x256.size a ≤ S2x45x512.size a := by decide +kernel
theorem sin : ∀ (p : Fin 2) (g : Fin 90) (h : Fin 2), ∀ a,
    (![p.val, g.val, 256 * h.val] : Fin 3 → Nat) a + S1x1x256.size a ≤ S2x90x512.size a := by decide +kernel
theorem xin : ∀ (g : Fin 45) (m : Fin 2), ∀ a,
    (![g.val, 96 * m.val, 0] : Fin 3 → Nat) a + S1x96x256.size a ≤ S45x192x256.size a := by decide +kernel
theorem xmin : ∀ (g : Fin 45) (j : Fin 2), ∀ a,
    (![g.val, 0, 128 * j.val] : Fin 3 → Nat) a + S1x192x128.size a ≤ S45x192x256.size a := by decide +kernel
theorem xrin : ∀ (g : Fin 90), ∀ a,
    (![0, 128 * g.val] : Fin 2 → Nat) a + S192x128.size a ≤ S192x11520.size a := by decide +kernel
theorem xmpk : ∀ (g : Fin 45) (j : Fin 2), (Rect.unit (s := S45x192x256) ![g.val, 0, 128 * j.val] S1x192x128.size
    (xmin g j)).PackedRows (EltTy.packing .bf16) := by decide +kernel
theorem oin : ∀ (p m h : Fin 2), ∀ a,
    (![p.val, 96 * m.val, 256 * h.val] : Fin 3 → Nat) a + S1x96x256.size a ≤ S2x192x512.size a := by decide +kernel
theorem opk : ∀ (p m h : Fin 2), (Rect.unit (s := S2x192x512) ![p.val, 96 * m.val, 256 * h.val] S1x96x256.size
    (oin p m h)).PackedRows (EltTy.packing .bf16) := by decide +kernel
theorem fit : ∀ (p m : Fin 2), Mxu.Fits (48 * p.val + 24 * m.val) 96 := by decide
theorem ztin : ∀ (p : Fin 2) (t : Fin 4), ∀ a,
    (![p.val, 0, 128 * t.val] : Fin 3 → Nat) a + S1x45x128.size a ≤ S2x45x512.size a := by decide +kernel
theorem stin : ∀ (p : Fin 2) (t : Fin 4), ∀ a,
    (![p.val, 0, 128 * t.val] : Fin 3 → Nat) a + S1x90x128.size a ≤ S2x90x512.size a := by decide +kernel
theorem qsin : ∀ (l : Fin 3) (h : Fin 2), ∀ a, (![l.val, h.val] : Fin 2 → Nat) a + S1x1.size a ≤ S3x2.size a := by decide
theorem ssin : ∀ (l : Fin 2) (h : Fin 2), ∀ a, (![l.val, h.val] : Fin 2 → Nat) a + S1x1.size a ≤ S2x2.size a := by decide
theorem osin : ∀ (l : Fin 2), ∀ a, (![l.val] : Fin 1 → Nat) a + S1.size a ≤ S2.size a := by decide
theorem sbin : ∀ (p h : Fin 2), ∀ a,
    (![p.val, 0, 256 * h.val] : Fin 3 → Nat) a + S1x90x256.size a ≤ S2x90x512.size a := by decide +kernel
theorem sbww : ∀ (p h : Fin 2), (Rect.unit (s := S2x90x512) ![p.val, 0, 256 * h.val] S1x90x256.size
    (sbin p h)).WholeWords (EltTy.packing .bf16) := by decide +kernel
theorem obin : ∀ (p : Fin 2), ∀ a,
    (![p.val, 0, 0] : Fin 3 → Nat) a + S1x192x512.size a ≤ S2x192x512.size a := by decide +kernel
theorem obww : ∀ (p : Fin 2), (Rect.unit (s := S2x192x512) ![p.val, 0, 0] S1x192x512.size
    (obin p)).WholeWords (EltTy.packing .bf16) := by decide +kernel

theorem qbin (l : Fin 3) (h : Fin 2) : ∀ a,
    (![l.val, 0, 256 * h.val] : Fin 3 → Nat) a + S1x1440x256.size a ≤ S3x1440x512.size a := by
  revert l h; decide +kernel
theorem qhin {c : Nat} (hc : c + 256 ≤ 20736) : ∀ a,
    (![0, c] : Fin 2 → Nat) a + S1440x256.size a ≤ S1440x20736.size a := by
  intro a; fin_cases a <;> simp <;> omega
theorem shin {c : Nat} (hc : c + 256 ≤ 20736) : ∀ a,
    (![0, c] : Fin 2 → Nat) a + S90x256.size a ≤ S90x20736.size a := by
  intro a; fin_cases a <;> simp <;> omega
theorem shww {c : Nat} (hc : c + 256 ≤ 20736) : (Rect.unit (s := S90x20736) ![0, c] S90x256.size
    (shin hc)).WholeWords (EltTy.packing .bf16) :=
  .inr ⟨by decide, rfl, rfl, rfl⟩
theorem yhin {c : Nat} (hc : c + 512 ≤ 20736) : ∀ a,
    (![0, c] : Fin 2 → Nat) a + S192x512.size a ≤ S192x20736.size a := by
  intro a; fin_cases a <;> simp <;> omega
theorem yhww {c : Nat} (hc : c + 512 ≤ 20736) : (Rect.unit (s := S192x20736) ![0, c] S192x512.size
    (yhin hc)).WholeWords (EltTy.packing .bf16) :=
  .inr ⟨by decide, rfl, rfl, rfl⟩
theorem qin (l : Fin 3) {r n : Nat} (h : Fin 2) (hr : r + n ≤ 1440) : ∀ a,
    (![l.val, r, 256 * h.val] : Fin 3 → Nat) a + (![1, n, 256] : Fin 3 → Nat) a ≤ S3x1440x512.size a := by
  have := l.isLt; have := h.isLt
  intro a; fin_cases a <;> simp <;> omega
theorem zbin {c : Nat} (hc : c + 128 ≤ 2592) : ∀ a,
    (![0, c] : Fin 2 → Nat) a + S90x128.size a ≤ S90x2592.size a := by
  intro a; fin_cases a <;> simp <;> omega

/-! ## The weights of one chunk -/

/-- The four-bit codes of the words `q`, shifted right by field `f`, as the bits of 128 plus a code in each half. -/
def nibs (s : Shape) (f : Nat) (q : IVec s 32) : IVec s 32 :=
  ori (andi (match f with
    | 0 => q
    | f + 1 => shrui q (broadcast s (BitVec.ofNat 32 (4 * (f + 1))))) (broadcast s 983055#32)) (broadcast s 1124090624#32)

/-- The code words of chunk `g`, columns of unit `h`, from ring slot `l`. -/
def code (c : Refs) (l : Fin 3) (g : Fin 45) (h : Fin 2) : PR F (IVec S128x256 32) :=
  if h0 : 128 * g.val % 1440 + 128 ≤ 1440 then do
    let q ← Prog.lift (.load c.qb (Rect.unit (s := S3x1440x512) ![l.val, 128 * g.val % 1440, 256 * h.val] S1x128x256.size
      (qin l h h0)).toLoadRect (View.loadsAt_vmem h_S1x128x256))
    pure (nibs S128x256 (128 * g.val / 1440) (shapeCast S128x256 q shapeCasts_S1x128x256_S128x256))
  else if g.val = 11 then do
    let q ← Prog.lift (.load c.qb (Rect.unit (s := S3x1440x512) ![l.val, 1408, 256 * h.val] S1x32x256.size
      (qin l h (by decide))).toLoadRect (View.loadsAt_vmem h_S1x32x256))
    let q' ← Prog.lift (.load c.qb (Rect.unit (s := S3x1440x512) ![l.val, 0, 256 * h.val] S1x96x256.size
      (qin l h (by decide))).toLoadRect (View.loadsAt_vmem h_S1x96x256))
    pure (concatenate S128x256 0 [⟨S32x256, nibs S32x256 0 (shapeCast S32x256 q shapeCasts_S1x32x256_S32x256)⟩,
      ⟨S96x256, nibs S96x256 1 (shapeCast S96x256 q' shapeCasts_S1x96x256_S96x256)⟩] concatenates_S32x256_S96x256_S128x256_d0)
  else if g.val = 22 then do
    let q ← Prog.lift (.load c.qb (Rect.unit (s := S3x1440x512) ![l.val, 1376, 256 * h.val] S1x64x256.size
      (qin l h (by decide))).toLoadRect (View.loadsAt_vmem h_S1x64x256))
    let q' ← Prog.lift (.load c.qb (Rect.unit (s := S3x1440x512) ![l.val, 0, 256 * h.val] S1x64x256.size
      (qin l h (by decide))).toLoadRect (View.loadsAt_vmem h_S1x64x256))
    pure (concatenate S128x256 0 [⟨S64x256, nibs S64x256 1 (shapeCast S64x256 q shapeCasts_S1x64x256_S64x256)⟩,
      ⟨S64x256, nibs S64x256 2 (shapeCast S64x256 q' shapeCasts_S1x64x256_S64x256)⟩] concatenates_S64x256_S64x256_S128x256_d0)
  else do
    let q ← Prog.lift (.load c.qb (Rect.unit (s := S3x1440x512) ![l.val, 1344, 256 * h.val] S1x96x256.size
      (qin l h (by decide))).toLoadRect (View.loadsAt_vmem h_S1x96x256))
    let q' ← Prog.lift (.load c.qb (Rect.unit (s := S3x1440x512) ![l.val, 0, 256 * h.val] S1x32x256.size
      (qin l h (by decide))).toLoadRect (View.loadsAt_vmem h_S1x32x256))
    pure (concatenate S128x256 0 [⟨S96x256, nibs S96x256 2 (shapeCast S96x256 q shapeCasts_S1x96x256_S96x256)⟩,
      ⟨S32x256, nibs S32x256 3 (shapeCast S32x256 q' shapeCasts_S1x32x256_S32x256)⟩] concatenates_S96x256_S32x256_S128x256_d0)

/-- The weight tile of code words `w`, zero words `z` and the two rows of scales. -/
def wts (v5 : IVec S256x256 1) (w : IVec S128x256 32) (z : Vec F S1x1x256 .i32) (s1 s2 : Vec F S1x1x256 .f32) :
    FVec F S256x256 .bf16 :=
  mulf (subf (bitcastToFloat .bf16 (bitcast S256x256 16 w bitcasts_S128x256_w32_S256x256_w16))
      (bitcastToFloat .bf16 (bitcast S256x256 16 (broadcastTo S128x256 (shapeCast S1x256 (shapeCast S1x256 z
        shapeCasts_S1x1x256_S1x256) shapeCasts_S1x256_S1x256) broadcasts_S1x256_S128x256) bitcasts_S128x256_w32_S256x256_w16)))
    (truncf .bf16 (select v5
      (broadcastTo S256x256 (shapeCast S1x256 (shapeCast S1x256 s1 shapeCasts_S1x1x256_S1x256) shapeCasts_S1x256_S1x256)
        broadcasts_S1x256_S256x256)
      (broadcastTo S256x256 (shapeCast S1x256 (shapeCast S1x256 s2 shapeCasts_S1x1x256_S1x256) shapeCasts_S1x256_S1x256)
        broadcasts_S1x256_S256x256)) bitsLt_bf16_f32)

/-- Stage chunk `g`'s weight tile in register `r` of unit `h`. -/
def push (c : Refs) (v5 : IVec S256x256 1) (l : Fin 3) (p : Fin 2) (g : Fin 45) (h r : Fin 2) (m : Mxu F) : PR F (Mxu F) := do
  let w ← code c l g h
  let z ← Prog.lift (.load c.zt (Rect.unit (s := S2x45x512) ![p.val, g.val, 256 * h.val] S1x1x256.size
    (zin p g h)).toLoadRect (View.loadsAt_vmem h_S1x1x256))
  let s1 ← Prog.lift (.load c.st (Rect.unit (s := S2x90x512) ![p.val, g.val, 256 * h.val] S1x1x256.size
    (sin p ⟨g.val, by omega⟩ h)).toLoadRect (View.loadsAt_vmem h_S1x1x256))
  let s2 ← Prog.lift (.load c.st (Rect.unit (s := S2x90x512) ![p.val, g.val + 45, 256 * h.val] S1x1x256.size
    (sin p ⟨g.val + 45, by omega⟩ h)).toLoadRect (View.loadsAt_vmem h_S1x1x256))
  m.pushRhs h r false (wts v5 w z s1 s2)

/-- The rows `96 m …` of chunk `g` of the mixed activations. -/
def xrow (c : Refs) (g : Fin 45) (m : Fin 2) : PR F (FVec F S96x256 .bf16) := do
  let x ← Prog.lift (.load c.xm (Rect.unit (s := S45x192x256) ![g.val, 96 * m.val, 0] S1x96x256.size
    (xin g m)).toLoadRect (View.loadsAt_vmem h_S1x96x256))
  pure (shapeCast S96x256 x shapeCasts_S1x96x256_S96x256)

/-- Multiply chunk `g` by the tile of register `r` of unit `h` into both halves of parity `p`'s rows. -/
def acc2 (c : Refs) (p : Fin 2) (g : Fin 45) (h r : Fin 2) (m : Mxu F) : PR F (Mxu F) := do
  let x ← xrow c g 0
  let x' ← (fun m' : Mxu F => (do let x' ← xrow c g 1; m'.accLhsLoaded h (48 * p.val + 24 * (1 : Fin 2).val) x' (fit p 1) : PR F (Mxu F)))
    (m.accLhs h r (48 * p.val + 24 * (0 : Fin 2).val) x (fit p 0))
  pure x'

/-- Pop one accumulator of parity `p` and store it, rounded, in the output buffer. -/
def drain1 (c : Refs) (p mh h : Fin 2) (m : Mxu F) : PR F (Mxu F) := do
  let _ ← Prog.lift (.load c.ot (Rect.unit (s := S2x192x512) ![p.val, 96 * mh.val, 256 * h.val] S1x96x256.size
    (oin p mh h)).toLoadRect (View.loadsAt_vmem h_S1x96x256))
  Prog.lift (.store c.ot (Rect.unit (s := S2x192x512) ![p.val, 96 * mh.val, 256 * h.val] S1x96x256.size (oin p mh h))
    (shapeCast S1x96x256 (truncf .bf16 (m.read h (48 * p.val + 24 * mh.val) (fit p mh)) bitsLt_bf16_f32)
      shapeCasts_S96x256_S1x96x256) Finset.univ
    (View.stores_vmem h_S1x96x256 (c.hot.storeExact_slice rfl _ (opk p mh h)) (fun _ => rfl)) (.inl rfl))
  pure (m.pop h (48 * p.val + 24 * mh.val) 96 (fit p mh))

/-- Pop the four accumulators of parity `p`. -/
def drain (c : Refs) (p : Fin 2) (m : Mxu F) : PR F (Mxu F) := do
  let m ← drain1 c p 0 0 m
  let m ← drain1 c p 0 1 m
  let m ← drain1 c p 1 0 m
  drain1 c p 1 1 m

/-! ## The tables of one tile -/

/-- The quotient of two words rounded down, as the kernel computes it. -/
def fdiv (a b : BitVec 32) : BitVec 32 :=
  Scalar.select (Scalar.andi
      (Scalar.cmpi .ne (Scalar.subi (Scalar.extui (Scalar.cmpi .sgt a 0#32)) (Scalar.extui (Scalar.cmpi .slt a 0#32)))
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- The quotients of a row of words by `b` rounded down, as the kernel computes them. -/
def fdivV (v : IVec S1x128 32) (b : BitVec 32) : IVec S1x128 32 :=
  select (andi
      (cmpi .ne (subi (extui 32 (cmpi .sgt v (broadcast S1x128 0#32)) natLt_1_32) (extui 32 (cmpi .slt v (broadcast S1x128 0#32)) natLt_1_32))
        (broadcast S1x128 (Scalar.subi (Scalar.extui (Scalar.cmpi .sgt b 0#32)) (Scalar.extui (Scalar.cmpi .slt b 0#32)))))
      (cmpi .ne (remsi v (broadcast S1x128 b)) (broadcast S1x128 0#32)))
    (subi (divsi v (broadcast S1x128 b)) (broadcast S1x128 1#32)) (divsi v (broadcast S1x128 b))

/-- The divisor the kernel takes a remainder by: `b`, or one for zero. -/
def nz (b : BitVec 32) : BitVec 32 := Scalar.select (Scalar.cmpi .eq b 0#32) 1#32 b

/-- The remainders of a row of words by `b`, of `b`'s sign, as the kernel computes them. -/
def fmodV (v : IVec S1x128 32) (b : BitVec 32) : IVec S1x128 32 :=
  select (andi (xori (cmpi .slt (remsi v (broadcast S1x128 (nz b))) (broadcast S1x128 0#32))
        (broadcastTo S1x128 (broadcast S1x128 (Scalar.cmpi .slt (nz b) 0#32)) broadcasts_S1x128_S1x128))
      (cmpi .ne (remsi v (broadcast S1x128 (nz b))) (broadcast S1x128 0#32)))
    (addi (remsi v (broadcast S1x128 (nz b))) (broadcast S1x128 (nz b))) (remsi v (broadcast S1x128 (nz b)))

/-- The first column of half `h` of block `p`, held inside the matrix. -/
def colw (p : BitVec 32) (h : Fin 2) : BitVec 32 :=
  Scalar.minsi (Scalar.addi (Scalar.muli p 512#32) (BitVec.ofNat 32 (256 * h.val))) 20480#32

/-- The word of zeros that column `w` starts in. -/
def wordw (w : BitVec 32) : BitVec 32 := fdiv w 8#32

/-- The first word of the window of zeros read for column `w`. -/
def basew (w : BitVec 32) : BitVec 32 := Scalar.minsi (Scalar.muli (fdiv (wordw w) 128#32) 128#32) 2464#32

/-- The zeros of a tile, each alone in a word: word `word - base + 16 sub + lane / 8`, shifted right by four times
    `lane` modulo eight. -/
def zeros4 (v0 : IVec S1x128 32) (w : BitVec 32) (sub : Nat) (u : Vec F S90x128 .i32) : IVec S90x128 32 :=
  let pick : IVec S90x128 32 := broadcastTo S90x128 (shapeCast S1x128 (addi (broadcast S1x128 (Scalar.addi
    (Scalar.subi (wordw w) (basew w)) (BitVec.ofNat 32 (16 * sub)))) (fdivV v0 8#32)) shapeCasts_S1x128_S1x128) broadcasts_S1x128_S90x128
  let at' : IVec S90x128 32 := select (cmpi .slt pick (broadcast S90x128 0#32)) (addi pick (broadcast S90x128 128#32)) pick
  andi (shrui (dynamicGather 1 u (shapeCast S90x128 (shapeCast S90x128x1 at' shapeCasts_S90x128_S90x128x1)
      shapeCasts_S90x128x1_S90x128))
    (broadcastTo S90x128 (shapeCast S1x128 (muli (fmodV v0 8#32) (broadcast S1x128 4#32)) shapeCasts_S1x128_S1x128)
      broadcasts_S1x128_S90x128)) (broadcast S90x128 15#32)

/-- Fill tile `t` of parity `p`'s tables for the block whose half `t / 2` starts at column `w`. -/
def tables (c : Refs) (v0 : IVec S1x128 32) (p : Fin 2) (t : Fin 4) (w : BitVec 32) (hb : (basew w).toNat + 128 ≤ 2592) :
    PR F PUnit := do
  let u ← Prog.lift (.load c.zb (Rect.unit (s := S90x2592) ![0, (basew w).toNat] S90x128.size (zbin hb)).toLoadRect
    (View.loadsAt_vmem h_S90x128))
  let _ ← Prog.lift (.load c.nb (Rect.unit (s := S90x128) ![0, 0] S90x128.size inb_S90x128_S90x128_0_0).toLoadRect
    (View.loadsAt_vmem h_S90x128))
  Prog.lift (.store c.nb (Rect.unit (s := S90x128) ![0, 0] S90x128.size inb_S90x128_S90x128_0_0)
    (shapeCast S90x128 (zeros4 v0 w (t.val % 2) u) shapeCasts_S90x128_S90x128) Finset.univ
    (View.stores_vmem_bits_univ h_S90x128 rfl) (.inl rfl))
  let a ← Prog.lift (.load c.nb (Rect.unit (s := S90x128) ![0, 0] S45x128.size inb_S90x128_S45x128_0_0).toLoadRect
    (View.loadsAt_vmem h_S45x128))
  let b ← Prog.lift (.load c.nb (Rect.unit (s := S90x128) ![45, 0] S45x128.size inb_S90x128_S45x128_45_0).toLoadRect
    (View.loadsAt_vmem h_S45x128))
  let _ ← Prog.lift (.load c.zt (Rect.unit (s := S2x45x512) ![p.val, 0, 128 * t.val] S1x45x128.size (ztin p t)).toLoadRect
    (View.loadsAt_vmem h_S1x45x128))
  Prog.lift (.store c.zt (Rect.unit (s := S2x45x512) ![p.val, 0, 128 * t.val] S1x45x128.size (ztin p t))
    (shapeCast S1x45x128 (ori (ori a (shli b (broadcast S45x128 16#32))) (broadcast S45x128 1124090624#32))
      shapeCasts_S45x128_S1x45x128) Finset.univ
    (View.stores_vmem_bits_univ h_S1x45x128 rfl) (.inl rfl))
  let s ← Prog.lift (.load c.sb (Rect.unit (s := S2x90x512) ![p.val, 0, 128 * t.val] S1x90x128.size (stin p t)).toLoadRect
    (View.loadsAt_vmem h_S1x90x128))
  let _ ← Prog.lift (.load c.sc (Rect.unit (s := S90x128) ![0, 0] S90x128.size inb_S90x128_S90x128_0_0).toLoadRect
    (View.loadsAt_vmem h_S90x128))
  Prog.lift (.store c.sc (Rect.unit (s := S90x128) ![0, 0] S90x128.size inb_S90x128_S90x128_0_0)
    (shapeCast S90x128 (extf .f32 (shapeCast S90x128 s shapeCasts_S1x90x128_S90x128) bitsLt_bf16_f32) shapeCasts_S90x128_S90x128)
    Finset.univ (View.stores_vmem_bits_univ h_S90x128 rfl) (.inl rfl))
  let s' ← Prog.lift (.load c.sc (Rect.unit (s := S90x128) ![0, 0] S90x128.size inb_S90x128_S90x128_0_0).toLoadRect
    (View.loadsAt_vmem h_S90x128))
  let _ ← Prog.lift (.load c.st (Rect.unit (s := S2x90x512) ![p.val, 0, 128 * t.val] S1x90x128.size (stin p t)).toLoadRect
    (View.loadsAt_vmem h_S1x90x128))
  Prog.lift (.store c.st (Rect.unit (s := S2x90x512) ![p.val, 0, 128 * t.val] S1x90x128.size (stin p t))
    (shapeCast S1x90x128 s' shapeCasts_S90x128_S1x90x128) Finset.univ
    (View.stores_vmem_bits_univ h_S1x90x128 rfl) (.inl rfl))

/-! ## The copies -/

/-- The ring slot of block `p`. -/
def slotw (p : BitVec 32) : Nat := (Scalar.remsi p 3#32).toNat

/-- What the copies of block `p` need: its slot, its columns and its window of zeros are in range. -/
structure InOk (p : BitVec 32) : Prop where
  slot : slotw p < 3
  col : ∀ h, (colw p h).toNat + 256 ≤ 20736
  base : ∀ h, (basew (colw p h)).toNat + 128 ≤ 2592

/-- The ring slot of block `p`, in range. -/
def InOk.l {p : BitVec 32} (hp : InOk p) : Fin 3 := ⟨slotw p, hp.slot⟩

/-- The semaphore, destination and source of the copy of half `h` of block `p`'s code words. -/
def qsem (c : Refs) {p : BitVec 32} (hp : InOk p) (h : Fin 2) : DmaSems sig S_ :=
  (c.qS.slice (Rect.unit (s := S3x2) ![slotw p, h.val] S1x1.size (qsin hp.l h))).squeeze S_ squeezes_S1x1_S_
def qdst (c : Refs) {p : BitVec 32} (hp : InOk p) (h : Fin 2) : Memref sig .tc .vmem S1440x256 .i32 :=
  (c.qb.slice (Rect.unit (s := S3x1440x512) ![slotw p, 0, 256 * h.val] S1x1440x256.size (qbin hp.l h)) (fun _ => rfl)).squeeze
    S1440x256 squeezes_S1x1440x256_S1440x256
def qsrc (c : Refs) {p : BitVec 32} (hp : InOk p) (h : Fin 2) : Memref sig .tc .hbm S1440x256 .i32 :=
  c.q.slice (Rect.unit (s := S1440x20736) ![0, (colw p h).toNat] S1440x256.size (qhin (hp.col h))) (fun _ => rfl)

/-- Start and await that copy. -/
def qstart (c : Refs) {p : BitVec 32} (hp : InOk p) (h : Fin 2) : PR F PUnit :=
  Prog.lift (.enqueueDma (qsrc c hp h) (.here (qdst c hp h)) (.dma (qsem c hp h).sem) (View.wordExact_bits rfl)
    ((View.wordExact_bits rfl).reshape _ _) ⟨Or.inl rfl, trivial⟩)
def qwait (c : Refs) {p : BitVec 32} (hp : InOk p) (h : Fin 2) : PR F PUnit :=
  Prog.lift (.waitDma2 (qsem c hp h).sem (qsrc c hp h) (qdst c hp h) (View.wordExact_bits rfl) ((View.wordExact_bits rfl).reshape _ _))

/-- The semaphore, destination and source of the copy of half `h` of block `p`'s scales, parity `r`. -/
def ssem (c : Refs) (r h : Fin 2) : DmaSems sig S_ :=
  (c.sS.slice (Rect.unit (s := S2x2) ![r.val, h.val] S1x1.size (ssin r h))).squeeze S_ squeezes_S1x1_S_
def sdst (c : Refs) (r h : Fin 2) : Memref sig .tc .vmem S90x256 .bf16 :=
  (c.sb.slice (Rect.unit (s := S2x90x512) ![r.val, 0, 256 * h.val] S1x90x256.size (sbin r h)) (fun _ => rfl)).squeeze
    S90x256 squeezes_S1x90x256_S90x256
def ssrc (c : Refs) {p : BitVec 32} (hp : InOk p) (h : Fin 2) : Memref sig .tc .hbm S90x256 .bf16 :=
  c.s.slice (Rect.unit (s := S90x20736) ![0, (colw p h).toNat] S90x256.size (shin (hp.col h))) (fun _ => rfl)

/-- Start and await that copy. -/
def sstart (c : Refs) {p : BitVec 32} (hp : InOk p) (r h : Fin 2) : PR F PUnit :=
  Prog.lift (.enqueueDma (ssrc c hp h) (.here (sdst c r h)) (.dma (ssem c r h).sem)
    (c.hs.wordExact_slice rfl _ (shww (hp.col h))) ((c.hsb.wordExact_slice rfl _ (sbww r h)).reshape _ _) ⟨Or.inl rfl, trivial⟩)
def swait (c : Refs) {p : BitVec 32} (hp : InOk p) (r h : Fin 2) : PR F PUnit :=
  Prog.lift (.waitDma2 (ssem c r h).sem (ssrc c hp h) (sdst c r h)
    (c.hs.wordExact_slice rfl _ (shww (hp.col h))) ((c.hsb.wordExact_slice rfl _ (sbww r h)).reshape _ _))

/-- The semaphore, source and destination of the copy of parity `r`'s output block to columns `k …`. -/
def osem (c : Refs) (r : Fin 2) : DmaSems sig S_ :=
  (c.oS.slice (Rect.unit (s := S2) ![r.val] S1.size (osin r))).squeeze S_ squeezes_S1_S_
def osrc (c : Refs) (r : Fin 2) : Memref sig .tc .vmem S192x512 .bf16 :=
  (c.ot.slice (Rect.unit (s := S2x192x512) ![r.val, 0, 0] S1x192x512.size (obin r)) (fun _ => rfl)).squeeze
    S192x512 squeezes_S1x192x512_S192x512
def odst (c : Refs) {k : Nat} (hk : k + 512 ≤ 20736) : Memref sig .tc .hbm S192x512 .bf16 :=
  c.y.slice (Rect.unit (s := S192x20736) ![0, k] S192x512.size (yhin hk)) (fun _ => rfl)

/-- Start and await that copy. -/
def ostart (c : Refs) (r : Fin 2) {k : Nat} (hk : k + 512 ≤ 20736) : PR F PUnit :=
  Prog.lift (.enqueueDma (osrc c r) (.here (odst c hk)) (.dma (osem c r).sem)
    ((c.hot.wordExact_slice rfl _ (obww r)).reshape _ _) (c.hy.wordExact_slice rfl _ (yhww hk)) ⟨Or.inl rfl, trivial⟩)
def owait (c : Refs) (r : Fin 2) {k : Nat} (hk : k + 512 ≤ 20736) : PR F PUnit :=
  Prog.lift (.waitDma2 (osem c r).sem (osrc c r) (odst c hk)
    ((c.hot.wordExact_slice rfl _ (obww r)).reshape _ _) (c.hy.wordExact_slice rfl _ (yhww hk)))

def startIn (c : Refs) {p : BitVec 32} (hp : InOk p) (r : Fin 2) : PR F PUnit := do
  qstart c hp 0
  sstart c hp r 0
  qstart c hp 1
  sstart c hp r 1

def waitIn (c : Refs) {p : BitVec 32} (hp : InOk p) (r : Fin 2) : PR F PUnit := do
  qwait c hp 0
  swait c hp r 0
  qwait c hp 1
  swait c hp r 1

/-! ## One step -/

/-- The column block `p - d` starts at. -/
def ycol (p d : BitVec 32) : Nat := (Scalar.muli (Scalar.subi p d) 512#32).toNat

/-- The condition `p + 2 ≤ 40`, and `p ≥ d`, as the kernel computes them. -/
def condIn (p : BitVec 32) : BitVec 1 := Scalar.cmpi .ne (Scalar.extui (Scalar.cmpi .sle (Scalar.addi p 2#32) 40#32)) 0#32
def condGe (p d : BitVec 32) : BitVec 1 := Scalar.cmpi .ne (Scalar.extui (Scalar.cmpi .sge p d)) 0#32

/-- What step `p` needs. -/
structure StepOk (p : BitVec 32) : Prop where
  cur : InOk p
  nxt : InOk (Scalar.addi p 1#32)
  far : condIn p = 1#1 → InOk (Scalar.addi p 2#32)
  y2 : condGe p 2#32 = 1#1 → ycol p 2#32 + 512 ≤ 20736
  y3 : condGe p 3#32 = 1#1 → ycol p 3#32 + 512 ≤ 20736

/-- The copies awaited and started at the head of step `p` of parity `r`. -/
def head (c : Refs) {p : BitVec 32} (hp : StepOk p) (r : Fin 2) : PR F PUnit := do
  waitIn c hp.nxt (1 - r)
  if h : condIn p = 1#1 then do startIn c (hp.far h) r else do pure ⟨⟩
  if h : condGe p 3#32 = 1#1 then do owait c (1 - r) (hp.y3 h) else do pure ⟨⟩
  if h : condGe p 2#32 = 1#1 then do ostart c r (hp.y2 h) else do pure ⟨⟩

/-- Parity `r`'s staging register at chunk `g`. -/
def regOf (g : Nat) (r : Fin 2) : Fin 2 := ⟨(g + r.val) % 2, Nat.mod_lt _ (by decide)⟩

/-- Chunk `g` of step `p`: stage the next chunk's tiles, multiply this one's, and at their chunks drain the step before
    and fill the tables of the step after. -/
def chunk (c : Refs) (v0 : IVec S1x128 32) (v5 : IVec S256x256 1) {p : BitVec 32} (hp : StepOk p) (r : Fin 2) (g : Fin 45)
    (m : Mxu F) : PR F (Mxu F) := do
  let m ← if h : g.val + 1 < 45 then do
      let m ← push c v5 hp.cur.l r ⟨g.val + 1, h⟩ 0 (regOf (g.val + 1) r) m
      push c v5 hp.cur.l r ⟨g.val + 1, h⟩ 1 (regOf (g.val + 1) r) m
    else do
      let m ← push c v5 hp.nxt.l (1 - r) 0 0 (regOf (g.val + 1) r) m
      push c v5 hp.nxt.l (1 - r) 0 1 (regOf (g.val + 1) r) m
  let m ← acc2 c r g 0 (regOf g.val r) m
  let m ← acc2 c r g 1 (regOf g.val r) m
  match g.val with
  | 3 => drain c (1 - r) m
  | 8 => do tables c v0 (1 - r) 0 (colw (Scalar.addi p 1#32) 0) (hp.nxt.base 0); pure m
  | 12 => do tables c v0 (1 - r) 1 (colw (Scalar.addi p 1#32) 0) (hp.nxt.base 0); pure m
  | 16 => do tables c v0 (1 - r) 2 (colw (Scalar.addi p 1#32) 1) (hp.nxt.base 1); pure m
  | 20 => do tables c v0 (1 - r) 3 (colw (Scalar.addi p 1#32) 1) (hp.nxt.base 1); pure m
  | _ => pure m

/-- The chunks from `45 - n` on. -/
def chunks (c : Refs) (v0 : IVec S1x128 32) (v5 : IVec S256x256 1) {p : BitVec 32} (hp : StepOk p) (r : Fin 2) :
    (n : Nat) → n ≤ 45 → Mxu F → PR F (Mxu F)
  | 0, _, m => pure m
  | n + 1, h, m => do
    let m ← chunk c v0 v5 hp r ⟨44 - n, by omega⟩ m
    chunks c v0 v5 hp r n (Nat.le_of_succ_le h) m

/-- Step `p` of parity `r`. -/
def step (c : Refs) (v0 : IVec S1x128 32) (v5 : IVec S256x256 1) {p : BitVec 32} (hp : StepOk p) (r : Fin 2) (m : Mxu F) :
    PR F (Mxu F) := do
  head c hp r
  chunks c v0 v5 hp r 45 (Nat.le_refl _) m

/-! ## The mixed activations of a chunk -/

/-- Lane `i`'s source among the even and among the odd lanes' sources. -/
def evenIx (v0 : IVec S1x128 32) : IVec S1x128 32 :=
  addi (fdivV v0 2#32) (muli (broadcast S1x128 64#32) (fmodV v0 2#32))
def oddIx (v0 : IVec S1x128 32) : IVec S1x128 32 :=
  addi (fdivV v0 2#32) (muli (broadcast S1x128 64#32) (subi (broadcast S1x128 1#32) (fmodV v0 2#32)))

/-- The columns of `x` taken at the lanes `ix`, rounded. -/
def gat (ix : IVec S1x128 32) (x : FVec F S192x128 .f32) : FVec F S192x128 .bf16 :=
  let b : IVec S192x128 32 := broadcastTo S192x128 (shapeCast S1x128 ix shapeCasts_S1x128_S1x128) broadcasts_S1x128_S192x128
  let at' : IVec S192x128 32 := select (cmpi .slt b (broadcast S192x128 0#32)) (addi b (broadcast S192x128 128#32)) b
  truncf .bf16 (dynamicGather 1 x (shapeCast S192x128 (shapeCast S192x128x1 at' shapeCasts_S192x128_S192x128x1)
    shapeCasts_S192x128x1_S192x128)) bitsLt_bf16_f32

/-- The lanes below 64. -/
def lowV (v0 : IVec S1x128 32) : IVec S192x128 1 :=
  broadcastTo S192x128 (shapeCast S1x128 (cmpi .slt v0 (broadcast S1x128 64#32)) shapeCasts_S1x128_S1x128) broadcasts_S1x128_S192x128

/-- Interleave the two groups of activation columns of chunk `g`. -/
def mix (c : Refs) (v0 : IVec S1x128 32) (g : Fin 45) : PR F PUnit := do
  let a ← Prog.lift (.load c.xr (Rect.unit (s := S192x11520) ![0, 128 * g.val] S192x128.size
    (xrin ⟨g.val, by omega⟩)).toLoadRect (View.loadsAt_vmem h_S192x128))
  let b ← Prog.lift (.load c.xr (Rect.unit (s := S192x11520) ![0, 128 * (g.val + 45)] S192x128.size
    (xrin ⟨g.val + 45, by omega⟩)).toLoadRect (View.loadsAt_vmem h_S192x128))
  let _ ← Prog.lift (.load c.xm (Rect.unit (s := S45x192x256) ![g.val, 0, 128 * (0 : Fin 2).val] S1x192x128.size
    (xmin g 0)).toLoadRect (View.loadsAt_vmem h_S1x192x128))
  Prog.lift (.store c.xm (Rect.unit (s := S45x192x256) ![g.val, 0, 128 * (0 : Fin 2).val] S1x192x128.size (xmin g 0))
    (shapeCast S1x192x128 (gat (evenIx v0) (select (lowV v0) (extf .f32 a bitsLt_bf16_f32)
      (dynamicRotate 1 64#32 none (extf .f32 b bitsLt_bf16_f32) rotates_S192x128_d1))) shapeCasts_S192x128_S1x192x128) Finset.univ
    (View.stores_vmem h_S1x192x128 (c.hxm.storeExact_slice rfl _ (xmpk g 0)) (fun _ => rfl)) (.inl rfl))
  let _ ← Prog.lift (.load c.xm (Rect.unit (s := S45x192x256) ![g.val, 0, 128 * (1 : Fin 2).val] S1x192x128.size
    (xmin g 1)).toLoadRect (View.loadsAt_vmem h_S1x192x128))
  Prog.lift (.store c.xm (Rect.unit (s := S45x192x256) ![g.val, 0, 128 * (1 : Fin 2).val] S1x192x128.size (xmin g 1))
    (shapeCast S1x192x128 (gat (oddIx v0) (select (lowV v0)
      (dynamicRotate 1 64#32 none (extf .f32 b bitsLt_bf16_f32) rotates_S192x128_d1) (extf .f32 a bitsLt_bf16_f32)))
      shapeCasts_S192x128_S1x192x128) Finset.univ
    (View.stores_vmem h_S1x192x128 (c.hxm.storeExact_slice rfl _ (xmpk g 1)) (fun _ => rfl)) (.inl rfl))

/-- Mix the chunks from `45 - n` on. -/
def mixes (c : Refs) (v0 : IVec S1x128 32) : (n : Nat) → n ≤ 45 → PR F PUnit
  | 0, _ => pure ⟨⟩
  | n + 1, h => do
    mix c v0 ⟨44 - n, by omega⟩
    mixes c v0 n (Nat.le_of_succ_le h)

/-! ## The body -/

/-- The lane numbers, and the even rows of a weight tile. -/
def lanes : IVec S1x128 32 := iota .tc S1x128 32 [1] iota_S1x128_d1_w32
def evens : IVec S256x256 1 := cmpi .eq (andi (iota .tc S256x256 32 [0] iota_S256x256_d0_w32) (broadcast S256x256 1#32))
  (broadcast S256x256 0#32)

/-- The number of the first step of trip `t`, as the kernel computes it. -/
def pw (t : Fin k0_t1_loop.trips) : BitVec 32 :=
  Scalar.muli 2#32 (Scalar.addi 0#32 (Scalar.muli (Scf.iv 0#32 1#32 t) 1#32))

theorem inOk_lt : ∀ p : Fin 41, InOk (BitVec.ofNat 32 p.val) := by
  have h1 : ∀ p : Fin 41, slotw (BitVec.ofNat 32 p.val) < 3 := by decide +kernel
  have h2 : ∀ (p : Fin 41) (h : Fin 2), (colw (BitVec.ofNat 32 p.val) h).toNat + 256 ≤ 20736 := by decide +kernel
  have h3 : ∀ (p : Fin 41) (h : Fin 2), (basew (colw (BitVec.ofNat 32 p.val) h)).toNat + 128 ≤ 2592 := by decide +kernel
  exact fun p => ⟨h1 p, h2 p, h3 p⟩

theorem inOk_of {w : BitVec 32} (h : w.toNat < 41) : InOk w := by
  have e : w = BitVec.ofNat 32 w.toNat := by simp
  rw [e]; exact inOk_lt ⟨w.toNat, h⟩

theorem stepOk_lt : ∀ p : Fin 40, StepOk (BitVec.ofNat 32 p.val) := by
  have h1 : ∀ p : Fin 40, (BitVec.ofNat 32 p.val).toNat < 41 := by decide +kernel
  have h2 : ∀ p : Fin 40, (Scalar.addi (BitVec.ofNat 32 p.val) 1#32).toNat < 41 := by decide +kernel
  have h3 : ∀ p : Fin 40, condIn (BitVec.ofNat 32 p.val) = 1#1 → (Scalar.addi (BitVec.ofNat 32 p.val) 2#32).toNat < 41 := by
    decide +kernel
  have h4 : ∀ p : Fin 40, condGe (BitVec.ofNat 32 p.val) 2#32 = 1#1 → ycol (BitVec.ofNat 32 p.val) 2#32 + 512 ≤ 20736 := by
    decide +kernel
  have h5 : ∀ p : Fin 40, condGe (BitVec.ofNat 32 p.val) 3#32 = 1#1 → ycol (BitVec.ofNat 32 p.val) 3#32 + 512 ≤ 20736 := by
    decide +kernel
  exact fun p => ⟨inOk_of (h1 p), inOk_of (h2 p), fun h => inOk_of (h3 p h), h4 p, h5 p⟩

theorem stepOk_of {w : BitVec 32} (h : w.toNat < 40) : StepOk w := by
  have e : w = BitVec.ofNat 32 w.toNat := by simp
  rw [e]; exact stepOk_lt ⟨w.toNat, h⟩

theorem pw_val : ∀ t : Fin k0_t1_loop.trips, (pw t).toNat = 2 * t.val ∧ (Scalar.addi (pw t) 1#32).toNat = 2 * t.val + 1 ∧ t.val < 20 := by
  decide +kernel

theorem ok0 (t : Fin k0_t1_loop.trips) : StepOk (pw t) := stepOk_of (by have := pw_val t; omega)
theorem ok1 (t : Fin k0_t1_loop.trips) : StepOk (Scalar.addi (pw t) 1#32) := stepOk_of (by have := pw_val t; omega)

/-- Trip `t`: two steps. -/
def trip (c : Refs) (v0 : IVec S1x128 32) (v5 : IVec S256x256 1) (t : Fin k0_t1_loop.trips) (m : Mxu F) : PR F (Mxu F) := do
  let m ← step c v0 v5 (ok0 t) 0 m
  step c v0 v5 (ok1 t) 1 m

/-- What precedes the loop. -/
def before (c : Refs) (v0 : IVec S1x128 32) (v5 : IVec S256x256 1) : PR F (Mxu F) := do
  Prog.lift (.enqueueDma c.z (.here c.zb) (.dma c.zS.sem) c.hz.wordExact c.hzb.wordExact ⟨Or.inl rfl, trivial⟩)
  Prog.lift (.enqueueDma c.x (.here c.xr) (.dma c.xS.sem) c.hx.wordExact c.hxr.wordExact ⟨Or.inl rfl, trivial⟩)
  startIn c (inOk_lt 0) 0
  startIn c (inOk_lt 1) 1
  let m ← drain c 0 Mxu.init
  let m ← drain c 1 m
  Prog.lift (.waitDma2 c.zS.sem c.z c.zb c.hz.wordExact c.hzb.wordExact)
  Prog.lift (.waitDma2 c.xS.sem c.x c.xr c.hx.wordExact c.hxr.wordExact)
  mixes c v0 45 (Nat.le_refl _)
  waitIn c (inOk_lt 0) 0
  tables c v0 0 0 (colw 0#32 0) ((inOk_lt 0).base 0)
  tables c v0 0 1 (colw 0#32 0) ((inOk_lt 0).base 0)
  tables c v0 0 2 (colw 0#32 1) ((inOk_lt 0).base 1)
  tables c v0 0 3 (colw 0#32 1) ((inOk_lt 0).base 1)
  let m ← push c v5 0 0 0 0 0 m
  push c v5 0 0 0 1 0 m

/-- Chunk 0 of the last block: each unit multiplies its own half of the rows. -/
def accHalf (c : Refs) (h r : Fin 2) (m : Mxu F) : PR F (Mxu F) := do
  let x ← xrow c 0 h
  pure (m.accLhs h r (48 * (0 : Fin 2).val + 24 * h.val) x (fit 0 h))

/-- Round `i` of the last block: unit 0 takes chunk `i`, unit 1 chunk `22 + i`. -/
def lastRound (c : Refs) (v5 : IVec S256x256 1) (i : Fin 23) (m : Mxu F) : PR F (Mxu F) := do
  let m ← if h : i.val + 1 < 23 then do
      let m ← push c v5 1 0 ⟨i.val + 1, by omega⟩ 0 (regOf (i.val + 1) 0) m
      push c v5 1 0 ⟨i.val + 23, by omega⟩ 1 (regOf (i.val + 1) 0) m
    else pure m
  let m ← if i.val = 0 then do
      let m ← accHalf c 0 (regOf i.val 0) m
      accHalf c 1 (regOf i.val 0) m
    else do
      let m ← acc2 c 0 ⟨i.val, by omega⟩ 0 (regOf i.val 0) m
      acc2 c 0 ⟨i.val + 22, by omega⟩ 1 (regOf i.val 0) m
  match i.val with
  | 3 => drain c 1 m
  | _ => pure m

def lastRounds (c : Refs) (v5 : IVec S256x256 1) : (n : Nat) → n ≤ 23 → Mxu F → PR F (Mxu F)
  | 0, _, m => pure m
  | n + 1, h, m => do
    let m ← lastRound c v5 ⟨22 - n, by omega⟩ m
    lastRounds c v5 n (Nat.le_of_succ_le h) m

/-- Pop both units' accumulators of half `mh` of the rows, and store their rounded sum. -/
def lastPop (c : Refs) (mh : Fin 2) (m : Mxu F) : PR F (Mxu F) := do
  let _ ← Prog.lift (.load c.ot (Rect.unit (s := S2x192x512) ![(0 : Fin 2).val, 96 * mh.val, 256 * (0 : Fin 2).val] S1x96x256.size
    (oin 0 mh 0)).toLoadRect (View.loadsAt_vmem h_S1x96x256))
  Prog.lift (.store c.ot (Rect.unit (s := S2x192x512) ![(0 : Fin 2).val, 96 * mh.val, 256 * (0 : Fin 2).val] S1x96x256.size (oin 0 mh 0))
    (shapeCast S1x96x256 (truncf .bf16 (addf (m.read 0 (48 * (0 : Fin 2).val + 24 * mh.val) (fit 0 mh))
      ((m.pop 0 (48 * (0 : Fin 2).val + 24 * mh.val) 96 (fit 0 mh)).read 1 (48 * (0 : Fin 2).val + 24 * mh.val) (fit 0 mh))) bitsLt_bf16_f32)
      shapeCasts_S96x256_S1x96x256) Finset.univ
    (View.stores_vmem h_S1x96x256 (c.hot.storeExact_slice rfl _ (opk 0 mh 0)) (fun _ => rfl)) (.inl rfl))
  pure ((m.pop 0 (48 * (0 : Fin 2).val + 24 * mh.val) 96 (fit 0 mh)).pop 1 (48 * (0 : Fin 2).val + 24 * mh.val) 96 (fit 0 mh))

/-- The source and destination of the copy of the last half block. -/
def lsrc (c : Refs) : Memref sig .tc .vmem S192x256 .bf16 :=
  (c.ot.slice (Rect.unit (s := S2x192x512) ![0, 0, 0] S1x192x256.size inb_S2x192x512_S1x192x256_0_0_0) (fun _ => rfl)).squeeze
    S192x256 squeezes_S1x192x256_S192x256
def ldst (c : Refs) : Memref sig .tc .hbm S192x256 .bf16 :=
  c.y.slice (Rect.unit (s := S192x20736) ![0, 20480] S192x256.size inb_S192x20736_S192x256_0_20480) (fun _ => rfl)

/-- What follows the loop. -/
def after (c : Refs) (v5 : IVec S256x256 1) (m : Mxu F) : PR F PUnit := do
  owait c 1 (k := 18944) (by decide)
  ostart c 0 (k := 19456) (by decide)
  let m ← lastRounds c v5 23 (Nat.le_refl _) m
  ostart c 1 (k := 19968) (by decide)
  owait c 0 (k := 19456) (by decide)
  let m ← lastPop c 0 m
  let m ← lastPop c 1 m
  Prog.lift (.enqueueDma (lsrc c) (.here (ldst c)) (.dma (osem c 0).sem)
    ((c.hot.wordExact_slice rfl _ wordsbf16_S2x192x512_S1x192x256_0_0_0).reshape _ _)
    (c.hy.wordExact_slice rfl _ wordsbf16_S192x20736_S192x256_0_20480) ⟨Or.inl rfl, trivial⟩)
  owait c 1 (k := 19968) (by decide)
  Prog.lift (.waitDma2 (osem c 0).sem (lsrc c) (ldst c)
    ((c.hot.wordExact_slice rfl _ wordsbf16_S2x192x512_S1x192x256_0_0_0).reshape _ _)
    (c.hy.wordExact_slice rfl _ wordsbf16_S192x20736_S192x256_0_20480))
  m.exit
  pure ⟨⟩

/-- The whole body. -/
def body (c : Refs) : PR F PUnit := do
  let m ← before c lanes evens
  let m ← Scf.Loop.for k0_t1_loop k0_t1_ok m (trip c lanes evens)
  after c evens m

end Cert.Kernel.Rolled
-- ==== Proof.Spec.lean ====
/- What the kernel's buffers and accumulators hold, as functions of the four inputs alone. -/
module

public import proofs.«01_k».proof.Proof.Rolled
public import Idealize.ShloMosaic.Lib.ValueIdxCore

@[expose] public section

noncomputable section

namespace Cert.Kernel.Rolled

open Idealize.ShloMosaic Idealize.ShloMosaic.ValueIdx Cert.Kernel Cert.Kernel.Gen

variable {F : FTy → Type} [FloatOps F]

/-- A rectangle of an array's elements. -/
def ldv {s : Shape} {α : Type} (f : s.Idx → α) (r : Rect s) : r.toLoadRect.shape.Idx → α := fun x => f (r.emb x)

/-- The four inputs. -/
structure In (F : FTy → Type) [FloatOps F] where
  x : S192x11520.Idx → Elt F .bf16
  q : S1440x20736.Idx → Elt F .i32
  s : S90x20736.Idx → Elt F .bf16
  z : S90x2592.Idx → Elt F .i32

/-- The column of the matrix that column `k` of block `w` holds. -/
def colOf (w : BitVec 32) (k : Fin 512) : Fin 20736 :=
  ⟨((colw w ⟨k.val / 256, by omega⟩).toNat + k.val % 256) % 20736, Nat.mod_lt _ (by decide)⟩

/-- A ring slot of code words holding block `w`. -/
def qbS (V : In F) (w : BitVec 32) : S3x1440x512.Idx → Elt F .i32 := fun i => V.q (ix2 (i 1) (colOf w (i 2)))

/-- A parity of scales holding block `w`. -/
def sbS (V : In F) (w : BitVec 32) : S2x90x512.Idx → Elt F .bf16 := fun i => V.s (ix2 (i 1) (colOf w (i 2)))

/-- The window of zeros read for column `wc`. -/
def zwin (V : In F) (wc : BitVec 32) : Vec F S90x128 .i32 :=
  fun i => V.z (ix2 (i 0) ⟨((basew wc).toNat + (i 1).val) % 2592, Nat.mod_lt _ (by decide)⟩)

/-- The zeros of tile `sub` of the half that starts at column `wc`. -/
def nbS (V : In F) (wc : BitVec 32) (sub : Nat) : S90x128.Idx → Elt F .i32 :=
  shapeCast S90x128 (zeros4 (F := F) lanes wc sub (zwin V wc)) shapeCasts_S90x128_S90x128

/-- Tile `t` of block `w`'s table of zeros. -/
def ztT (V : In F) (w : BitVec 32) (t : Fin 4) : Vec F S1x45x128 .i32 :=
  let n := nbS V (colw w ⟨t.val / 2, by omega⟩) (t.val % 2)
  shapeCast S1x45x128 (ori (ori (ldv n (Rect.unit (s := S90x128) ![0, 0] S45x128.size inb_S90x128_S45x128_0_0))
    (shli (ldv n (Rect.unit (s := S90x128) ![45, 0] S45x128.size inb_S90x128_S45x128_45_0))
      (broadcast S45x128 16#32))) (broadcast S45x128 1124090624#32)) shapeCasts_S45x128_S1x45x128

/-- The tile of a column. -/
def tileOf (k : Fin 512) : Fin 4 := ⟨k.val / 128, by omega⟩
def inTile (k : Fin 512) : Fin 128 := ⟨k.val % 128, by omega⟩

/-- Block `w`'s table of zeros. -/
def ztS (V : In F) (w : BitVec 32) : S2x45x512.Idx → Elt F .i32 :=
  fun i => ztT V w (tileOf (i 2)) (ix3 0 (i 1) (inTile (i 2)))

/-- Tile `t` of block `w`'s scales, widened. -/
def scS (V : In F) (w : BitVec 32) (p : Fin 2) (t : Fin 4) : S90x128.Idx → Elt F .f32 :=
  shapeCast S90x128 (extf .f32 (shapeCast S90x128
    (ldv (sbS V w) (Rect.unit (s := S2x90x512) ![p.val, 0, 128 * t.val] S1x90x128.size (stin p t)))
    shapeCasts_S1x90x128_S90x128) bitsLt_bf16_f32) shapeCasts_S90x128_S90x128

def stT (V : In F) (w : BitVec 32) (p : Fin 2) (t : Fin 4) : Vec F S1x90x128 .f32 :=
  shapeCast S1x90x128 (ldv (scS V w p t) (Rect.unit (s := S90x128) ![0, 0] S90x128.size inb_S90x128_S90x128_0_0)) shapeCasts_S90x128_S1x90x128

/-- Block `w`'s table of scales. -/
def stS (V : In F) (w : BitVec 32) (p : Fin 2) : S2x90x512.Idx → Elt F .f32 :=
  fun i => stT V w p (tileOf (i 2)) (ix3 0 (i 1) (inTile (i 2)))

/-- Part `j` of chunk `g` of the mixed activations. -/
def mixT (V : In F) (g : Fin 45) (j : Fin 2) : Vec F S1x192x128 .bf16 :=
  let a : Vec F S192x128 .bf16 := ldv V.x (Rect.unit (s := S192x11520) ![0, 128 * g.val] S192x128.size (xrin ⟨g.val, by omega⟩))
  let b : Vec F S192x128 .bf16 := ldv V.x (Rect.unit (s := S192x11520) ![0, 128 * (g.val + 45)] S192x128.size (xrin ⟨g.val + 45, by omega⟩))
  match j with
  | 0 => shapeCast S1x192x128 (gat (evenIx lanes) (select (lowV lanes) (extf .f32 a bitsLt_bf16_f32)
      (dynamicRotate 1 64#32 none (extf .f32 b bitsLt_bf16_f32) rotates_S192x128_d1))) shapeCasts_S192x128_S1x192x128
  | 1 => shapeCast S1x192x128 (gat (oddIx lanes) (select (lowV lanes)
      (dynamicRotate 1 64#32 none (extf .f32 b bitsLt_bf16_f32) rotates_S192x128_d1) (extf .f32 a bitsLt_bf16_f32)))
      shapeCasts_S192x128_S1x192x128

/-- The mixed activations. -/
def xmS (V : In F) : S45x192x256.Idx → Elt F .bf16 :=
  fun i => mixT V (i 0) ⟨(i 2).val / 128, by have : (i 2).val < 256 := (i 2).isLt; omega⟩
    (ix3 0 (i 1) ⟨(i 2).val % 128, Nat.mod_lt _ (by decide)⟩)

/-- The rows `96 mh …` of chunk `g` of the mixed activations. -/
def xrS (V : In F) (g : Fin 45) (mh : Fin 2) : FVec F S96x256 .bf16 :=
  shapeCast S96x256 (ldv (xmS V) (Rect.unit (s := S45x192x256) ![g.val, 96 * mh.val, 0] S1x96x256.size (xin g mh))) shapeCasts_S1x96x256_S96x256

/-- The code words of chunk `g` of block `w`, columns of unit `h`. -/
def codeS (V : In F) (w : BitVec 32) (l : Fin 3) (g : Fin 45) (h : Fin 2) : IVec S128x256 32 :=
  if h0 : 128 * g.val % 1440 + 128 ≤ 1440 then
    nibs S128x256 (128 * g.val / 1440) (shapeCast S128x256 (ldv (qbS V w) (Rect.unit (s := S3x1440x512) ![l.val, 128 * g.val % 1440, 256 * h.val] S1x128x256.size (qin l h h0))) shapeCasts_S1x128x256_S128x256)
  else if g.val = 11 then
    concatenate S128x256 0 [⟨S32x256, nibs S32x256 0 (shapeCast S32x256 (ldv (qbS V w) (Rect.unit (s := S3x1440x512) ![l.val, 1408, 256 * h.val] S1x32x256.size (qin l h (by decide)))) shapeCasts_S1x32x256_S32x256)⟩,
      ⟨S96x256, nibs S96x256 1 (shapeCast S96x256 (ldv (qbS V w) (Rect.unit (s := S3x1440x512) ![l.val, 0, 256 * h.val] S1x96x256.size (qin l h (by decide)))) shapeCasts_S1x96x256_S96x256)⟩]
      concatenates_S32x256_S96x256_S128x256_d0
  else if g.val = 22 then
    concatenate S128x256 0 [⟨S64x256, nibs S64x256 1 (shapeCast S64x256 (ldv (qbS V w) (Rect.unit (s := S3x1440x512) ![l.val, 1376, 256 * h.val] S1x64x256.size (qin l h (by decide)))) shapeCasts_S1x64x256_S64x256)⟩,
      ⟨S64x256, nibs S64x256 2 (shapeCast S64x256 (ldv (qbS V w) (Rect.unit (s := S3x1440x512) ![l.val, 0, 256 * h.val] S1x64x256.size (qin l h (by decide)))) shapeCasts_S1x64x256_S64x256)⟩]
      concatenates_S64x256_S64x256_S128x256_d0
  else
    concatenate S128x256 0 [⟨S96x256, nibs S96x256 2 (shapeCast S96x256 (ldv (qbS V w) (Rect.unit (s := S3x1440x512) ![l.val, 1344, 256 * h.val] S1x96x256.size (qin l h (by decide)))) shapeCasts_S1x96x256_S96x256)⟩,
      ⟨S32x256, nibs S32x256 3 (shapeCast S32x256 (ldv (qbS V w) (Rect.unit (s := S3x1440x512) ![l.val, 0, 256 * h.val] S1x32x256.size (qin l h (by decide)))) shapeCasts_S1x32x256_S32x256)⟩]
      concatenates_S96x256_S32x256_S128x256_d0

/-- The weight tile of chunk `g` of block `w`, columns of unit `h`. -/
def wt (V : In F) (w : BitVec 32) (l : Fin 3) (p : Fin 2) (g : Fin 45) (h : Fin 2) : FVec F S256x256 .bf16 :=
  wts evens (codeS V w l g h)
    (ldv (ztS V w) (Rect.unit (s := S2x45x512) ![p.val, g.val, 256 * h.val] S1x1x256.size (zin p g h)))
    (ldv (stS V w p) (Rect.unit (s := S2x90x512) ![p.val, g.val, 256 * h.val] S1x1x256.size (sin p ⟨g.val, by omega⟩ h)))
    (ldv (stS V w p) (Rect.unit (s := S2x90x512) ![p.val, g.val + 45, 256 * h.val] S1x1x256.size
      (sin p ⟨g.val + 45, by omega⟩ h)))

/-! ## The matrix units -/

/-- What the matrix units hold: each unit's staged tiles, and its accumulated rows by parity; `none` where nothing has
    been accumulated. -/
structure AS (F : FTy → Type) [FloatOps F] where
  reg : Fin 2 → Fin 2 → Option (FVec F S256x256 .bf16)
  acc : Fin 2 → Fin 2 → Fin 192 → Fin 256 → Option (F .f32)

/-- An accumulated entry after one more term. -/
def depO : Option (F .f32) → F .f32 → F .f32
  | none, x => x
  | some e, x => FloatOps.addf e x

/-- The value of an entry. -/
def valO (o : Option (F .f32)) : F .f32 := o.getD (FloatOps.ofBits .f32 0)

/-- The product of 96 rows with a tile. -/
def pass (t : FVec F S256x256 .bf16) (x : FVec F S96x256 .bf16) : FVec F S96x256 .f32 :=
  Mxu.Staged.pass ⟨.bf16, false, t⟩ (M := 96) x

def halfOf (n : Fin 192) : Fin 2 := ⟨n.val / 96, by omega⟩
def inHalf (n : Fin 192) : Fin 96 := ⟨n.val % 96, by omega⟩

def AS.push (a : AS F) (h r : Fin 2) (v : FVec F S256x256 .bf16) : AS F :=
  { a with reg := fun h' r' => if h' = h ∧ r' = r then some v else a.reg h' r' }
def AS.take (a : AS F) (h r : Fin 2) : AS F :=
  { a with reg := fun h' r' => if h' = h ∧ r' = r then none else a.reg h' r' }
def AS.dep (a : AS F) (p h mh : Fin 2) (t : FVec F S256x256 .bf16) (x : FVec F S96x256 .bf16) : AS F :=
  ⟨a.reg, fun p' h' n C => if p' = p ∧ h' = h ∧ halfOf n = mh then
      some (depO (a.acc p' h' n C) (pass t x (Mxu.ix (inHalf n) C))) else a.acc p' h' n C⟩
def AS.pop (a : AS F) (p h mh : Fin 2) : AS F :=
  { a with acc := fun p' h' n C => if p' = p ∧ h' = h ∧ halfOf n = mh then none else a.acc p' h' n C }

def rowOf (p : Fin 2) (n : Fin 192) : Fin 1024 := ⟨192 * p.val + n.val, by omega⟩

/-- The matrix units hold `a`. -/
structure Abs (m : Mxu F) (a : AS F) : Prop where
  reg : ∀ h r, m.reg h r = (a.reg h r).map fun t => ⟨.bf16, false, t⟩
  live : ∀ p h n C, m.live h (rowOf p n) = (a.acc p h n C).isSome
  acc : ∀ p h n C, m.acc h (rowOf p n) C = valO (a.acc p h n C)
  top : ∀ h (R : Fin 1024), 384 ≤ R.val → m.live h R = false

theorem Abs.pushOk {m : Mxu F} {a : AS F} (ha : Abs m a) {h r : Fin 2} (hn : a.reg h r = none) (tr : Bool) : m.PushOk h r tr := by
  unfold Mxu.PushOk; rw [ha.reg, hn]; simp

theorem Abs.push {m : Mxu F} {a : AS F} (ha : Abs m a) {h r : Fin 2} (hn : a.reg h r = none) (v : FVec F S256x256 .bf16) :
    Abs (m.pushed h r false v) (a.push h r v) := by
  have e : m.reg h r = none := by rw [ha.reg, hn]; rfl
  unfold Mxu.pushed
  rw [e]
  refine ⟨fun h' r' => ?_, ha.live, ha.acc, ha.top⟩
  show (if h' = h ∧ r' = r then _ else m.reg h' r') = Option.map _ (if h' = h ∧ r' = r then some v else a.reg h' r')
  split
  · rfl
  · exact ha.reg h' r'

theorem row_iff (p p' mh : Fin 2) (n : Fin 192) :
    (4 * (48 * p.val + 24 * mh.val) ≤ (rowOf p' n).val ∧ (rowOf p' n).val < 4 * (48 * p.val + 24 * mh.val) + 96) ↔
      (p' = p ∧ halfOf n = mh) := by
  unfold rowOf halfOf
  simp only [Fin.ext_iff]
  omega

theorem row_sub (p : Fin 2) (n : Fin 192) (h) :
    (⟨(rowOf p n).val - 4 * (48 * p.val + 24 * (halfOf n).val), h⟩ : Fin 96) = inHalf n := by
  unfold rowOf halfOf inHalf
  simp only [Fin.ext_iff]
  omega

theorem Abs.accBy {m : Mxu F} {a : AS F} (ha : Abs m a) (p h mh : Fin 2) (t : FVec F S256x256 .bf16) (x : FVec F S96x256 .bf16)
    (hf : Mxu.Fits (48 * p.val + 24 * mh.val) 96) :
    Abs (m.accBy h ⟨.bf16, false, t⟩ (48 * p.val + 24 * mh.val) (M := 96) x hf) (a.dep p h mh t x) := by
  refine ⟨ha.reg, fun p' h' n C => ?_, fun p' h' n C => ?_, fun h' R hR => ?_⟩
  · show (if _ then _ else _) = Option.isSome (if _ then _ else _)
    by_cases hc : p' = p ∧ h' = h ∧ halfOf n = mh
    · rw [if_pos hc, if_pos ⟨hc.2.1, (row_iff _ _ _ _).mpr ⟨hc.1, hc.2.2⟩⟩]; rfl
    · rw [if_neg hc, if_neg (fun h => hc ⟨((row_iff _ _ _ _).mp h.2).1, h.1, ((row_iff _ _ _ _).mp h.2).2⟩)]; exact ha.live p' h' n C
  · show (dite _ _ _) = valO (if _ then _ else _)
    by_cases hc : p' = p ∧ h' = h ∧ halfOf n = mh
    · obtain ⟨rfl, rfl, rfl⟩ := hc
      rw [if_pos ⟨rfl, rfl, rfl⟩, dif_pos ⟨rfl, (row_iff _ _ _ _).mpr ⟨rfl, rfl⟩⟩, row_sub, ha.live p' h' n C, ha.acc]
      cases a.acc p' h' n C <;> rfl
    · rw [if_neg hc, dif_neg (fun h => hc ⟨((row_iff _ _ _ _).mp h.2).1, h.1, ((row_iff _ _ _ _).mp h.2).2⟩)]; exact ha.acc p' h' n C
  · show (if _ then _ else _) = false
    rw [if_neg (by omega)]; exact ha.top h' R hR

theorem Abs.accLhs {m : Mxu F} {a : AS F} (ha : Abs m a) (p h mh r : Fin 2) {t : FVec F S256x256 .bf16} (ht : a.reg h r = some t)
    (x : FVec F S96x256 .bf16) (hf : Mxu.Fits (48 * p.val + 24 * mh.val) 96) :
    Abs (m.accLhs h r (48 * p.val + 24 * mh.val) (M := 96) x hf) ((a.dep p h mh t x).take h r)
      ∧ (m.accLhs h r (48 * p.val + 24 * mh.val) (M := 96) x hf).gmr h = some ⟨.bf16, false, t⟩ := by
  have e : m.staged h r = ⟨.bf16, false, t⟩ := by unfold Mxu.staged; rw [ha.reg, ht]; rfl
  unfold Mxu.accLhs
  rw [e]
  have hb := ha.accBy p h mh t x hf
  refine ⟨⟨fun h' r' => ?_, hb.live, hb.acc, hb.top⟩, if_pos rfl⟩
  show (if h' = h ∧ r' = r then none else m.reg h' r') = Option.map _ (if h' = h ∧ r' = r then none else a.reg h' r')
  split
  · rfl
  · exact ha.reg h' r'

theorem Abs.read {m : Mxu F} {a : AS F} (ha : Abs m a) (p h mh : Fin 2) (hf : Mxu.Fits (48 * p.val + 24 * mh.val) 96)
    (n : Fin 192) (hn : halfOf n = mh) (C : Fin 256) :
    m.read h (48 * p.val + 24 * mh.val) hf (ix2 (inHalf n) C) = valO (a.acc p h n C) := by
  subst hn
  rw [← ha.acc p h n C]
  show m.acc h (Mxu.row hf (inHalf n)) C = _
  congr 1
  unfold Mxu.row inHalf rowOf halfOf
  simp only [Fin.ext_iff]
  omega

theorem Abs.pop {m : Mxu F} {a : AS F} (ha : Abs m a) (p h mh : Fin 2) (hf : Mxu.Fits (48 * p.val + 24 * mh.val) 96) :
    Abs (m.pop h (48 * p.val + 24 * mh.val) 96 hf) (a.pop p h mh) := by
  refine ⟨ha.reg, fun p' h' n C => ?_, fun p' h' n C => ?_, fun h' R hR => ?_⟩
  · show (if _ then _ else _) = Option.isSome (if _ then _ else _)
    by_cases hc : p' = p ∧ h' = h ∧ halfOf n = mh
    · rw [if_pos hc, if_pos ⟨hc.2.1, (row_iff _ _ _ _).mpr ⟨hc.1, hc.2.2⟩⟩]; rfl
    · rw [if_neg hc, if_neg (fun h => hc ⟨((row_iff _ _ _ _).mp h.2).1, h.1, ((row_iff _ _ _ _).mp h.2).2⟩)]; exact ha.live p' h' n C
  · show (if _ then _ else _) = valO (if _ then _ else _)
    by_cases hc : p' = p ∧ h' = h ∧ halfOf n = mh
    · rw [if_pos hc, if_pos ⟨hc.2.1, (row_iff _ _ _ _).mpr ⟨hc.1, hc.2.2⟩⟩]; rfl
    · rw [if_neg hc, if_neg (fun h => hc ⟨((row_iff _ _ _ _).mp h.2).1, h.1, ((row_iff _ _ _ _).mp h.2).2⟩)]; exact ha.acc p' h' n C
  · show (if _ then _ else _) = false
    rw [if_neg (by omega)]; exact ha.top h' R hR

/-- What one entry has accumulated before round `g`, over tiles `T`, rows `X` and the mask `M`. -/
def accO (T : Nat → Fin 2 → FVec F S256x256 .bf16) (X : Nat → Fin 2 → Fin 2 → FVec F S96x256 .bf16) (M : Nat → Fin 2 → Fin 2 → Bool)
    (h : Fin 2) (n : Fin 192) (C : Fin 256) : Nat → Option (F .f32)
  | 0 => none
  | g + 1 => if M g h (halfOf n) then some (depO (accO T X M h n C g) (pass (T g h) (X g h (halfOf n)) (Mxu.ix (inHalf n) C)))
      else accO T X M h n C g

/-- What the units hold before round `g` of parity `r`: the tiles of round `g` (while `g < N`), what has been accumulated,
    and of the other parity, until round 3, what the block before left. -/
def AT (N : Nat) (r : Fin 2) (T : Nat → Fin 2 → FVec F S256x256 .bf16) (X : Nat → Fin 2 → Fin 2 → FVec F S96x256 .bf16)
    (M : Nat → Fin 2 → Fin 2 → Bool) (prev : Fin 2 → Fin 192 → Fin 256 → Option (F .f32)) (g : Nat) : AS F where
  reg h r' := if r' = regOf g r ∧ g < N then some (T g h) else none
  acc p h n C := if p = r then accO T X M h n C g else if g ≤ 3 then prev h n C else none

/-! ## The blocks -/

/-- Block `b`'s number, ring slot and parity. -/
def bw (b : Nat) : BitVec 32 := BitVec.ofNat 32 b
def slotOf (b : Nat) : Fin 3 := ⟨b % 3, Nat.mod_lt _ (by decide)⟩
def parOf (b : Nat) : Fin 2 := ⟨b % 2, Nat.mod_lt _ (by decide)⟩
def ch (g : Nat) : Fin 45 := ⟨g % 45, Nat.mod_lt _ (by decide)⟩

/-- Chunk `g`'s tile of block `b`; after the last chunk, the next block's first. -/
def TB (V : In F) (b : Nat) (g : Nat) (h : Fin 2) : FVec F S256x256 .bf16 :=
  if g < 45 then wt V (bw b) (slotOf b) (parOf b) (ch g) h else wt V (bw (b + 1)) (slotOf (b + 1)) (parOf (b + 1)) (ch g) h
def XB (V : In F) (g : Nat) (_ mh : Fin 2) : FVec F S96x256 .bf16 := xrS V (ch g) mh
def allM : Nat → Fin 2 → Fin 2 → Bool := fun _ _ _ => true

/-- What block `b` accumulates. -/
def ACC (V : In F) (b : Nat) : Fin 2 → Fin 192 → Fin 256 → Option (F .f32) := fun h n C => accO (TB V b) (XB V) allM h n C 45

/-- The chunk of unit `h` at round `i` of the last block. -/
def lch (i : Nat) (h : Fin 2) : Fin 45 := if i = 0 then 0 else if h = 0 then ch i else ch (i + 22)
def TL (V : In F) (i : Nat) (h : Fin 2) : FVec F S256x256 .bf16 := wt V (bw 40) 1 0 (lch i h) h
def XL (V : In F) (i : Nat) (h mh : Fin 2) : FVec F S96x256 .bf16 := xrS V (lch i h) mh
def ML : Nat → Fin 2 → Fin 2 → Bool := fun i h mh => if i = 0 then h = mh else true
def LACC (V : In F) : Fin 2 → Fin 192 → Fin 256 → Option (F .f32) := fun h n C => accO (TL V) (XL V) ML h n C 23

/-- A rounded entry. -/
def rnd (e : F .f32) : F .bf16 := truncf .bf16 (fun _ : S96x256.Idx => e) bitsLt_bf16_f32 (ix2 0 0)

/-- The output buffer after a block's accumulators are drained. -/
def outS (A : Fin 2 → Fin 192 → Fin 256 → Option (F .f32)) : S2x192x512.Idx → Elt F .bf16 :=
  fun i => rnd (valO (A ⟨(i 2).val / 256, by have : (i 2).val < 512 := (i 2).isLt; omega⟩ (i 1) ⟨(i 2).val % 256, Nat.mod_lt _ (by decide)⟩))

/-- The output buffer of the last half block. -/
def outL (V : In F) : S2x192x512.Idx → Elt F .bf16 :=
  fun i => rnd (FloatOps.addf (valO (LACC V 0 (i 1) ⟨(i 2).val % 256, Nat.mod_lt _ (by decide)⟩))
    (valO (LACC V 1 (i 1) ⟨(i 2).val % 256, Nat.mod_lt _ (by decide)⟩)))

/-- The kernel's result. -/
def Y (V : In F) : S192x20736.Idx → Elt F .bf16 := fun i =>
  if (i 1).val < 20480 then outS (ACC V ((i 1).val / 512)) (ix3 0 (i 0) ⟨(i 1).val % 512, Nat.mod_lt _ (by decide)⟩)
  else outL V (ix3 0 (i 0) ⟨(i 1).val % 256, lt_trans (Nat.mod_lt _ (by decide)) (by decide : 256 < 512)⟩)

end Cert.Kernel.Rolled
-- ==== Proof.Cells.lean ====
/- Ownership of part of a memref at named contents, and the rules of the body's memory operations over it. -/
module

public import proofs.«01_k».proof.Proof.Rolled
public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic

@[expose] public section

noncomputable section

namespace Cert.Kernel.Rolled

open Cert.Kernel Cert.Kernel.Gen
open Idealize.ShloMosaic Idealize.ShloMosaic.TcCoe Idealize.ShloMosaic.Tactic
open Idealize.SL Idealize.SL.RA Idealize.SL.BI
open scoped Idealize.SL.BI Idealize.SL.RA.PCS
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The body's logic on core `d`. -/
abbrev WP (d : Dev nD) {α : Type} (p : PR F α) (K : α → sProp 𝕄) : sProp 𝕄 :=
  wp frame (wpE (defs₀ (F := F)) Variants.none (d : Thread nD τ) none) Set.univ p K

variable {sp sp' : Space} {cs : CoreSpace} {s : Shape} {e : EltTy}

/-- The elements `S` of memref `m` owned at share `q`, holding what `f` says. -/
def pt (d : Dev nD) (m : Memref sig .tc sp s e) (S : Finset s.Idx) (q : PosShare TreeShare) (f : s.Idx → Elt F e) : sProp 𝕄 :=
  iprop(∃ g, ⌜∀ i ∈ S, m.view.read (Elt F) g i = f i⌝ ∗ (m.view.loc (d : Thread nD τ) ↦[m.view.setOn S]{q} g))

theorem pt_congr {d : Dev nD} {m : Memref sig .tc sp s e} {S : Finset s.Idx} {q : PosShare TreeShare} {f f' : s.Idx → Elt F e}
    (h : ∀ i ∈ S, f i = f' i) : pt d m S q f ⊢ pt d m S q f' := by
  unfold pt
  iintro ⟨%g, %hg, H⟩
  iexists g; isplitr
  · ipureintro; exact fun i hi => (hg i hi).trans (h i hi)
  · iexact H

/-- A rectangle's own elements. -/
theorem rect_emb_mem (r : Rect s) (x : r.shape.Idx) : r.emb x ∈ r.set := by
  rw [← Rect.map_emb_univ]; exact Finset.mem_map_of_mem _ (Finset.mem_univ x)

/-- Parts of a memref owned together are owned apart. -/
theorem pt_split {d : Dev nD} {m : Memref sig .tc sp s e} {S T : Finset s.Idx} {q : PosShare TreeShare} {f : s.Idx → Elt F e}
    (h : Disjoint S T) : pt d m (S ∪ T) q f ⊢ iprop(pt d m S q f ∗ pt d m T q f) := by
  unfold pt
  iintro ⟨%g, %hg, H⟩
  have e : m.view.setOn (S ∪ T) = m.view.setOn S ∪ m.view.setOn T := Finset.map_union _ _
  rw [e]
  ihave H2 := (pointsTo_union (ℓ := m.view.loc (d : Thread nD τ)) (q := q) (f := g) (I := m.view.setOn S) (J := m.view.setOn T) ((Finset.disjoint_map _).mpr h)).1 $$ H
  icases H2 with ⟨H1, H2⟩
  isplitl [H1]
  · iexists g; isplitr
    · ipureintro; exact fun i hi => hg i (Finset.mem_union_left _ hi)
    · iexact H1
  · iexists g; isplitr
    · ipureintro; exact fun i hi => hg i (Finset.mem_union_right _ hi)
    · iexact H2

/-- Parts owned apart are owned together. -/
theorem pt_join {d : Dev nD} {m : Memref sig .tc sp s e} {S T : Finset s.Idx} {q : PosShare TreeShare} {f : s.Idx → Elt F e}
    (h : Disjoint S T) : iprop(pt d m S q f ∗ pt d m T q f) ⊢ pt d m (S ∪ T) q f := by
  unfold pt
  iintro ⟨⟨%g, %hg, H1⟩, ⟨%g', %hg', H2⟩⟩
  have hd : Disjoint (m.view.setOn S) (m.view.setOn T) := (Finset.disjoint_map _).mpr h
  iexists (m.view.setOn T).piecewise g' g
  isplitr
  · ipureintro
    intro i hi
    rcases Finset.mem_union.mp hi with hi | hi
    · rw [← hg i hi]
      exact View.read_congr_at i (Finset.piecewise_eq_of_notMem _ _ _ (Finset.disjoint_left.mp hd (m.view.mem_setOn.mpr hi)))
    · rw [← hg' i hi]
      exact View.read_congr_at i (Finset.piecewise_eq_of_mem _ _ _ (m.view.mem_setOn.mpr hi))
  · have e : m.view.setOn (S ∪ T) = m.view.setOn S ∪ m.view.setOn T := Finset.map_union _ _
    rw [e]
    iapply (pointsTo_join (ℓ := m.view.loc (d : Thread nD τ)) hd)
    isplitl [H1] <;> iassumption

/-- A share splits into two. -/
theorem pt_share {d : Dev nD} {m : Memref sig .tc sp s e} {S : Finset s.Idx} {q q₁ q₂ : PosShare TreeShare} {f : s.Idx → Elt F e}
    (h : q ∈ q₁ ·? q₂) : pt d m S q f ⊢ iprop(pt d m S q₁ f ∗ pt d m S q₂ f) := by
  unfold pt
  iintro ⟨%g, %hg, H⟩
  ihave H2 := (pointsTo_share (ℓ := m.view.loc (d : Thread nD τ)) (I := m.view.setOn S) (f := g) h).1 $$ H
  icases H2 with ⟨H1, H2⟩
  isplitl [H1]
  · iexists g; isplitr
    · ipureintro; exact hg
    · iexact H1
  · iexists g; isplitr
    · ipureintro; exact hg
    · iexact H2

/-- Two shares of one memref at the same contents make one. -/
theorem pt_unshare {d : Dev nD} {m : Memref sig .tc sp s e} {S : Finset s.Idx} {q q₁ q₂ : PosShare TreeShare} {f : s.Idx → Elt F e}
    (h : q ∈ q₁ ·? q₂) : iprop(pt d m S q₁ f ∗ pt d m S q₂ f) ⊢ pt d m S q f := by
  unfold pt
  iintro ⟨⟨%g, %hg, H1⟩, ⟨%g', %hg', H2⟩⟩
  iexists g
  isplitr
  · ipureintro; exact hg
  · have e : ∀ i ∈ m.view.setOn S, g' i = g i := by
      intro i hi
      obtain ⟨x, hx, rfl⟩ := Finset.mem_map.mp hi
      have h1 := (hg x hx).trans (hg' x hx).symm
      rw [View.read_apply, View.read_apply] at h1
      exact (cast_inj _ |>.mp h1).symm
    ihave H3 := (Entails.of_eq (pointsTo_congr (ℓ := m.view.loc (d : Thread nD τ)) (q := q₂) e)) $$ H2
    have hs : iprop((m.view.loc (d : Thread nD τ) ↦[m.view.setOn S]{q₁} g) ∗ (m.view.loc (d : Thread nD τ) ↦[m.view.setOn S]{q₂} g))
        ⊢ (m.view.loc (d : Thread nD τ) ↦[m.view.setOn S]{q} g : sProp 𝕄) := (pointsTo_share h).2
    iapply hs
    isplitl [H1] <;> iassumption

/-- A load of a rectangle inside the owned part. -/
theorem wp_ld {d : Dev nD} {m : Memref sig .tc cs s e} {r : Rect s} {hl : m.view.LoadsAt r.toLoadRect} {α : Type}
    {k : (r.toLoadRect.shape.Idx → Elt F e) → PR F α} {S : Finset s.Idx} {q : PosShare TreeShare} {f : s.Idx → Elt F e} {K : α → sProp 𝕄}
    (hS : r.set ⊆ S) :
    pt d m S q f ⊢ iprop((pt d m S q f -∗ WP d (k fun x => f (r.emb x)) K) -∗ WP d (.op (.load m r.toLoadRect hl) k) K) := by
  unfold pt
  iintro ⟨%g, %hg, H⟩ HK
  iapply (wp_load Variants.none (d : Thread nD τ) none Set.univ (m := m) (S := m.view.setOn S) (Finset.map_subset_map.mpr hS)) $$ H
  iintro H
  have e : m.view.readAt (Elt F) r.toLoadRect g = fun x => f (r.emb x) := by
    funext x
    exact hg _ (hS (rect_emb_mem r x))
  rw [e]
  iapply HK
  iexists g; isplitr
  · ipureintro; exact hg
  · iexact H

/-- A store of a rectangle inside the owned part. -/
theorem wp_st {d : Dev nD} {m : Memref sig .tc cs s e} {r : Rect s} {w : r.shape.Idx → Elt F e}
    {hx : (m.access r).Stores Finset.univ} {hm} {α : Type}
    {k : PUnit → PR F α} {S : Finset s.Idx} {f : s.Idx → Elt F e} {K : α → sProp 𝕄} (f' : s.Idx → Elt F e)
    (hS : r.set ⊆ S) (h1 : ∀ x, f' (r.emb x) = w x) (h2 : ∀ i ∈ S, i ∉ r.set → f' i = f i) :
    pt d m S fullShare f ⊢ iprop((pt d m S fullShare f' -∗ WP d (k ⟨⟩) K) -∗ WP d (.op (.store m r w Finset.univ hx hm) k) K) := by
  unfold pt
  iintro ⟨%g, %hg, H⟩ HK
  have hs : (m.access r).setOn Finset.univ ⊆ m.view.setOn S := by
    rw [show (m.access r).setOn Finset.univ = (m.view.slice r).set from rfl, View.set_slice]
    exact Finset.map_subset_map.mpr hS
  iapply (wp_store Variants.none (d : Thread nD τ) none Set.univ (m := m) (r := r) (S := m.view.setOn S) hs) $$ H
  iintro H
  iapply HK
  iexists _; isplitr; rotate_left
  · iexact H
  · ipureintro
    intro i hi
    by_cases hr : i ∈ r.set
    · rw [← Rect.map_emb_univ] at hr
      obtain ⟨x, -, rfl⟩ := Finset.mem_map.mp hr
      rw [h1]; exact View.read_slice_write_emb r g w (Finset.mem_univ x)
    · rw [h2 i hi hr, ← hg i hi]
      refine View.read_slice_write_of_not_mem r g w _ ?_
      rwa [Rect.map_emb_univ]

/-- A part of a memref is a slice of it. -/
theorem pt_slice {d : Dev nD} {m : Memref sig .tc sp s e} {r : Rect s} {hr : ∀ a, r.stride a = 1} {q : PosShare TreeShare}
    {f : s.Idx → Elt F e} : pt d m r.set q f ⊢ pt d (m.slice r hr) Finset.univ q (fun x => f (r.emb x)) := by
  unfold pt
  iintro ⟨%g, %hg, H⟩
  iexists g
  isplitr
  · ipureintro; intro i _; exact hg _ (rect_emb_mem r i)
  · rw [show (m.slice r hr).view.setOn Finset.univ = m.view.setOn r.set from View.set_slice _ r]
    iexact H

theorem pt_unslice {d : Dev nD} {m : Memref sig .tc sp s e} {r : Rect s} {hr : ∀ a, r.stride a = 1} {q : PosShare TreeShare}
    {f : s.Idx → Elt F e} : pt d (m.slice r hr) Finset.univ q (fun x => f (r.emb x)) ⊢ pt d m r.set q f := by
  unfold pt
  iintro ⟨%g, %hg, H⟩
  iexists g
  isplitr
  · ipureintro; intro i hi
    rw [← Rect.map_emb_univ] at hi
    obtain ⟨x, -, rfl⟩ := Finset.mem_map.mp hi
    exact hg x (Finset.mem_univ _)
  · rw [show (m.slice r hr).view.setOn Finset.univ = m.view.setOn r.set from View.set_slice _ r]
    iexact H

/-- A memref with axes of size one dropped is the memref. -/
theorem pt_squeeze {d : Dev nD} {m : Memref sig .tc sp s e} {s' : Shape} {h : s.Squeezes s'} {q : PosShare TreeShare}
    {f : s.Idx → Elt F e} :
    pt d m Finset.univ q f ⊢ pt d (m.squeeze s' h) Finset.univ q (fun x => f (Shape.reshapeEquiv h.numel_eq x)) := by
  unfold pt
  iintro ⟨%g, %hg, H⟩
  iexists g
  isplitr
  · ipureintro; intro i _; exact hg _ (Finset.mem_univ _)
  · rw [show (m.squeeze s' h).view.setOn Finset.univ = m.view.setOn Finset.univ from View.set_reshape _ _]
    iexact H

theorem pt_unsqueeze {d : Dev nD} {m : Memref sig .tc sp s e} {s' : Shape} {h : s.Squeezes s'} {q : PosShare TreeShare}
    {f : s.Idx → Elt F e} :
    pt d (m.squeeze s' h) Finset.univ q (fun x => f (Shape.reshapeEquiv h.numel_eq x)) ⊢ pt d m Finset.univ q f := by
  unfold pt
  iintro ⟨%g, %hg, H⟩
  iexists g
  isplitr
  · ipureintro; intro i _
    have := hg ((Shape.reshapeEquiv h.numel_eq).symm i) (Finset.mem_univ _)
    have e : Shape.reshapeEquiv h.numel_eq ((Shape.reshapeEquiv h.numel_eq).symm i) = i := Equiv.apply_symm_apply _ _
    change m.view.read (Elt F) g (Shape.reshapeEquiv h.numel_eq ((Shape.reshapeEquiv h.numel_eq).symm i))
      = f (Shape.reshapeEquiv h.numel_eq ((Shape.reshapeEquiv h.numel_eq).symm i)) at this
    rwa [e] at this
  · rw [show (m.squeeze s' h).view.setOn Finset.univ = m.view.setOn Finset.univ from View.set_reshape _ _]
    iexact H

/-- A copy in flight on a semaphore. -/
abbrev Fl (d : Dev nD) (sem : DmaSem sig) (N : ℕ) (D : sProp 𝕄) : sProp 𝕄 :=
  Transfers.Flight (countersEmb (U := Pipeline.UD sig nD τ)) (d : Thread nD τ) (SemLoc.dma sem) () N D

/-- A semaphore at zero. -/
abbrev sem0 (d : Dev nD) (sem : DmaSem sig) : sProp 𝕄 := semVal ((d : Thread nD τ), SemLoc.dma sem) 0

/-- Starting a copy between two memrefs lent whole. -/
theorem wp_start {d : Dev nD} {src : Memref sig .tc sp s e} {dst : Memref sig .tc sp' s e} {sem : DmaSem sig}
    {h1 h2 h3} {α : Type} {k : PUnit → PR F α} {q : PosShare TreeShare} {f g : s.Idx → Elt F e} {K : α → sProp 𝕄} (hp : 0 < s.numel) :
    iprop(pt d src Finset.univ q f ∗ pt d dst Finset.univ fullShare g ∗ sem0 d sem)
      ⊢ iprop((Fl d sem dst.view.dmaCredit iprop(pt d dst Finset.univ fullShare f ∗ pt d src Finset.univ q f) -∗ WP d (k ⟨⟩) K)
          -∗ WP d (.op (.enqueueDma src (.here dst) (.dma sem) h1 h2 h3) k) K) := by
  unfold pt
  iintro ⟨⟨%a, %ha, Hs⟩, ⟨%b, %hb, Hd⟩, Hv⟩ HK
  iapply (Transfers.wp_dmaLocal (countersEmb (U := Pipeline.UD sig nD τ)) Variants.none (d : Thread nD τ) none () (dst.view.dmaCredit) rfl
    (View.dmaCredit_pos _ hp) (Finset.Subset.refl _)) $$ [Hs Hd Hv]
  · isplitl [Hs]; · iexact Hs
    isplitl [Hd]; · iexact Hd
    iexact Hv
  iintro HF
  iapply HK
  iapply (Transfers.Flight_mono _ _ ?_) $$ HF
  iintro ⟨Hd, Hs⟩
  isplitl [Hd]
  · iexists _; isplitr; rotate_left
    · iexact Hd
    · ipureintro; intro i _
      rw [View.read_write_univ]; exact ha i (Finset.mem_univ _)
  · iexists a; isplitr
    · ipureintro; exact ha
    · iexact Hs

/-- What the core has waited for so far, forgotten. -/
def ow (d : Dev nD) : sProp 𝕄 := iprop(∃ W, owes (d : Thread nD τ) 0 W)

/-- Awaiting a copy. -/
theorem wp_wait {d : Dev nD} {src : Memref sig .tc sp s e} {dst : Memref sig .tc sp' s e} {sem : DmaSem sig}
    {h1 h2} {α : Type} {k : PUnit → PR F α} {D : sProp 𝕄} {K : α → sProp 𝕄} :
    iprop(Fl d sem dst.view.dmaCredit D ∗ ow d)
      ⊢ iprop((iprop(D ∗ sem0 d sem ∗ ow d) -∗ WP d (k ⟨⟩) K)
          -∗ WP d (.op (.waitDma2 sem src dst h1 h2) k) K) := by
  unfold ow
  iintro ⟨HF, ⟨%W, HW⟩⟩ HK
  iapply (Transfers.wp_waitLocal (countersEmb (U := Pipeline.UD sig nD τ)) Variants.none (d : Thread nD τ) none () rfl) $$ [HF HW]
  · isplitl [HF] <;> iassumption
  iintro ⟨HD, Hv, HW⟩
  iapply HK
  isplitl [HD]; · iexact HD
  isplitl [Hv]; · iexact Hv
  iexists _; iexact HW

end Cert.Kernel.Rolled
-- ==== Proof.Units.lean ====
/- What each unit of the body does to the buffers and the matrix units it works on. -/
module

public import proofs.«01_k».proof.Proof.Spec
public import proofs.«01_k».proof.Proof.Cells

@[expose] public section

noncomputable section

namespace Cert.Kernel.Rolled

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {sp sp' : Space} {cs : CoreSpace} {s : Shape} {e : EltTy} {d : Dev nD}

theorem WP_bind {α β : Type} (p : PR F α) (k : α → PR F β) (K : β → sProp 𝕄) :
    WP d (p >>= k) K = WP d p (fun a => WP d (k a) K) := wp_bind ..

theorem WP_pure {α : Type} (a : α) (K : α → sProp 𝕄) : K a ⊢ WP d (pure a : PR F α) K := by
  unfold WP; rw [wp_pure]; exact fupd_intro ..

theorem WP_ret {α : Type} (a : α) (K : α → sProp 𝕄) : K a ⊢ WP d (Prog.ret a : PR F α) K := WP_pure a K

theorem wp_ldL {m : Memref sig .tc cs s e} {r : Rect s} {hl : m.view.LoadsAt r.toLoadRect}
    {S : Finset s.Idx} {q : PosShare TreeShare} {f : s.Idx → Elt F e} {K : (r.toLoadRect.shape.Idx → Elt F e) → sProp 𝕄}
    (hS : r.set ⊆ S) :
    pt d m S q f ⊢ iprop((pt d m S q f -∗ K (ldv f r)) -∗ WP d (Prog.lift (.load m r.toLoadRect hl)) K) := by
  unfold ldv
  iintro H HK
  iapply (wp_ld (k := Prog.ret) hS) $$ H
  iintro H
  iapply WP_ret
  iapply HK; iexact H

theorem wp_stL {m : Memref sig .tc cs s e} {r : Rect s} {w : r.shape.Idx → Elt F e}
    {hx : (m.access r).Stores Finset.univ} {hm} {S : Finset s.Idx} {f : s.Idx → Elt F e} {K : PUnit → sProp 𝕄} (f' : s.Idx → Elt F e)
    (hS : r.set ⊆ S) (h1 : ∀ x, f' (r.emb x) = w x) (h2 : ∀ i ∈ S, i ∉ r.set → f' i = f i) :
    pt d m S fullShare f ⊢ iprop((pt d m S fullShare f' -∗ K ⟨⟩) -∗ WP d (Prog.lift (.store m r w Finset.univ hx hm)) K) := by
  iintro H HK
  iapply (wp_st (k := Prog.ret) f' hS h1 h2) $$ H
  iintro H
  iapply WP_ret
  iapply HK; iexact H

theorem wp_startL {src : Memref sig .tc sp s e} {dst : Memref sig .tc sp' s e} {sem : DmaSem sig}
    {h1 h2 h3} {q : PosShare TreeShare} {f g : s.Idx → Elt F e} {K : PUnit → sProp 𝕄} (hp : 0 < s.numel) :
    iprop(pt d src Finset.univ q f ∗ pt d dst Finset.univ fullShare g ∗ sem0 d sem)
      ⊢ iprop((Fl d sem dst.view.dmaCredit iprop(pt d dst Finset.univ fullShare f ∗ pt d src Finset.univ q f) -∗ K ⟨⟩)
          -∗ WP d (Prog.lift (.enqueueDma src (.here dst) (.dma sem) h1 h2 h3)) K) := by
  iintro H HK
  iapply (wp_start (k := Prog.ret) hp) $$ H
  iintro H
  iapply WP_ret
  iapply HK; iexact H

theorem wp_waitL {src : Memref sig .tc sp s e} {dst : Memref sig .tc sp' s e} {sem : DmaSem sig}
    {h1 h2} {D : sProp 𝕄} {K : PUnit → sProp 𝕄} :
    iprop(Fl d sem dst.view.dmaCredit D ∗ ow d)
      ⊢ iprop((iprop(D ∗ sem0 d sem ∗ ow d) -∗ K ⟨⟩) -∗ WP d (Prog.lift (.waitDma2 sem src dst h1 h2)) K) := by
  iintro H HK
  iapply (wp_wait (k := Prog.ret)) $$ H
  iintro H
  iapply WP_ret
  iapply HK; iexact H

/-! ## The parts of the buffers -/

/-- Half `h` of ring slot `l` of the code words. -/
def qbc (l : Fin 3) (h : Fin 2) : Finset S3x1440x512.Idx :=
  (Rect.unit (s := S3x1440x512) ![l.val, 0, 256 * h.val] S1x1440x256.size (qbin l h)).set
/-- Half `h` of parity `p` of the scales. -/
def sbc (p h : Fin 2) : Finset S2x90x512.Idx :=
  (Rect.unit (s := S2x90x512) ![p.val, 0, 256 * h.val] S1x90x256.size (sbin p h)).set
/-- Parity `p` of the tables and of the output buffer. -/
def ztc (p : Fin 2) : Finset S2x45x512.Idx := Finset.univ.filter fun i => (i 0).val = p.val
def stc (p : Fin 2) : Finset S2x90x512.Idx := Finset.univ.filter fun i => (i 0).val = p.val
def otc (p : Fin 2) : Finset S2x192x512.Idx :=
  (Rect.unit (s := S2x192x512) ![p.val, 0, 0] S1x192x512.size (obin p)).set

theorem mem_unit3 {s0 s1 s2 a b c n0 n1 n2 : Nat} {inb : ∀ x : Fin 3, (![a, b, c] : Fin 3 → Nat) x + (![n0, n1, n2] : Fin 3 → Nat) x ≤ (![s0, s1, s2] : Fin 3 → Nat) x}
    {i : (⟨3, ![s0, s1, s2]⟩ : Shape).Idx} :
    i ∈ (Rect.unit (s := ⟨3, ![s0, s1, s2]⟩) ![a, b, c] ![n0, n1, n2] inb).set ↔
      (a ≤ (i 0).val ∧ (i 0).val < a + n0) ∧ (b ≤ (i 1).val ∧ (i 1).val < b + n1) ∧ (c ≤ (i 2).val ∧ (i 2).val < c + n2) := by
  rw [Rect.mem_set_unit]
  constructor
  · exact fun h => ⟨h 0, h 1, h 2⟩
  · intro h x
    match x with
    | ⟨0, _⟩ => exact h.1
    | ⟨1, _⟩ => exact h.2.1
    | ⟨2, _⟩ => exact h.2.2

theorem mem_unit2 {s0 s1 a b n0 n1 : Nat} {inb : ∀ x : Fin 2, (![a, b] : Fin 2 → Nat) x + (![n0, n1] : Fin 2 → Nat) x ≤ (![s0, s1] : Fin 2 → Nat) x}
    {i : (⟨2, ![s0, s1]⟩ : Shape).Idx} :
    i ∈ (Rect.unit (s := ⟨2, ![s0, s1]⟩) ![a, b] ![n0, n1] inb).set ↔
      (a ≤ (i 0).val ∧ (i 0).val < a + n0) ∧ (b ≤ (i 1).val ∧ (i 1).val < b + n1) := by
  rw [Rect.mem_set_unit]
  constructor
  · exact fun h => ⟨h 0, h 1⟩
  · intro h x
    match x with
    | ⟨0, _⟩ => exact h.1
    | ⟨1, _⟩ => exact h.2

/-- A rectangle of one buffer inside another. -/
theorem sub3 {s0 s1 s2 a b c n0 n1 n2 a' b' c' m0 m1 m2 : Nat} {inb inb'}
    (h0 : a' ≤ a ∧ a + n0 ≤ a' + m0) (h1 : b' ≤ b ∧ b + n1 ≤ b' + m1) (h2 : c' ≤ c ∧ c + n2 ≤ c' + m2) :
    (Rect.unit (s := ⟨3, ![s0, s1, s2]⟩) ![a, b, c] ![n0, n1, n2] inb).set
      ⊆ (Rect.unit (s := ⟨3, ![s0, s1, s2]⟩) ![a', b', c'] ![m0, m1, m2] inb').set := by
  intro i hi
  rw [mem_unit3] at hi ⊢
  omega

theorem qb_sub {l : Fin 3} {h : Fin 2} {r n : Nat} (sz : Fin 3 → Nat) {inb} (hsz : sz = ![1, n, 256]) (hr : r + n ≤ 1440) :
    (Rect.unit (s := S3x1440x512) ![l.val, r, 256 * h.val] sz inb).set ⊆ qbc l h := by
  subst hsz; exact sub3 (by omega) (by omega) (by omega)

theorem zt_sub (p : Fin 2) {b c n1 n2 : Nat} (sz : Fin 3 → Nat) {inb} (hsz : sz = ![1, n1, n2]) :
    (Rect.unit (s := S2x45x512) ![p.val, b, c] sz inb).set ⊆ ztc p := by
  subst hsz
  intro i hi
  have h1 := (mem_unit3.mp hi).1
  exact by unfold ztc; rw [Finset.mem_filter]; exact ⟨Finset.mem_univ _, by omega⟩
theorem st_sub (p : Fin 2) {b c n1 n2 : Nat} (sz : Fin 3 → Nat) {inb} (hsz : sz = ![1, n1, n2]) :
    (Rect.unit (s := S2x90x512) ![p.val, b, c] sz inb).set ⊆ stc p := by
  subst hsz
  intro i hi
  have h1 := (mem_unit3.mp hi).1
  exact by unfold stc; rw [Finset.mem_filter]; exact ⟨Finset.mem_univ _, by omega⟩

variable {V : In F} {c : Refs}

/-! ## Weights -/

theorem wp_code {w : BitVec 32} {l : Fin 3} {g : Fin 45} {h : Fin 2} {K : IVec S128x256 32 → sProp 𝕄} :
    pt d c.qb (qbc l h) fullShare (qbS V w)
      ⊢ iprop((pt d c.qb (qbc l h) fullShare (qbS V w) -∗ K (codeS V w l g h)) -∗ WP d (code c l g h) K) := by
  unfold code codeS
  split
  next h0 =>
    iintro H HK
    rw [WP_bind]
    iapply (wp_ldL (qb_sub S1x128x256.size rfl h0)) $$ H
    iintro H
    iapply WP_pure
    iapply HK; iexact H
  next h0 =>
    split
    · iintro H HK
      rw [WP_bind]
      iapply (wp_ldL (qb_sub S1x32x256.size rfl (by decide))) $$ H
      iintro H
      rw [WP_bind]
      iapply (wp_ldL (qb_sub S1x96x256.size rfl (by decide))) $$ H
      iintro H
      iapply WP_pure
      iapply HK; iexact H
    · split
      · iintro H HK
        rw [WP_bind]
        iapply (wp_ldL (qb_sub S1x64x256.size rfl (by decide))) $$ H
        iintro H
        rw [WP_bind]
        iapply (wp_ldL (qb_sub S1x64x256.size rfl (by decide))) $$ H
        iintro H
        iapply WP_pure
        iapply HK; iexact H
      · iintro H HK
        rw [WP_bind]
        iapply (wp_ldL (qb_sub S1x96x256.size rfl (by decide))) $$ H
        iintro H
        rw [WP_bind]
        iapply (wp_ldL (qb_sub S1x32x256.size rfl (by decide))) $$ H
        iintro H
        iapply WP_pure
        iapply HK; iexact H

theorem wp_pushRhs {m : Mxu F} {a : AS F} (ha : Abs m a) {h r : Fin 2} (hn : a.reg h r = none) (v : FVec F S256x256 .bf16)
    {K : Mxu F → sProp 𝕄} :
    iprop(∀ m', ⌜Abs m' (a.push h r v)⌝ -∗ K m') ⊢ WP d (m.pushRhs h r false v : PR F (Mxu F)) K := by
  unfold Mxu.pushRhs
  iintro HK
  iapply (wp_assume Variants.none (d : Thread nD τ) none Set.univ (ha.pushOk hn false))
  iapply WP_ret
  iapply HK
  ipureintro; exact ha.push hn v

theorem wp_push {w : BitVec 32} {l : Fin 3} {p : Fin 2} {g : Fin 45} {h r : Fin 2} {m : Mxu F} {a : AS F} (ha : Abs m a)
    (hn : a.reg h r = none) {K : Mxu F → sProp 𝕄} :
    iprop(pt d c.qb (qbc l h) fullShare (qbS V w) ∗ pt d c.zt (ztc p) fullShare (ztS V w) ∗ pt d c.st (stc p) fullShare (stS V w p))
      ⊢ iprop((∀ m', ⌜Abs m' (a.push h r (wt V w l p g h))⌝ -∗ iprop(pt d c.qb (qbc l h) fullShare (qbS V w) ∗ pt d c.zt (ztc p) fullShare (ztS V w)
          ∗ pt d c.st (stc p) fullShare (stS V w p)) -∗ K m') -∗ WP d (push c evens l p g h r m) K) := by
  unfold push
  iintro ⟨Hq, Hz, Hs⟩ HK
  rw [WP_bind]
  iapply wp_code $$ Hq
  iintro Hq
  rw [WP_bind]
  iapply (wp_ldL (zt_sub p S1x1x256.size rfl)) $$ Hz
  iintro Hz
  rw [WP_bind]
  iapply (wp_ldL (st_sub p S1x1x256.size rfl)) $$ Hs
  iintro Hs
  rw [WP_bind]
  iapply (wp_ldL (st_sub p S1x1x256.size rfl)) $$ Hs
  iintro Hs
  iapply (wp_pushRhs ha hn)
  iintro %m' %hm
  iapply HK $$ %m' %hm
  isplitl [Hq]; · iexact Hq
  isplitl [Hz]; · iexact Hz
  iexact Hs

/-! ## Products -/

theorem wp_xrow {g : Fin 45} {mh : Fin 2} {K : FVec F S96x256 .bf16 → sProp 𝕄} :
    pt d c.xm Finset.univ fullShare (xmS V)
      ⊢ iprop((pt d c.xm Finset.univ fullShare (xmS V) -∗ K (xrS V g mh)) -∗ WP d (xrow c g mh) K) := by
  unfold xrow xrS
  iintro H HK
  rw [WP_bind]
  iapply (wp_ldL (Finset.subset_univ _)) $$ H
  iintro H
  iapply WP_pure
  iapply HK; iexact H

/-- Both halves of the rows multiplied by register `r`'s tile. -/
def AS.full (a : AS F) (p h r : Fin 2) (t : FVec F S256x256 .bf16) (x : Fin 2 → FVec F S96x256 .bf16) : AS F :=
  ((a.dep p h 0 t (x 0)).take h r).dep p h 1 t (x 1)

theorem wp_acc2 {p : Fin 2} {g : Fin 45} {h r : Fin 2} {m : Mxu F} {a : AS F} (ha : Abs m a) {t : FVec F S256x256 .bf16}
    (ht : a.reg h r = some t) {K : Mxu F → sProp 𝕄} :
    pt d c.xm Finset.univ fullShare (xmS V)
      ⊢ iprop((∀ m', ⌜Abs m' (a.full p h r t (xrS V g))⌝ -∗ pt d c.xm Finset.univ fullShare (xmS V) -∗ K m')
          -∗ WP d (acc2 c p g h r m) K) := by
  unfold acc2
  iintro H HK
  rw [WP_bind]
  iapply wp_xrow $$ H
  iintro H
  rw [WP_bind]
  iapply wp_xrow $$ H
  iintro H
  have h1 := ha.accLhs p h 0 r ht (xrS V g 0) (fit p 0)
  have hs : ((m.accLhs h r (48 * p.val + 24 * (0 : Fin 2).val) (xrS V g 0) (fit p 0)).gmr h).isSome = true := by rw [h1.2]; rfl
  unfold Mxu.accLhsLoaded
  iapply (wp_assume Variants.none (d : Thread nD τ) none Set.univ hs)
  iapply WP_ret
  iapply HK $$ [] H
  ipureintro
  have h2 := h1.1.accBy p h 1 t (xrS V g 1) (fit p 1)
  have e : ∀ hh, ((m.accLhs h r (48 * p.val + 24 * (0 : Fin 2).val) (xrS V g 0) (fit p 0)).gmr h).get hh = ⟨.bf16, false, t⟩ := by
    intro hh; simp only [h1.2, Option.get_some]
  rw [e]; exact h2

theorem wp_accHalf {h r : Fin 2} {m : Mxu F} {a : AS F} (ha : Abs m a) {t : FVec F S256x256 .bf16}
    (ht : a.reg h r = some t) {K : Mxu F → sProp 𝕄} :
    pt d c.xm Finset.univ fullShare (xmS V)
      ⊢ iprop((∀ m', ⌜Abs m' ((a.dep 0 h h t (xrS V 0 h)).take h r)⌝ -∗ pt d c.xm Finset.univ fullShare (xmS V) -∗ K m')
          -∗ WP d (accHalf c h r m) K) := by
  unfold accHalf
  iintro H HK
  rw [WP_bind]
  iapply wp_xrow $$ H
  iintro H
  iapply WP_pure
  iapply HK $$ [] H
  ipureintro
  exact (ha.accLhs 0 h h r ht (xrS V 0 h) (fit 0 h)).1

end Cert.Kernel.Rolled
-- ==== Proof.Fill.lean ====
/- Draining accumulators into the output buffer, filling the tables, mixing the activations. -/
module

public import proofs.«01_k».proof.Proof.Units
public import Idealize.ShloMosaic.Lib.ValueLayout

@[expose] public section

noncomputable section

namespace Cert.Kernel.Rolled

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {sp sp' : Space} {cs : CoreSpace} {s : Shape} {e : EltTy} {d : Dev nD}

variable {V : In F} {c : Refs}

/-- A part of a memref owned whatever it holds. -/
def anyw (d : Dev nD) (m : Memref sig .tc sp s e) (S : Finset s.Idx) : sProp 𝕄 := iprop(∃ f, pt d m S fullShare f)

theorem emb3_0 {s0 s1 s2 a b c : Nat} {sz : Fin 3 → Nat} {inb} (x : (Rect.unit (s := ⟨3, ![s0, s1, s2]⟩) ![a, b, c] sz inb).toLoadRect.shape.Idx) :
    ((Rect.unit (s := ⟨3, ![s0, s1, s2]⟩) ![a, b, c] sz inb).emb x 0).val = a + (x 0).val := by
  show a + 1 * (x 0).val = _; omega
theorem emb3_1 {s0 s1 s2 a b c : Nat} {sz : Fin 3 → Nat} {inb} (x : (Rect.unit (s := ⟨3, ![s0, s1, s2]⟩) ![a, b, c] sz inb).toLoadRect.shape.Idx) :
    ((Rect.unit (s := ⟨3, ![s0, s1, s2]⟩) ![a, b, c] sz inb).emb x 1).val = b + (x 1).val := by
  show b + 1 * (x 1).val = _; omega
theorem emb3_2 {s0 s1 s2 a b c : Nat} {sz : Fin 3 → Nat} {inb} (x : (Rect.unit (s := ⟨3, ![s0, s1, s2]⟩) ![a, b, c] sz inb).toLoadRect.shape.Idx) :
    ((Rect.unit (s := ⟨3, ![s0, s1, s2]⟩) ![a, b, c] sz inb).emb x 2).val = c + (x 2).val := by
  show c + 1 * (x 2).val = _; omega

/-! ## Draining -/

theorem ot_sub (p mh h : Fin 2) {inb} :
    (Rect.unit (s := S2x192x512) ![p.val, 96 * mh.val, 256 * h.val] S1x96x256.size inb).set ⊆ otc p :=
  sub3 (n0 := 1) (n1 := 96) (n2 := 256) (by omega) (by omega) (by omega)

/-- The output buffer's contents `f` with a quarter replaced by what accumulators `A` round to. -/
def quad (A : Fin 2 → Fin 192 → Fin 256 → Option (F .f32)) (mh h : Fin 2) (f : S2x192x512.Idx → Elt F .bf16) :
    S2x192x512.Idx → Elt F .bf16 :=
  fun i => if (i 1).val / 96 = mh.val ∧ (i 2).val / 256 = h.val then outS A i else f i

theorem outS_at {A : Fin 2 → Fin 192 → Fin 256 → Option (F .f32)} {i : S2x192x512.Idx} {h : Fin 2} {n : Fin 192} {C : Fin 256}
    (h1 : (i 1).val = n.val) (h2 : (i 2).val = 256 * h.val + C.val) : outS A i = rnd (valO (A h n C)) := by
  unfold outS
  have e1 : (i 1) = n := Fin.ext h1
  have e2 : (⟨(i 2).val / 256, by have : (i 2).val < 512 := (i 2).isLt; omega⟩ : Fin 2) = h := Fin.ext (by show (i 2).val / 256 = h.val; omega)
  have e3 : (⟨(i 2).val % 256, Nat.mod_lt _ (by decide)⟩ : Fin 256) = C := Fin.ext (by show (i 2).val % 256 = C.val; omega)
  rw [e2, e3]; exact congrArg (fun n => rnd (valO (A h n C))) e1

theorem cast_at {a b : Nat} {α : Type} (f : (⟨2, ![a, b]⟩ : Shape).Idx → α) {h} (x : (⟨3, ![1, a, b]⟩ : Shape).Idx) :
    shapeCast ⟨3, ![1, a, b]⟩ f h x = f (ix2 (x 1) (x 2)) :=
  (congrArg _ (eq_ix3 x)).trans (shapeCast_ab_1ab_apply f h (x 0) (x 1) (x 2))

theorem wp_drain1 {p mh h : Fin 2} {m : Mxu F} {a : AS F} (ha : Abs m a) {f : S2x192x512.Idx → Elt F .bf16} {K : Mxu F → sProp 𝕄} :
    pt d c.ot (otc p) fullShare f
      ⊢ iprop((∀ m', ⌜Abs m' (a.pop p h mh)⌝ -∗ pt d c.ot (otc p) fullShare (quad (a.acc p) mh h f) -∗ K m')
          -∗ WP d (drain1 c p mh h m) K) := by
  unfold drain1
  iintro H HK
  rw [WP_bind]
  iapply (wp_ldL (ot_sub p mh h)) $$ H
  iintro H
  rw [WP_bind]
  iapply (wp_stL (quad (a.acc p) mh h f) (ot_sub p mh h) ?_ ?_) $$ H
  · intro x
    have x1 : (x 1).val < 96 := (x 1).isLt
    have x2 : (x 2).val < 256 := (x 2).isLt
    have e1 := emb3_1 (inb := oin p mh h) x
    have e2 := emb3_2 (inb := oin p mh h) x
    unfold quad
    rw [if_pos (by constructor <;> omega)]
    rw [outS_at (n := ⟨96 * mh.val + (x 1).val, by omega⟩) (h := h) (C := (x 2)) e1 e2]
    refine Eq.trans ?_ (cast_at _ x).symm
    have hr := ha.read p h mh (fit p mh) ⟨96 * mh.val + (x 1).val, by omega⟩ (by
      unfold halfOf; exact Fin.ext (by show (96 * mh.val + (x 1).val) / 96 = mh.val; omega)) (x 2)
    rw [← hr]
    have e3 : inHalf ⟨96 * mh.val + (x 1).val, by omega⟩ = (x 1) := by
      unfold inHalf; exact Fin.ext (by show (96 * mh.val + (x 1).val) % 96 = (x 1).val; omega)
    rw [e3]; rfl
  · intro i hi hn
    unfold quad
    rw [if_neg]
    intro hc
    have h0 := (mem_unit3.mp hi).1
    refine hn (mem_unit3.mpr ⟨h0, ?_, ?_⟩) <;> omega
  iintro H
  iapply WP_pure
  iapply HK $$ [] H
  ipureintro
  exact ha.pop p h mh (fit p mh)

/-- Parity `p`'s accumulators emptied. -/
def AS.drain (a : AS F) (p : Fin 2) : AS F := ⟨a.reg, fun p' h n C => if p' = p then none else a.acc p' h n C⟩

theorem pops_eq (a : AS F) (p : Fin 2) : (((a.pop p 0 0).pop p 1 0).pop p 0 1).pop p 1 1 = a.drain p := by
  unfold AS.pop AS.drain
  congr 1
  funext p' h n C
  dsimp only
  by_cases hp : p' = p
  · rw [if_pos hp]
    have hh : h = 0 ∨ h = 1 := by omega
    have hm : halfOf n = 0 ∨ halfOf n = 1 := by omega
    rcases hh with rfl | rfl <;> rcases hm with hm | hm <;> simp [hp, hm]
  · simp [hp]

theorem quads_eq (a : AS F) (p : Fin 2) (f : S2x192x512.Idx → Elt F .bf16) :
    quad ((((a.pop p 0 0).pop p 1 0).pop p 0 1).acc p) 1 1 (quad (((a.pop p 0 0).pop p 1 0).acc p) 1 0
      (quad ((a.pop p 0 0).acc p) 0 1 (quad (a.acc p) 0 0 f))) = outS (a.acc p) := by
  funext i
  have i1 : (i 1).val < 192 := (i 1).isLt
  have i2 : (i 2).val < 512 := (i 2).isLt
  have key : ∀ (A : Fin 2 → Fin 192 → Fin 256 → Option (F .f32)),
      A ⟨(i 2).val / 256, by omega⟩ (i 1) ⟨(i 2).val % 256, Nat.mod_lt _ (by decide)⟩
        = a.acc p ⟨(i 2).val / 256, by omega⟩ (i 1) ⟨(i 2).val % 256, Nat.mod_lt _ (by decide)⟩ → outS A i = outS (a.acc p) i := by
    intro A h; unfold outS; rw [h]
  unfold quad
  split
  next h1 =>
    apply key
    unfold AS.pop halfOf
    simp only [Fin.ext_iff]
    simp [h1.1, h1.2]
  next h1 =>
    split
    next h2 =>
      apply key
      unfold AS.pop halfOf
      simp only [Fin.ext_iff]
      simp [h2.1, h2.2]
    next h2 =>
      split
      next h3 =>
        apply key
        unfold AS.pop halfOf
        simp only [Fin.ext_iff]
        simp [h3.1, h3.2]
      next h3 =>
        split
        · rfl
        next h4 =>
          exfalso
          simp only [Fin.val_zero, Fin.val_one] at h1 h2 h3 h4
          omega

theorem wp_drain {p : Fin 2} {m : Mxu F} {a : AS F} (ha : Abs m a) {f : S2x192x512.Idx → Elt F .bf16} {K : Mxu F → sProp 𝕄} :
    pt d c.ot (otc p) fullShare f
      ⊢ iprop((∀ m', ⌜Abs m' (a.drain p)⌝ -∗ pt d c.ot (otc p) fullShare (outS (a.acc p)) -∗ K m') -∗ WP d (drain c p m) K) := by
  unfold drain
  iintro H HK
  rw [WP_bind]
  iapply (wp_drain1 ha) $$ H
  iintro %m1 %h1 H
  rw [WP_bind]
  iapply (wp_drain1 h1) $$ H
  iintro %m2 %h2 H
  rw [WP_bind]
  iapply (wp_drain1 h2) $$ H
  iintro %m3 %h3 H
  iapply (wp_drain1 h3) $$ H
  iintro %m4 %h4 H
  rw [pops_eq] at h4
  rw [quads_eq]
  iapply HK $$ %m4 %h4 H

/-! ## The tables -/

theorem ztS_at {w : BitVec 32} {t : Fin 4} {i : S2x45x512.Idx} {x : S1x45x128.Idx} (h1 : (i 1).val = (x 1).val)
    (h2 : (i 2).val = 128 * t.val + (x 2).val) : ztS V w i = ztT V w t x := by
  have x2 : (x 2).val < 128 := (x 2).isLt
  unfold ztS
  have e2 : tileOf (i 2) = t := Fin.ext (by show (i 2).val / 128 = t.val; omega)
  have e3 : inTile (i 2) = (x 2) := Fin.ext (by show (i 2).val % 128 = (x 2).val; omega)
  have ex : ix3 (0 : Fin 1) (i 1) (inTile (i 2)) = x := by
    rw [eq_ix3 x, e3]; congr 1
    · exact Subsingleton.elim _ _
    · exact Fin.ext h1
  rw [e2]; exact congrArg (ztT V w t) ex

theorem stS_at {w : BitVec 32} {p : Fin 2} {t : Fin 4} {i : S2x90x512.Idx} {x : S1x90x128.Idx} (h1 : (i 1).val = (x 1).val)
    (h2 : (i 2).val = 128 * t.val + (x 2).val) : stS V w p i = stT V w p t x := by
  have x2 : (x 2).val < 128 := (x 2).isLt
  unfold stS
  have e2 : tileOf (i 2) = t := Fin.ext (by show (i 2).val / 128 = t.val; omega)
  have e3 : inTile (i 2) = (x 2) := Fin.ext (by show (i 2).val % 128 = (x 2).val; omega)
  have ex : ix3 (0 : Fin 1) (i 1) (inTile (i 2)) = x := by
    rw [eq_ix3 x, e3]; congr 1
    · exact Subsingleton.elim _ _
    · exact Fin.ext h1
  rw [e2]; exact congrArg (stT V w p t) ex

/-- Contents `f` with tile `t` replaced by `g`. -/
def tile3 {n0 n1 : Nat} {α : Type} (t : Fin 4) (g f : (⟨3, ![n0, n1, 512]⟩ : Shape).Idx → α) : (⟨3, ![n0, n1, 512]⟩ : Shape).Idx → α :=
  fun i => if (i 2).val / 128 = t.val then g i else f i

theorem zwin_eq (wc : BitVec 32) (hb : (basew wc).toNat + 128 ≤ 2592) :
    ldv V.z (Rect.unit (s := S90x2592) ![0, (basew wc).toNat] S90x128.size (zbin hb)) = zwin V wc := by
  funext x
  unfold ldv zwin
  congr 1
  funext a
  have x1 : (x 1).val < 128 := (x 1).isLt
  match a with
  | ⟨0, _⟩ => exact Fin.ext (by show 0 + 1 * (x 0).val = (x 0).val; omega)
  | ⟨1, _⟩ => exact Fin.ext (by show (basew wc).toNat + 1 * (x 1).val = ((basew wc).toNat + (x 1).val) % 2592; omega)

theorem whole90 {α : Type} {inb} (f : S90x128.Idx → α) (x : S90x128.Idx) :
    f ((Rect.unit (s := S90x128) ![0, 0] S90x128.size inb).emb x) = f x := by
  congr 1
  funext a
  match a with
  | ⟨0, _⟩ => exact Fin.ext (by show 0 + 1 * (x 0).val = (x 0).val; omega)
  | ⟨1, _⟩ => exact Fin.ext (by show 0 + 1 * (x 1).val = (x 1).val; omega)

theorem mem90 {inb} (i : S90x128.Idx) : i ∈ (Rect.unit (s := S90x128) ![0, 0] S90x128.size inb).set := by
  have i0 : (i 0).val < 90 := (i 0).isLt
  have i1 : (i 1).val < 128 := (i 1).isLt
  exact mem_unit2.mpr ⟨⟨by omega, by omega⟩, by omega, by omega⟩

theorem sb_sub (p : Fin 2) (t : Fin 4) {inb} :
    (Rect.unit (s := S2x90x512) ![p.val, 0, 128 * t.val] S1x90x128.size inb).set ⊆ sbc p ⟨t.val / 2, by omega⟩ := by
  intro i hi
  have := mem_unit3.mp hi
  refine mem_unit3.mpr ?_
  dsimp only
  omega

theorem wp_tables {p : Fin 2} {t : Fin 4} {w wc : BitVec 32} (hwc : wc = colw w ⟨t.val / 2, by omega⟩)
    {hb : (basew wc).toNat + 128 ≤ 2592} {fz : S2x45x512.Idx → Elt F .i32} {fs : S2x90x512.Idx → Elt F .f32} {K : PUnit → sProp 𝕄} :
    iprop(pt d c.zb Finset.univ fullShare V.z ∗ anyw d c.nb Finset.univ ∗ anyw d c.sc Finset.univ
        ∗ pt d c.sb (sbc p ⟨t.val / 2, by omega⟩) fullShare (sbS V w) ∗ pt d c.zt (ztc p) fullShare fz ∗ pt d c.st (stc p) fullShare fs)
      ⊢ iprop((iprop(pt d c.zb Finset.univ fullShare V.z ∗ anyw d c.nb Finset.univ ∗ anyw d c.sc Finset.univ
        ∗ pt d c.sb (sbc p ⟨t.val / 2, by omega⟩) fullShare (sbS V w) ∗ pt d c.zt (ztc p) fullShare (tile3 t (ztS V w) fz)
        ∗ pt d c.st (stc p) fullShare (tile3 t (stS V w p) fs)) -∗ K ⟨⟩) -∗ WP d (tables c lanes p t wc hb) K) := by
  unfold tables anyw
  iintro ⟨Hzb, ⟨%fn, Hnb⟩, ⟨%fc, Hsc⟩, Hsb, Hzt, Hst⟩ HK
  rw [WP_bind]
  iapply (wp_ldL (Finset.subset_univ _)) $$ Hzb
  iintro Hzb
  rw [WP_bind]
  iapply (wp_ldL (Finset.subset_univ _)) $$ Hnb
  iintro Hnb
  rw [WP_bind, zwin_eq wc hb]
  iapply (wp_stL (nbS V wc (t.val % 2)) (Finset.subset_univ _) (fun x => whole90 _ x) (fun i _ hn => absurd (mem90 i) hn)) $$ Hnb
  iintro Hnb
  rw [WP_bind]
  iapply (wp_ldL (Finset.subset_univ _)) $$ Hnb
  iintro Hnb
  rw [WP_bind]
  iapply (wp_ldL (Finset.subset_univ _)) $$ Hnb
  iintro Hnb
  rw [WP_bind]
  iapply (wp_ldL (zt_sub p S1x45x128.size rfl)) $$ Hzt
  iintro Hzt
  rw [WP_bind]
  iapply (wp_stL (tile3 t (ztS V w) fz) (zt_sub p S1x45x128.size rfl) ?_ ?_) $$ Hzt
  · intro x
    have x2 : (x 2).val < 128 := (x 2).isLt
    have e1 := emb3_1 (inb := ztin p t) x
    have e2 := emb3_2 (inb := ztin p t) x
    unfold tile3
    rw [if_pos (by omega), ztS_at (t := t) (x := x) (by omega) e2, hwc]; rfl
  · intro i hi hn
    unfold tile3
    rw [if_neg]
    intro hc
    unfold ztc at hi; rw [Finset.mem_filter] at hi
    have i1 : (i 1).val < 45 := (i 1).isLt
    exact hn (mem_unit3.mpr ⟨⟨by omega, by omega⟩, ⟨by omega, by omega⟩, by omega, by omega⟩)
  iintro Hzt
  rw [WP_bind]
  iapply (wp_ldL (sb_sub p t)) $$ Hsb
  iintro Hsb
  rw [WP_bind]
  iapply (wp_ldL (Finset.subset_univ _)) $$ Hsc
  iintro Hsc
  rw [WP_bind]
  iapply (wp_stL (scS V w p t) (Finset.subset_univ _) (fun x => whole90 _ x) (fun i _ hn => absurd (mem90 i) hn)) $$ Hsc
  iintro Hsc
  rw [WP_bind]
  iapply (wp_ldL (Finset.subset_univ _)) $$ Hsc
  iintro Hsc
  rw [WP_bind]
  iapply (wp_ldL (st_sub p S1x90x128.size rfl)) $$ Hst
  iintro Hst
  iapply (wp_stL (tile3 t (stS V w p) fs) (st_sub p S1x90x128.size rfl) ?_ ?_) $$ Hst
  · intro x
    have x2 : (x 2).val < 128 := (x 2).isLt
    have e1 := emb3_1 (inb := stin p t) x
    have e2 := emb3_2 (inb := stin p t) x
    unfold tile3
    rw [if_pos (by omega), stS_at (t := t) (x := x) (by omega) e2]; rfl
  · intro i hi hn
    unfold tile3
    rw [if_neg]
    intro hc
    unfold stc at hi; rw [Finset.mem_filter] at hi
    have i1 : (i 1).val < 90 := (i 1).isLt
    exact hn (mem_unit3.mpr ⟨⟨by omega, by omega⟩, ⟨by omega, by omega⟩, by omega, by omega⟩)
  iintro Hst
  iapply HK
  isplitl [Hzb]; · iexact Hzb
  isplitl [Hnb]; · iexists _; iexact Hnb
  isplitl [Hsc]; · iexists _; iexact Hsc
  isplitl [Hsb]; · iexact Hsb
  isplitl [Hzt]; · iexact Hzt
  iexact Hst

/-! ## The mixed activations -/

theorem xmS_at {g : Fin 45} {j : Fin 2} {i : S45x192x256.Idx} {x : S1x192x128.Idx} (h0 : (i 0).val = g.val) (h1 : (i 1).val = (x 1).val)
    (h2 : (i 2).val = 128 * j.val + (x 2).val) : xmS V i = mixT V g j x := by
  have x2 : (x 2).val < 128 := (x 2).isLt
  unfold xmS
  have e0 : (i 0) = g := Fin.ext h0
  have e2 : (⟨(i 2).val / 128, by have : (i 2).val < 256 := (i 2).isLt; omega⟩ : Fin 2) = j := Fin.ext (by show (i 2).val / 128 = j.val; omega)
  have e3 : (⟨(i 2).val % 128, Nat.mod_lt _ (by decide)⟩ : Fin 128) = (x 2) := Fin.ext (by show (i 2).val % 128 = (x 2).val; omega)
  have ex : ix3 (0 : Fin 1) (i 1) (⟨(i 2).val % 128, Nat.mod_lt _ (by decide)⟩ : Fin 128) = x := by
    rw [eq_ix3 x, e3]; congr 1
    · exact Subsingleton.elim _ _
    · exact Fin.ext h1
  rw [e2]
  exact (congrArg (mixT V (i 0) j) ex).trans (congrArg (fun g => mixT V g j x) e0)

/-- Contents `f` with part `j` of chunk `g` replaced. -/
def xmp (V : In F) (g : Fin 45) (j : Fin 2) (f : S45x192x256.Idx → Elt F .bf16) : S45x192x256.Idx → Elt F .bf16 :=
  fun i => if (i 0).val = g.val ∧ (i 2).val / 128 = j.val then xmS V i else f i

theorem xmp_at {g : Fin 45} {j : Fin 2} {f : S45x192x256.Idx → Elt F .bf16}
    (x : (Rect.unit (s := S45x192x256) ![g.val, 0, 128 * j.val] S1x192x128.size (xmin g j)).toLoadRect.shape.Idx) :
    xmp V g j f ((Rect.unit (s := S45x192x256) ![g.val, 0, 128 * j.val] S1x192x128.size (xmin g j)).emb x) = mixT V g j x := by
  have x0 : (x 0).val < 1 := (x 0).isLt
  have x2 : (x 2).val < 128 := (x 2).isLt
  have e0 := emb3_0 (inb := xmin g j) x
  have e1 := emb3_1 (inb := xmin g j) x
  have e2 := emb3_2 (inb := xmin g j) x
  unfold xmp
  rw [if_pos (by constructor <;> omega)]
  exact xmS_at (by omega) (by omega) e2

theorem xmp_off {g : Fin 45} {j : Fin 2} {f : S45x192x256.Idx → Elt F .bf16} (i : S45x192x256.Idx)
    (hn : i ∉ (Rect.unit (s := S45x192x256) ![g.val, 0, 128 * j.val] S1x192x128.size (xmin g j)).set) : xmp V g j f i = f i := by
  unfold xmp
  rw [if_neg]
  intro hc
  have i1 : (i 1).val < 192 := (i 1).isLt
  exact hn (mem_unit3.mpr ⟨⟨by omega, by omega⟩, ⟨by omega, by omega⟩, by omega, by omega⟩)

theorem wp_mix {g : Fin 45} {f : S45x192x256.Idx → Elt F .bf16} {K : PUnit → sProp 𝕄} :
    iprop(pt d c.xr Finset.univ fullShare V.x ∗ pt d c.xm Finset.univ fullShare f)
      ⊢ iprop((iprop(pt d c.xr Finset.univ fullShare V.x ∗ pt d c.xm Finset.univ fullShare (xmp V g 1 (xmp V g 0 f))) -∗ K ⟨⟩)
          -∗ WP d (mix c lanes g) K) := by
  unfold mix
  iintro ⟨Hx, H⟩ HK
  rw [WP_bind]
  iapply (wp_ldL (Finset.subset_univ _)) $$ Hx
  iintro Hx
  rw [WP_bind]
  iapply (wp_ldL (Finset.subset_univ _)) $$ Hx
  iintro Hx
  rw [WP_bind]
  iapply (wp_ldL (Finset.subset_univ _)) $$ H
  iintro H
  rw [WP_bind]
  iapply (wp_stL (xmp V g 0 f) (Finset.subset_univ _) (fun x => xmp_at x) (fun i _ hn => xmp_off i hn)) $$ H
  iintro H
  rw [WP_bind]
  iapply (wp_ldL (Finset.subset_univ _)) $$ H
  iintro H
  iapply (wp_stL (xmp V g 1 (xmp V g 0 f)) (Finset.subset_univ _) (fun x => xmp_at x) (fun i _ hn => xmp_off i hn)) $$ H
  iintro H
  iapply HK
  isplitl [Hx]; · iexact Hx
  iexact H

theorem wp_mixes : ∀ (n : Nat) (hn : n ≤ 45) (f : S45x192x256.Idx → Elt F .bf16) (_ : ∀ i, (i 0).val < 45 - n → f i = xmS V i) (K : PUnit → sProp 𝕄),
    iprop(pt d c.xr Finset.univ fullShare V.x ∗ pt d c.xm Finset.univ fullShare f)
      ⊢ iprop((iprop(pt d c.xr Finset.univ fullShare V.x ∗ pt d c.xm Finset.univ fullShare (xmS V)) -∗ K ⟨⟩)
          -∗ WP d (mixes c lanes n hn) K)
  | 0, _, f, hf, K => by
    iintro ⟨Hx, H⟩ HK
    unfold mixes
    iapply WP_pure
    iapply HK
    isplitl [Hx]; · iexact Hx
    iapply (pt_congr (f := f) (f' := xmS V) (fun i _ => hf i (by have : (i 0).val < 45 := (i 0).isLt; omega))) $$ H
  | n + 1, hn, f, hf, K => by
    iintro H HK
    unfold mixes
    rw [WP_bind]
    iapply wp_mix $$ H
    iintro H
    iapply (wp_mixes n (Nat.le_of_succ_le hn) _ ?_ K) $$ H HK
    intro i hi
    unfold xmp
    dsimp only
    have i2 : (i 2).val < 256 := (i 2).isLt
    simp only [Fin.val_zero, Fin.val_one]
    split
    · rfl
    · split
      · rfl
      · exact hf i (by omega)

end Cert.Kernel.Rolled
-- ==== Proof.Copies.lean ====
/- The copies in flight: what each one holds, and the rules of starting and awaiting it. -/
module

public import proofs.«01_k».proof.Proof.Fill
public import Idealize.ShloMosaic.Lib.ValueLayout

@[expose] public section

noncomputable section

namespace Cert.Kernel.Rolled

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {sp sp' : Space} {cs : CoreSpace} {s : Shape} {e : EltTy} {d : Dev nD}

variable {V : In F} {c : Refs}

theorem pt_lend {m : Memref sig .tc sp s e} {S T : Finset s.Idx} {q : PosShare TreeShare} {f : s.Idx → Elt F e} (h : T ⊆ S) :
    pt d m S q f ⊢ iprop(pt d m T q f ∗ pt d m (S \ T) q f) := by
  have e : S = T ∪ (S \ T) := (Finset.union_sdiff_of_subset h).symm
  conv_lhs => rw [e]
  exact pt_split Finset.disjoint_sdiff

theorem pt_back {m : Memref sig .tc sp s e} {S T : Finset s.Idx} {q : PosShare TreeShare} {f : s.Idx → Elt F e} (h : T ⊆ S) :
    iprop(pt d m T q f ∗ pt d m (S \ T) q f) ⊢ pt d m S q f := by
  have e : S = T ∪ (S \ T) := (Finset.union_sdiff_of_subset h).symm
  conv_rhs => rw [e]
  exact pt_join Finset.disjoint_sdiff

theorem wp_startD {src : Memref sig .tc sp s e} {dst : Memref sig .tc sp' s e} {sem : DmaSem sig}
    {h1 h2 h3} {q : PosShare TreeShare} {f g : s.Idx → Elt F e} {K : PUnit → sProp 𝕄} {D : sProp 𝕄} (hp : 0 < s.numel)
    (hD : iprop(pt d dst Finset.univ fullShare f ∗ pt d src Finset.univ q f) ⊢ D) :
    iprop(pt d src Finset.univ q f ∗ pt d dst Finset.univ fullShare g ∗ sem0 d sem)
      ⊢ iprop((Fl d sem dst.view.dmaCredit D -∗ K ⟨⟩) -∗ WP d (Prog.lift (.enqueueDma src (.here dst) (.dma sem) h1 h2 h3)) K) := by
  iintro H HK
  iapply (wp_startL hp) $$ H
  iintro H
  iapply HK
  iapply (Transfers.Flight_mono _ _ hD) $$ H

theorem pt_sliceS {m : Memref sig .tc sp s e} {S : Finset s.Idx} {r : Rect s} {hr : ∀ a, r.stride a = 1} {q : PosShare TreeShare}
    {f : s.Idx → Elt F e} (hS : S = r.set) : pt d m S q f ⊢ pt d (m.slice r hr) Finset.univ q (fun x => f (r.emb x)) := by
  subst hS; exact pt_slice

theorem pt_unsliceS {m : Memref sig .tc sp s e} {S : Finset s.Idx} {r : Rect s} {hr : ∀ a, r.stride a = 1} {q : PosShare TreeShare}
    {f : s.Idx → Elt F e} (hS : S = r.set) : pt d (m.slice r hr) Finset.univ q (fun x => f (r.emb x)) ⊢ pt d m S q f := by
  subst hS; exact pt_unslice

/-! ## Code words and scales -/

/-- The four shares of a matrix lent to copies, by block parity and half. -/
def halfS (b : Fin 2) (q : PosShare TreeShare) : PosShare TreeShare := if b = 0 then q.left else q.right
def qsh (r h : Fin 2) : PosShare TreeShare := halfS h (halfS r fullShare)

def qsemL (c : Refs) (l : Fin 3) (h : Fin 2) : DmaSems sig S_ :=
  (c.qS.slice (Rect.unit (s := S3x2) ![l.val, h.val] S1x1.size (qsin l h))).squeeze S_ squeezes_S1x1_S_

/-- The columns of half `h` of block `p`. -/
def qcols {p : BitVec 32} (hp : InOk p) (h : Fin 2) : Finset S1440x20736.Idx :=
  (Rect.unit (s := S1440x20736) ![0, (colw p h).toNat] S1440x256.size (qhin (hp.col h))).set
def scols {p : BitVec 32} (hp : InOk p) (h : Fin 2) : Finset S90x20736.Idx :=
  (Rect.unit (s := S90x20736) ![0, (colw p h).toNat] S90x256.size (shin (hp.col h))).set

/-- The copy of half `h` of block `p`'s code words in flight. -/
def FlQ (d : Dev nD) (c : Refs) (V : In F) {p : BitVec 32} (hp : InOk p) (r h : Fin 2) : sProp 𝕄 :=
  iprop(Fl d (qsem c hp h).sem (qdst c hp h).view.dmaCredit
      iprop(pt d c.qb (qbc hp.l h) fullShare (qbS V p) ∗ pt d c.q (qcols hp h) (qsh r h) V.q)
    ∗ pt d c.q (Finset.univ \ qcols hp h) (qsh r h) V.q)
def FlS (d : Dev nD) (c : Refs) (V : In F) {p : BitVec 32} (hp : InOk p) (r h : Fin 2) : sProp 𝕄 :=
  iprop(Fl d (ssem c r h).sem (sdst c r h).view.dmaCredit
      iprop(pt d c.sb (sbc r h) fullShare (sbS V p) ∗ pt d c.s (scols hp h) (qsh r h) V.s)
    ∗ pt d c.s (Finset.univ \ scols hp h) (qsh r h) V.s)

theorem colOf_at {p : BitVec 32} (hp : InOk p) (h : Fin 2) (b : Fin 256) {k : Fin 512} (hk : k.val = 256 * h.val + b.val) :
    (colOf p k).val = (colw p h).toNat + b.val := by
  have := hp.col h
  unfold colOf
  have e : (⟨k.val / 256, by omega⟩ : Fin 2) = h := Fin.ext (by show k.val / 256 = h.val; omega)
  show ((colw p ⟨k.val / 256, by omega⟩).toNat + k.val % 256) % 20736 = _
  rw [e]
  omega

theorem resh12 {a b : Nat} (h : (⟨2, ![a, b]⟩ : Shape).numel = (⟨3, ![1, a, b]⟩ : Shape).numel) (x : (⟨2, ![a, b]⟩ : Shape).Idx) :
    Shape.reshapeEquiv h x = ix3 (⟨0, Nat.one_pos⟩ : Fin 1) (x 0) (x 1) :=
  (congrArg _ (eq_ix2 x)).trans (reshapeEquiv_ix2_1ab h (x 0) (x 1))

theorem q_src {p : BitVec 32} {hp : InOk p} {h : Fin 2} {q : PosShare TreeShare} {f : S1440x20736.Idx → Elt F .i32} :
    pt d c.q (qcols hp h) q f ⊢ pt d (qsrc c hp h) Finset.univ q
      (fun x => f ((Rect.unit (s := S1440x20736) ![0, (colw p h).toNat] S1440x256.size (qhin (hp.col h))).emb x)) := pt_sliceS (hr := fun _ => rfl) rfl
theorem q_unsrc {p : BitVec 32} {hp : InOk p} {h : Fin 2} {q : PosShare TreeShare} {f : S1440x20736.Idx → Elt F .i32} :
    pt d (qsrc c hp h) Finset.univ q
      (fun x => f ((Rect.unit (s := S1440x20736) ![0, (colw p h).toNat] S1440x256.size (qhin (hp.col h))).emb x))
      ⊢ pt d c.q (qcols hp h) q f := pt_unsliceS (hr := fun _ => rfl) rfl
theorem q_dst {p : BitVec 32} {hp : InOk p} {h : Fin 2} {f : S3x1440x512.Idx → Elt F .i32} :
    pt d c.qb (qbc hp.l h) fullShare f ⊢ iprop(∃ g, pt d (qdst c hp h) Finset.univ fullShare g) :=
  ((pt_sliceS (r := Rect.unit (s := S3x1440x512) ![slotw p, 0, 256 * h.val] S1x1440x256.size (qbin hp.l h)) (hr := fun _ => rfl) rfl).trans
    (pt_squeeze (h := squeezes_S1x1440x256_S1440x256))).trans (exists_intro _)
theorem q_undst {p : BitVec 32} {hp : InOk p} {h : Fin 2} :
    pt d (qdst c hp h) Finset.univ fullShare
      (fun x => V.q ((Rect.unit (s := S1440x20736) ![0, (colw p h).toNat] S1440x256.size (qhin (hp.col h))).emb x))
      ⊢ pt d c.qb (qbc hp.l h) fullShare (qbS V p) := by
  have e : (fun x : S1440x256.Idx => V.q ((Rect.unit (s := S1440x20736) ![0, (colw p h).toNat] S1440x256.size (qhin (hp.col h))).emb x))
      = fun x : S1440x256.Idx => (fun y => qbS V p ((Rect.unit (s := S3x1440x512) ![slotw p, 0, 256 * h.val] S1x1440x256.size (qbin hp.l h)).emb y))
          (Shape.reshapeEquiv squeezes_S1x1440x256_S1440x256.numel_eq x) := by
    funext x
    refine Eq.trans ?_ (congrArg (fun y => qbS V p ((Rect.unit (s := S3x1440x512) ![slotw p, 0, 256 * h.val] S1x1440x256.size (qbin hp.l h)).emb y))
      (resh12 (a := 1440) (b := 256) squeezes_S1x1440x256_S1440x256.numel_eq x)).symm
    unfold qbS
    refine congrArg V.q ?_
    funext a
    match a with
    | ⟨0, _⟩ => rfl
    | ⟨1, _⟩ =>
      refine Fin.ext ?_
      refine Eq.trans ?_ (colOf_at hp h (x 1) (by
        show 256 * h.val + 1 * (x 1).val = _; omega)).symm
      show (colw p h).toNat + 1 * (x 1).val = _
      omega
  rw [e]
  exact (pt_unsqueeze (m := c.qb.slice (Rect.unit (s := S3x1440x512) ![slotw p, 0, 256 * h.val] S1x1440x256.size (qbin hp.l h)) (fun _ => rfl))
    (h := squeezes_S1x1440x256_S1440x256)).trans (pt_unsliceS rfl)

theorem wp_qstart {p : BitVec 32} {hp : InOk p} {r h : Fin 2} {K : PUnit → sProp 𝕄} :
    iprop(anyw d c.qb (qbc hp.l h) ∗ sem0 d (qsemL c hp.l h).sem ∗ pt d c.q Finset.univ (qsh r h) V.q)
      ⊢ iprop((FlQ d c V hp r h -∗ K ⟨⟩) -∗ WP d (qstart c hp h) K) := by
  unfold anyw qstart
  iintro ⟨⟨%g, Hb⟩, Hv, Hq⟩ HK
  ihave Hq2 := (pt_lend (T := qcols hp h) (Finset.subset_univ _)) $$ Hq
  icases Hq2 with ⟨Hq, Hr⟩
  ihave Hs := q_src $$ Hq
  ihave Hb2 := q_dst $$ Hb
  icases Hb2 with ⟨%g2, Hb2⟩
  iapply (wp_startD (D := iprop(pt d c.qb (qbc hp.l h) fullShare (qbS V p) ∗ pt d c.q (qcols hp h) (qsh r h) V.q)) (by decide) ?_) $$ [Hs Hb2 Hv]
  rotate_left
  · isplitl [Hs]; · iexact Hs
    isplitl [Hb2]; · iexact Hb2
    iexact Hv
  · iintro HF
    iapply HK
    unfold FlQ
    isplitl [HF]; · iexact HF
    iexact Hr
  · iintro ⟨H1, H2⟩
    isplitl [H1]
    · iapply q_undst $$ H1
    · iapply q_unsrc $$ H2

theorem wp_qwait {p : BitVec 32} {hp : InOk p} {r h : Fin 2} {K : PUnit → sProp 𝕄} :
    iprop(FlQ d c V hp r h ∗ ow d)
      ⊢ iprop((iprop(pt d c.qb (qbc hp.l h) fullShare (qbS V p) ∗ sem0 d (qsemL c hp.l h).sem ∗ pt d c.q Finset.univ (qsh r h) V.q ∗ ow d) -∗ K ⟨⟩)
        -∗ WP d (qwait c hp h) K) := by
  unfold FlQ qwait
  iintro ⟨⟨HF, Hr⟩, Ho⟩ HK
  iapply (wp_waitL (src := qsrc c hp h) (dst := qdst c hp h) (h1 := View.wordExact_bits rfl) (h2 := (View.wordExact_bits rfl).reshape _ _)) $$ [HF Ho]
  · isplitl [HF] <;> iassumption
  iintro ⟨⟨Hb, Hq⟩, Hv, Ho⟩
  iapply HK
  isplitl [Hb]; · iexact Hb
  isplitl [Hv]; · iexact Hv
  isplitl [Hq Hr]
  · iapply (pt_back (T := qcols hp h) (Finset.subset_univ _))
    isplitl [Hq] <;> iassumption
  iexact Ho

theorem s_src {p : BitVec 32} {hp : InOk p} {h : Fin 2} {q : PosShare TreeShare} {f : S90x20736.Idx → Elt F .bf16} :
    pt d c.s (scols hp h) q f ⊢ pt d (ssrc c hp h) Finset.univ q
      (fun x => f ((Rect.unit (s := S90x20736) ![0, (colw p h).toNat] S90x256.size (shin (hp.col h))).emb x)) := pt_sliceS (hr := fun _ => rfl) rfl
theorem s_unsrc {p : BitVec 32} {hp : InOk p} {h : Fin 2} {q : PosShare TreeShare} {f : S90x20736.Idx → Elt F .bf16} :
    pt d (ssrc c hp h) Finset.univ q
      (fun x => f ((Rect.unit (s := S90x20736) ![0, (colw p h).toNat] S90x256.size (shin (hp.col h))).emb x))
      ⊢ pt d c.s (scols hp h) q f := pt_unsliceS (hr := fun _ => rfl) rfl
theorem s_dst {r h : Fin 2} {f : S2x90x512.Idx → Elt F .bf16} :
    pt d c.sb (sbc r h) fullShare f ⊢ iprop(∃ g, pt d (sdst c r h) Finset.univ fullShare g) :=
  ((pt_sliceS (r := Rect.unit (s := S2x90x512) ![r.val, 0, 256 * h.val] S1x90x256.size (sbin r h)) (hr := fun _ => rfl) rfl).trans
    (pt_squeeze (h := squeezes_S1x90x256_S90x256))).trans (exists_intro _)
theorem s_undst {p : BitVec 32} {hp : InOk p} {r h : Fin 2} :
    pt d (sdst c r h) Finset.univ fullShare
      (fun x => V.s ((Rect.unit (s := S90x20736) ![0, (colw p h).toNat] S90x256.size (shin (hp.col h))).emb x))
      ⊢ pt d c.sb (sbc r h) fullShare (sbS V p) := by
  have e : (fun x : S90x256.Idx => V.s ((Rect.unit (s := S90x20736) ![0, (colw p h).toNat] S90x256.size (shin (hp.col h))).emb x))
      = fun x : S90x256.Idx => (fun y => sbS V p ((Rect.unit (s := S2x90x512) ![r.val, 0, 256 * h.val] S1x90x256.size (sbin r h)).emb y))
          (Shape.reshapeEquiv squeezes_S1x90x256_S90x256.numel_eq x) := by
    funext x
    refine Eq.trans ?_ (congrArg (fun y => sbS V p ((Rect.unit (s := S2x90x512) ![r.val, 0, 256 * h.val] S1x90x256.size (sbin r h)).emb y))
      (resh12 (a := 90) (b := 256) squeezes_S1x90x256_S90x256.numel_eq x)).symm
    unfold sbS
    refine congrArg V.s ?_
    funext a
    match a with
    | ⟨0, _⟩ => rfl
    | ⟨1, _⟩ =>
      refine Fin.ext ?_
      refine Eq.trans ?_ (colOf_at hp h (x 1) (by
        show 256 * h.val + 1 * (x 1).val = _; omega)).symm
      show (colw p h).toNat + 1 * (x 1).val = _
      omega
  rw [e]
  exact (pt_unsqueeze (m := c.sb.slice (Rect.unit (s := S2x90x512) ![r.val, 0, 256 * h.val] S1x90x256.size (sbin r h)) (fun _ => rfl))
    (h := squeezes_S1x90x256_S90x256)).trans (pt_unsliceS rfl)

theorem wp_sstart {p : BitVec 32} {hp : InOk p} {r h : Fin 2} {K : PUnit → sProp 𝕄} :
    iprop(anyw d c.sb (sbc r h) ∗ sem0 d (ssem c r h).sem ∗ pt d c.s Finset.univ (qsh r h) V.s)
      ⊢ iprop((FlS d c V hp r h -∗ K ⟨⟩) -∗ WP d (sstart c hp r h) K) := by
  unfold anyw sstart
  iintro ⟨⟨%g, Hb⟩, Hv, Hq⟩ HK
  ihave Hq2 := (pt_lend (T := scols hp h) (Finset.subset_univ _)) $$ Hq
  icases Hq2 with ⟨Hq, Hr⟩
  ihave Hs := s_src $$ Hq
  ihave Hb2 := s_dst $$ Hb
  icases Hb2 with ⟨%g2, Hb2⟩
  iapply (wp_startD (D := iprop(pt d c.sb (sbc r h) fullShare (sbS V p) ∗ pt d c.s (scols hp h) (qsh r h) V.s)) (by decide) ?_) $$ [Hs Hb2 Hv]
  rotate_left
  · isplitl [Hs]; · iexact Hs
    isplitl [Hb2]; · iexact Hb2
    iexact Hv
  · iintro HF
    iapply HK
    unfold FlS
    isplitl [HF]; · iexact HF
    iexact Hr
  · iintro ⟨H1, H2⟩
    isplitl [H1]
    · iapply (s_undst (hp := hp)) $$ H1
    · iapply (s_unsrc (hp := hp)) $$ H2

theorem wp_swait {p : BitVec 32} {hp : InOk p} {r h : Fin 2} {K : PUnit → sProp 𝕄} :
    iprop(FlS d c V hp r h ∗ ow d)
      ⊢ iprop((iprop(pt d c.sb (sbc r h) fullShare (sbS V p) ∗ sem0 d (ssem c r h).sem ∗ pt d c.s Finset.univ (qsh r h) V.s ∗ ow d) -∗ K ⟨⟩)
        -∗ WP d (swait c hp r h) K) := by
  unfold FlS swait
  iintro ⟨⟨HF, Hr⟩, Ho⟩ HK
  iapply (wp_waitL (src := ssrc c hp h) (dst := sdst c r h) (h1 := c.hs.wordExact_slice rfl _ (shww (hp.col h))) (h2 := (c.hsb.wordExact_slice rfl _ (sbww r h)).reshape _ _)) $$ [HF Ho]
  · isplitl [HF] <;> iassumption
  iintro ⟨⟨Hb, Hq⟩, Hv, Ho⟩
  iapply HK
  isplitl [Hb]; · iexact Hb
  isplitl [Hv]; · iexact Hv
  isplitl [Hq Hr]
  · iapply (pt_back (T := scols hp h) (Finset.subset_univ _))
    isplitl [Hq] <;> iassumption
  iexact Ho

/-- A ring slot and its semaphores, nothing in flight; a parity of scales, its semaphores and the shares its copies take. -/
def FreeQ (d : Dev nD) (c : Refs) (l : Fin 3) : sProp 𝕄 :=
  iprop((anyw (F := F) d c.qb (qbc l 0) ∗ anyw d c.qb (qbc l 1)) ∗ sem0 d (qsemL c l 0).sem ∗ sem0 d (qsemL c l 1).sem)
def FreeS (d : Dev nD) (c : Refs) (V : In F) (r : Fin 2) : sProp 𝕄 :=
  iprop((anyw d c.sb (sbc r 0) ∗ anyw d c.sb (sbc r 1)) ∗ (sem0 d (ssem c r 0).sem ∗ pt d c.q Finset.univ (qsh r 0) V.q ∗ pt d c.s Finset.univ (qsh r 0) V.s)
    ∗ (sem0 d (ssem c r 1).sem ∗ pt d c.q Finset.univ (qsh r 1) V.q ∗ pt d c.s Finset.univ (qsh r 1) V.s))
/-- The same holding block `w`. -/
def LoadQ (d : Dev nD) (c : Refs) (V : In F) (l : Fin 3) (w : BitVec 32) : sProp 𝕄 :=
  iprop((pt d c.qb (qbc l 0) fullShare (qbS V w) ∗ pt d c.qb (qbc l 1) fullShare (qbS V w)) ∗ sem0 d (qsemL c l 0).sem ∗ sem0 d (qsemL c l 1).sem)
def LoadS (d : Dev nD) (c : Refs) (V : In F) (r : Fin 2) (w : BitVec 32) : sProp 𝕄 :=
  iprop((pt d c.sb (sbc r 0) fullShare (sbS V w) ∗ pt d c.sb (sbc r 1) fullShare (sbS V w))
    ∗ (sem0 d (ssem c r 0).sem ∗ pt d c.q Finset.univ (qsh r 0) V.q ∗ pt d c.s Finset.univ (qsh r 0) V.s)
    ∗ (sem0 d (ssem c r 1).sem ∗ pt d c.q Finset.univ (qsh r 1) V.q ∗ pt d c.s Finset.univ (qsh r 1) V.s))
/-- Block `p` in flight. -/
def FlIn (d : Dev nD) (c : Refs) (V : In F) {p : BitVec 32} (hp : InOk p) (r : Fin 2) : sProp 𝕄 :=
  iprop((FlQ d c V hp r 0 ∗ FlS d c V hp r 0) ∗ (FlQ d c V hp r 1 ∗ FlS d c V hp r 1))

theorem any_of {m : Memref sig .tc sp s e} {S : Finset s.Idx} {f : s.Idx → Elt F e} : pt d m S fullShare f ⊢ anyw d m S := by
  unfold anyw; iintro H; iexists f; iexact H

theorem loadQ_free {l : Fin 3} {w : BitVec 32} : LoadQ d c V l w ⊢ FreeQ d c l := by
  unfold LoadQ FreeQ
  iintro ⟨⟨H1, H2⟩, H3⟩
  isplitl [H1 H2]
  · isplitl [H1]; · iapply any_of $$ H1
    iapply any_of $$ H2
  iexact H3
theorem loadS_free {r : Fin 2} {w : BitVec 32} : LoadS d c V r w ⊢ FreeS d c V r := by
  unfold LoadS FreeS
  iintro ⟨⟨H1, H2⟩, H3⟩
  isplitl [H1 H2]
  · isplitl [H1]; · iapply any_of $$ H1
    iapply any_of $$ H2
  iexact H3

theorem wp_startIn {p : BitVec 32} {hp : InOk p} {r : Fin 2} {K : PUnit → sProp 𝕄} :
    iprop(FreeQ (F := F) d c hp.l ∗ FreeS d c V r) ⊢ iprop((FlIn d c V hp r -∗ K ⟨⟩) -∗ WP d (startIn c hp r) K) := by
  unfold FreeQ FreeS startIn FlIn
  iintro ⟨⟨⟨Hb0, Hb1⟩, Hv0, Hv1⟩, ⟨Hc0, Hc1⟩, ⟨Hw0, Hq0, Hs0⟩, Hw1, Hq1, Hs1⟩ HK
  rw [WP_bind]
  iapply (wp_qstart (V := V) (r := r)) $$ [Hb0 Hv0 Hq0]
  · isplitl [Hb0]; · iexact Hb0
    isplitl [Hv0] <;> iassumption
  iintro H0
  rw [WP_bind]
  iapply (wp_sstart (V := V) (r := r)) $$ [Hc0 Hw0 Hs0]
  · isplitl [Hc0]; · iexact Hc0
    isplitl [Hw0] <;> iassumption
  iintro H1
  rw [WP_bind]
  iapply (wp_qstart (V := V) (r := r)) $$ [Hb1 Hv1 Hq1]
  · isplitl [Hb1]; · iexact Hb1
    isplitl [Hv1] <;> iassumption
  iintro H2
  iapply (wp_sstart (V := V) (r := r)) $$ [Hc1 Hw1 Hs1]
  · isplitl [Hc1]; · iexact Hc1
    isplitl [Hw1] <;> iassumption
  iintro H3
  iapply HK
  isplitl [H0 H1]
  · isplitl [H0] <;> iassumption
  isplitl [H2] <;> iassumption

theorem wp_waitIn {p : BitVec 32} {hp : InOk p} {r : Fin 2} {K : PUnit → sProp 𝕄} :
    iprop(FlIn d c V hp r ∗ ow d) ⊢ iprop((iprop(LoadQ d c V hp.l p ∗ LoadS d c V r p ∗ ow d) -∗ K ⟨⟩) -∗ WP d (waitIn c hp r) K) := by
  unfold LoadQ LoadS waitIn FlIn
  iintro ⟨⟨⟨H0, H1⟩, H2, H3⟩, Ho⟩ HK
  rw [WP_bind]
  iapply wp_qwait $$ [H0 Ho]
  · isplitl [H0] <;> iassumption
  iintro ⟨Hb0, Hv0, Hq0, Ho⟩
  rw [WP_bind]
  iapply wp_swait $$ [H1 Ho]
  · isplitl [H1] <;> iassumption
  iintro ⟨Hc0, Hw0, Hs0, Ho⟩
  rw [WP_bind]
  iapply wp_qwait $$ [H2 Ho]
  · isplitl [H2] <;> iassumption
  iintro ⟨Hb1, Hv1, Hq1, Ho⟩
  iapply wp_swait $$ [H3 Ho]
  · isplitl [H3] <;> iassumption
  iintro ⟨Hc1, Hw1, Hs1, Ho⟩
  iapply HK
  isplitl [Hb0 Hb1 Hv0 Hv1]
  · isplitl [Hb0 Hb1]
    · isplitl [Hb0] <;> iassumption
    isplitl [Hv0] <;> iassumption
  isplitl [Hc0 Hc1 Hw0 Hw1 Hq0 Hq1 Hs0 Hs1]
  · isplitl [Hc0 Hc1]
    · isplitl [Hc0] <;> iassumption
    isplitl [Hw0 Hq0 Hs0]
    · isplitl [Hw0]; · iexact Hw0
      isplitl [Hq0] <;> iassumption
    · isplitl [Hw1]; · iexact Hw1
      isplitl [Hq1] <;> iassumption
  iexact Ho

/-! ## Results -/

/-- The columns of the result from `512 b` on, those before, and those of block `b`. -/
def yrest (b : Nat) : Finset S192x20736.Idx := Finset.univ.filter fun i => 512 * b ≤ (i 1).val
def ydone (b : Nat) : Finset S192x20736.Idx := Finset.univ.filter fun i => (i 1).val < 512 * b
def yset {k : Nat} (hk : k + 512 ≤ 20736) : Finset S192x20736.Idx :=
  (Rect.unit (s := S192x20736) ![0, k] S192x512.size (yhin hk)).set

theorem mem_yset {k : Nat} {hk : k + 512 ≤ 20736} {i : S192x20736.Idx} : i ∈ yset hk ↔ k ≤ (i 1).val ∧ (i 1).val < k + 512 := by
  have i0 : (i 0).val < 192 := (i 0).isLt
  unfold yset
  refine mem_unit2.trans ?_
  omega

theorem yrest_split {b k : Nat} (hk : k + 512 ≤ 20736) (e : k = 512 * b) :
    yset hk ⊆ yrest b ∧ yrest b \ yset hk = yrest (b + 1) := by
  constructor
  · intro i hi
    rw [mem_yset] at hi
    unfold yrest; rw [Finset.mem_filter]; exact ⟨Finset.mem_univ _, by omega⟩
  · ext i
    rw [Finset.mem_sdiff, mem_yset]
    unfold yrest; rw [Finset.mem_filter, Finset.mem_filter]
    have := Finset.mem_univ i
    simp only [this, true_and]
    omega

theorem ydone_step {b k : Nat} (hk : k + 512 ≤ 20736) (e : k = 512 * b) :
    Disjoint (ydone b) (yset hk) ∧ ydone b ∪ yset hk = ydone (b + 1) := by
  constructor
  · rw [Finset.disjoint_left]
    intro i hi hj
    rw [mem_yset] at hj
    unfold ydone at hi; rw [Finset.mem_filter] at hi
    omega
  · ext i
    rw [Finset.mem_union, mem_yset]
    unfold ydone; rw [Finset.mem_filter, Finset.mem_filter]
    have := Finset.mem_univ i
    simp only [this, true_and]
    omega

/-- The copy of block `b` from parity `r`'s output buffer in flight. -/
def FlO (d : Dev nD) (c : Refs) (V : In F) (r : Fin 2) {k : Nat} (hk : k + 512 ≤ 20736) : sProp 𝕄 :=
  Fl d (osem c r).sem (odst c hk).view.dmaCredit iprop(pt d c.y (yset hk) fullShare (Y V) ∗ anyw d c.ot (otc r))

theorem Y_at {b : Nat} {i : S192x20736.Idx} {j : S2x192x512.Idx} (hb : b < 40) (h0 : (i 0).val = (j 1).val)
    (h1 : (i 1).val = 512 * b + (j 2).val) : Y V i = outS (ACC V b) j := by
  have j2 : (j 2).val < 512 := (j 2).isLt
  unfold Y
  rw [if_pos (by omega), show (i 1).val / 512 = b by omega]
  unfold outS
  have e0 : (i 0) = (j 1) := Fin.ext h0
  have e1 : (⟨(i 1).val % 512, Nat.mod_lt _ (by decide)⟩ : Fin 512) = (j 2) := Fin.ext (by show (i 1).val % 512 = (j 2).val; omega)
  rw [e1]
  exact congrArg (fun n => rnd (valO (ACC V b _ n _))) e0

theorem o_src {r : Fin 2} {q : PosShare TreeShare} {f : S2x192x512.Idx → Elt F .bf16} :
    pt d c.ot (otc r) q f ⊢ pt d (osrc c r) Finset.univ q
      (fun x => f ((Rect.unit (s := S2x192x512) ![r.val, 0, 0] S1x192x512.size (obin r)).emb (Shape.reshapeEquiv squeezes_S1x192x512_S192x512.numel_eq x))) :=
  (pt_sliceS (r := Rect.unit (s := S2x192x512) ![r.val, 0, 0] S1x192x512.size (obin r)) (hr := fun _ => rfl) rfl).trans (pt_squeeze (h := squeezes_S1x192x512_S192x512))
theorem o_unsrc {r : Fin 2} {f : S2x192x512.Idx → Elt F .bf16} :
    pt d (osrc c r) Finset.univ fullShare
      (fun x => f ((Rect.unit (s := S2x192x512) ![r.val, 0, 0] S1x192x512.size (obin r)).emb (Shape.reshapeEquiv squeezes_S1x192x512_S192x512.numel_eq x)))
      ⊢ anyw d c.ot (otc r) :=
  ((pt_unsqueeze (m := c.ot.slice (Rect.unit (s := S2x192x512) ![r.val, 0, 0] S1x192x512.size (obin r)) (fun _ => rfl))
    (h := squeezes_S1x192x512_S192x512)
    (f := fun y => f ((Rect.unit (s := S2x192x512) ![r.val, 0, 0] S1x192x512.size (obin r)).emb y))).trans (pt_unsliceS rfl)).trans any_of
theorem o_dst {k : Nat} {hk : k + 512 ≤ 20736} {f : S192x20736.Idx → Elt F .bf16} :
    pt d c.y (yset hk) fullShare f ⊢ iprop(∃ g, pt d (odst c hk) Finset.univ fullShare g) :=
  (pt_sliceS (r := Rect.unit (s := S192x20736) ![0, k] S192x512.size (yhin hk)) (hr := fun _ => rfl) rfl).trans (exists_intro _)
theorem o_undst {r : Fin 2} {k b : Nat} {hk : k + 512 ≤ 20736} (hb : b < 40) (ek : k = 512 * b) :
    pt d (odst c hk) Finset.univ fullShare
      (fun x => outS (ACC V b) ((Rect.unit (s := S2x192x512) ![r.val, 0, 0] S1x192x512.size (obin r)).emb
        (Shape.reshapeEquiv squeezes_S1x192x512_S192x512.numel_eq x)))
      ⊢ pt d c.y (yset hk) fullShare (Y V) := by
  have e : (fun x : S192x512.Idx => outS (ACC V b) ((Rect.unit (s := S2x192x512) ![r.val, 0, 0] S1x192x512.size (obin r)).emb
        (Shape.reshapeEquiv squeezes_S1x192x512_S192x512.numel_eq x)))
      = fun x => Y V ((Rect.unit (s := S192x20736) ![0, k] S192x512.size (yhin hk)).emb x) := by
    funext x
    refine (congrArg (fun y => outS (ACC V b) ((Rect.unit (s := S2x192x512) ![r.val, 0, 0] S1x192x512.size (obin r)).emb y))
      (resh12 (a := 192) (b := 512) squeezes_S1x192x512_S192x512.numel_eq x)).trans ?_
    refine (Y_at hb ?_ ?_).symm
    · rfl
    · show k + 1 * (x 1).val = 512 * b + (0 + 1 * (x 1).val); omega
  rw [e]
  exact pt_unsliceS (hr := fun _ => rfl) rfl

theorem wp_ostart {r : Fin 2} {k b : Nat} {hk : k + 512 ≤ 20736} (hb : b < 40) (e : k = 512 * b) {K : PUnit → sProp 𝕄} :
    iprop(pt d c.ot (otc r) fullShare (outS (ACC V b)) ∗ anyw d c.y (yset hk) ∗ sem0 d (osem c r).sem)
      ⊢ iprop((FlO d c V r hk -∗ K ⟨⟩) -∗ WP d (ostart c r hk) K) := by
  unfold anyw ostart FlO
  iintro ⟨Ho, ⟨%g, Hy⟩, Hv⟩ HK
  ihave Hy2 := o_dst $$ Hy
  icases Hy2 with ⟨%g2, Hy1⟩
  ihave Ho2 := o_src $$ Ho
  iapply (wp_startD (D := iprop(pt d c.y (yset hk) fullShare (Y V) ∗ anyw d c.ot (otc r))) (by decide) ?_) $$ [Hy1 Ho2 Hv]
  rotate_left
  · isplitl [Ho2]; · iexact Ho2
    isplitl [Hy1]; · iexact Hy1
    iexact Hv
  · iintro HF
    iapply HK; iexact HF
  · iintro ⟨H1, H2⟩
    isplitl [H1]
    · iapply (o_undst hb e) $$ H1
    · iapply o_unsrc $$ H2

theorem wp_owait {r : Fin 2} {k : Nat} {hk : k + 512 ≤ 20736} {K : PUnit → sProp 𝕄} :
    iprop(FlO d c V r hk ∗ ow d)
      ⊢ iprop((iprop(pt d c.y (yset hk) fullShare (Y V) ∗ anyw d c.ot (otc r) ∗ sem0 d (osem c r).sem ∗ ow d) -∗ K ⟨⟩)
        -∗ WP d (owait c r hk) K) := by
  unfold FlO owait
  iintro H HK
  iapply (wp_waitL (src := osrc c r) (dst := odst c hk) (h1 := (c.hot.wordExact_slice rfl _ (obww r)).reshape _ _) (h2 := c.hy.wordExact_slice rfl _ (yhww hk))) $$ H
  iintro ⟨⟨H1, H2⟩, H3⟩
  iapply HK
  isplitl [H1]; · iexact H1
  isplitl [H2]; · iexact H2
  iexact H3

end Cert.Kernel.Rolled
-- ==== Proof.Chunk.lean ====
/- One chunk of a step: the next tiles staged, this chunk multiplied, the drain and the tables at their chunks. -/
module

public import proofs.«01_k».proof.Proof.Copies
public import Idealize.ShloMosaic.Lib.ValueLayout

@[expose] public section

noncomputable section

namespace Cert.Kernel.Rolled

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {sp sp' : Space} {cs : CoreSpace} {s : Shape} {e : EltTy} {d : Dev nD}

variable {V : In F} {c : Refs}

/-! ## The matrix units over a round -/

theorem regOf_ne (g : Nat) (r : Fin 2) : regOf (g + 1) r ≠ regOf g r := by
  unfold regOf; intro h; simp only [Fin.ext_iff] at h; omega

theorem reg_cases (g : Nat) (r r' : Fin 2) : r' = regOf g r ∨ r' = regOf (g + 1) r := by
  unfold regOf; simp only [Fin.ext_iff]; omega

section
variable {N : Nat} {r : Fin 2} {T : Nat → Fin 2 → FVec F S256x256 .bf16} {X : Nat → Fin 2 → Fin 2 → FVec F S96x256 .bf16}
  {M : Nat → Fin 2 → Fin 2 → Bool} {prev : Fin 2 → Fin 192 → Fin 256 → Option (F .f32)}

/-- What the units hold after round `g`'s products, before anything is drained. -/
def ATm (N : Nat) (r : Fin 2) (T : Nat → Fin 2 → FVec F S256x256 .bf16) (X : Nat → Fin 2 → Fin 2 → FVec F S96x256 .bf16)
    (M : Nat → Fin 2 → Fin 2 → Bool) (prev : Fin 2 → Fin 192 → Fin 256 → Option (F .f32)) (g : Nat) : AS F where
  reg h r' := if r' = regOf (g + 1) r ∧ g + 1 < N then some (T (g + 1) h) else none
  acc p h n C := if p = r then accO T X M h n C (g + 1) else if g ≤ 3 then prev h n C else none

theorem ATm_eq {g : Nat} (hg : g ≠ 3) : ATm N r T X M prev g = AT N r T X M prev (g + 1) := by
  unfold ATm AT
  have : (g ≤ 3) = (g + 1 ≤ 3) := propext ⟨fun h => by omega, fun h => by omega⟩
  simp only [this]

theorem ATm_drain {r' : Fin 2} (hr : r' ≠ r) : (ATm N r T X M prev 3).drain r' = AT N r T X M prev 4 := by
  unfold ATm AT AS.drain
  congr 1
  funext p h n C
  dsimp only
  by_cases h1 : p = r'
  · subst h1; rw [if_pos rfl, if_neg hr, if_neg (by decide)]
  · have h2 : p = r := by omega
    rw [if_neg h1, if_pos h2, if_pos h2]

theorem AT_reg_next (g : Nat) (h : Fin 2) : (AT N r T X M prev g).reg h (regOf (g + 1) r) = none := by
  unfold AT; dsimp only; rw [if_neg]; exact fun hh => regOf_ne g r hh.1
theorem AT_reg_cur {g : Nat} (hg : g < N) (h : Fin 2) : (AT N r T X M prev g).reg h (regOf g r) = some (T g h) := by
  unfold AT; dsimp only; rw [if_pos ⟨rfl, hg⟩]

/-- The next tiles staged. -/
def stage (a : AS F) (r' : Fin 2) (t : Fin 2 → FVec F S256x256 .bf16) : AS F := (a.push 0 r' (t 0)).push 1 r' (t 1)

/-- Both units' products. -/
def mult (a : AS F) (p r' : Fin 2) (t : Fin 2 → FVec F S256x256 .bf16) (x : Fin 2 → Fin 2 → FVec F S96x256 .bf16) : AS F :=
  (a.full p 0 r' (t 0) (x 0)).full p 1 r' (t 1) (x 1)

theorem mult_acc (a : AS F) (p r' : Fin 2) (t : Fin 2 → FVec F S256x256 .bf16) (x : Fin 2 → Fin 2 → FVec F S96x256 .bf16)
    (p' h : Fin 2) (n : Fin 192) (C : Fin 256) :
    (mult a p r' t x).acc p' h n C = if p' = p then some (depO (a.acc p' h n C) (pass (t h) (x h (halfOf n)) (Mxu.ix (inHalf n) C)))
      else a.acc p' h n C := by
  unfold mult AS.full AS.take AS.dep
  dsimp only
  by_cases hp : p' = p
  · have hh : h = 0 ∨ h = 1 := by omega
    have hm : halfOf n = 0 ∨ halfOf n = 1 := by omega
    rcases hh with rfl | rfl <;> rcases hm with hm | hm <;> simp [hp, hm]
  · simp [hp]

theorem mult_reg (a : AS F) (p r' : Fin 2) (t : Fin 2 → FVec F S256x256 .bf16) (x : Fin 2 → Fin 2 → FVec F S96x256 .bf16)
    (h r'' : Fin 2) : (mult a p r' t x).reg h r'' = if r'' = r' then none else a.reg h r'' := by
  unfold mult AS.full AS.take AS.dep
  dsimp only
  have hh : h = 0 ∨ h = 1 := by omega
  by_cases hr : r'' = r' <;> rcases hh with rfl | rfl <;> simp [hr]

theorem round_acc {g : Nat} (hM : ∀ h mh, M g h mh = true) (a : AS F) (ha : ∀ p h n C, a.acc p h n C = (AT N r T X M prev g).acc p h n C) :
    ∀ p h n C, (mult a r (regOf g r) (T g) (X g)).acc p h n C = (ATm N r T X M prev g).acc p h n C := by
  intro p h n C
  rw [mult_acc, ha]
  unfold ATm AT
  dsimp only
  by_cases hp : p = r
  · rw [if_pos hp, if_pos hp, if_pos hp]
    show _ = (if M g h (halfOf n) then _ else _)
    rw [if_pos (hM _ _)]
  · rw [if_neg hp, if_neg hp, if_neg hp]

theorem stage_reg (a : AS F) (r' : Fin 2) (t : Fin 2 → FVec F S256x256 .bf16) (h r'' : Fin 2) :
    (stage a r' t).reg h r'' = if r'' = r' then some (t h) else a.reg h r'' := by
  unfold stage AS.push
  dsimp only
  have hh : h = 0 ∨ h = 1 := by omega
  by_cases hr : r'' = r' <;> rcases hh with rfl | rfl <;> simp [hr]

theorem AS.ext' {a b : AS F} (h1 : ∀ h r, a.reg h r = b.reg h r) (h2 : ∀ p h n C, a.acc p h n C = b.acc p h n C) : a = b := by
  cases a; cases b
  congr 1
  · funext h r; exact h1 h r
  · funext p h n C; exact h2 p h n C

/-- A round that stages the next. -/
theorem round_eq {g : Nat} (hg : g + 1 < N) (hM : ∀ h mh, M g h mh = true) :
    mult (stage (AT N r T X M prev g) (regOf (g + 1) r) (T (g + 1))) r (regOf g r) (T g) (X g) = ATm N r T X M prev g := by
  refine AS.ext' (fun h r' => ?_) (round_acc hM _ fun _ _ _ _ => rfl)
  rw [mult_reg, stage_reg]
  unfold ATm AT
  dsimp only
  rcases reg_cases g r r' with hr | hr
  · rw [if_pos hr, if_neg]
    rintro ⟨h1, -⟩; exact regOf_ne g r (h1.symm.trans hr)
  · rw [if_neg (fun h => regOf_ne g r (hr.symm.trans h)), if_pos hr, if_pos ⟨hr, hg⟩]

/-- The last round, staging nothing. -/
theorem round_last {g : Nat} (hg : ¬ g + 1 < N) (hM : ∀ h mh, M g h mh = true) :
    mult (AT N r T X M prev g) r (regOf g r) (T g) (X g) = ATm N r T X M prev g := by
  refine AS.ext' (fun h r' => ?_) (round_acc hM _ fun _ _ _ _ => rfl)
  rw [mult_reg]
  unfold ATm AT
  dsimp only
  have hn : ¬ (r' = regOf (g + 1) r ∧ g + 1 < N) := fun h => hg h.2
  rw [if_neg hn]
  rcases reg_cases g r r' with hr | hr
  · rw [if_pos hr]
  · rw [if_neg (fun h => regOf_ne g r (hr.symm.trans h)), if_neg (fun h => regOf_ne g r (hr.symm.trans h.1))]

end

/-! ## What a chunk works on -/

/-- What a block's tiles are built from. -/
def Wts (d : Dev nD) (c : Refs) (V : In F) (l : Fin 3) (r : Fin 2) (w : BitVec 32) : sProp 𝕄 :=
  iprop((pt d c.qb (qbc l 0) fullShare (qbS V w) ∗ pt d c.qb (qbc l 1) fullShare (qbS V w))
    ∗ pt d c.zt (ztc r) fullShare (ztS V w) ∗ pt d c.st (stc r) fullShare (stS V w r))

/-- Parity `r`'s tables with the first `n` tiles of block `w` filled. -/
def Tab (d : Dev nD) (c : Refs) (V : In F) (r : Fin 2) (w : BitVec 32) (n : Nat) : sProp 𝕄 :=
  iprop((∃ fz, ⌜∀ i : S2x45x512.Idx, (i 2).val / 128 < n → fz i = ztS V w i⌝ ∗ pt d c.zt (ztc r) fullShare fz)
    ∗ (∃ fs, ⌜∀ i : S2x90x512.Idx, (i 2).val / 128 < n → fs i = stS V w r i⌝ ∗ pt d c.st (stc r) fullShare fs))

/-- What filling tables works on besides the tables. -/
def Aux (d : Dev nD) (c : Refs) (V : In F) : sProp 𝕄 :=
  iprop(pt d c.zb Finset.univ fullShare V.z ∗ anyw d c.nb Finset.univ ∗ anyw d c.sc Finset.univ)

theorem tab_full {r : Fin 2} {w : BitVec 32} {n : Nat} (hn : n = 4) :
    Tab d c V r w n ⊢ iprop(pt d c.zt (ztc r) fullShare (ztS V w) ∗ pt d c.st (stc r) fullShare (stS V w r)) := by
  subst hn
  unfold Tab
  iintro ⟨⟨%fz, %hz, Hz⟩, ⟨%fs, %hs, Hs⟩⟩
  isplitl [Hz]
  · iapply (pt_congr (fun i _ => hz i (by have : (i 2).val < 512 := (i 2).isLt; omega))) $$ Hz
  · iapply (pt_congr (fun i _ => hs i (by have : (i 2).val < 512 := (i 2).isLt; omega))) $$ Hs

theorem wp_tab {p : Fin 2} {t : Fin 4} {w wc : BitVec 32} {h : Fin 2} (hh : h = ⟨t.val / 2, by omega⟩) (hwc : wc = colw w h)
    {hb : (basew wc).toNat + 128 ≤ 2592} {K : PUnit → sProp 𝕄} :
    iprop(Aux d c V ∗ pt d c.sb (sbc p h) fullShare (sbS V w) ∗ Tab d c V p w t.val)
      ⊢ iprop((iprop(Aux d c V ∗ pt d c.sb (sbc p h) fullShare (sbS V w) ∗ Tab d c V p w (t.val + 1)) -∗ K ⟨⟩)
        -∗ WP d (tables c lanes p t wc hb) K) := by
  subst hh
  unfold Aux Tab
  iintro ⟨⟨H1, H2, H3⟩, Hs, ⟨%fz, %hz, Hz⟩, ⟨%fs, %hs, Hst⟩⟩ HK
  iapply (wp_tables (V := V) hwc) $$ [H1 H2 H3 Hs Hz Hst]
  · isplitl [H1]; · iexact H1
    isplitl [H2]; · iexact H2
    isplitl [H3]; · iexact H3
    isplitl [Hs]; · iexact Hs
    isplitl [Hz] <;> iassumption
  iintro ⟨H1, H2, H3, Hs, Hz, Hst⟩
  iapply HK
  isplitl [H1 H2 H3]
  · isplitl [H1]; · iexact H1
    isplitl [H2] <;> iassumption
  isplitl [Hs]; · iexact Hs
  isplitl [Hz]
  · iexists _; isplitr
    rotate_left
    · iexact Hz
    · ipureintro
      intro i hi
      unfold tile3
      split
      · rfl
      · exact hz i (by omega)
  · iexists _; isplitr
    rotate_left
    · iexact Hst
    · ipureintro
      intro i hi
      unfold tile3
      split
      · rfl
      · exact hs i (by omega)

/-- Both units' tiles of a chunk staged. -/
theorem wp_push2 {w : BitVec 32} {l : Fin 3} {p : Fin 2} {g g' : Fin 45} {r : Fin 2} {m : Mxu F} {a : AS F} (ha : Abs m a)
    (hn : ∀ h, a.reg h r = none) {K : Mxu F → sProp 𝕄} {t : Fin 2 → FVec F S256x256 .bf16} (h0 : t 0 = wt V w l p g 0) (h1 : t 1 = wt V w l p g' 1) :
    Wts d c V l p w ⊢ iprop((∀ m', ⌜Abs m' (stage a r t)⌝ -∗ Wts d c V l p w -∗ K m')
        -∗ WP d (do let m ← push c evens l p g 0 r m; push c evens l p g' 1 r m) K) := by
  unfold Wts
  iintro ⟨⟨H0, H1⟩, Hz, Hs⟩ HK
  rw [WP_bind]
  iapply (wp_push (V := V) (w := w) ha (hn 0)) $$ [H0 Hz Hs]
  · isplitl [H0]; · iexact H0
    isplitl [Hz] <;> iassumption
  iintro %m1 %hm1 ⟨H0, Hz, Hs⟩
  have hn1 : (a.push 0 r (wt V w l p g 0)).reg 1 r = none := by
    unfold AS.push; dsimp only; rw [if_neg (by simp)]; exact hn 1
  iapply (wp_push (V := V) (w := w) hm1 hn1) $$ [H1 Hz Hs]
  · isplitl [H1]; · iexact H1
    isplitl [Hz] <;> iassumption
  iintro %m2 %hm2 ⟨H1, Hz, Hs⟩
  rw [← h0, ← h1] at hm2
  iapply HK $$ %m2 %hm2
  isplitl [H0 H1]
  · isplitl [H0] <;> iassumption
  isplitl [Hz] <;> iassumption

/-- Both units' products of a round. -/
theorem wp_mult {p : Fin 2} {g g' : Fin 45} {r : Fin 2} {m : Mxu F} {a : AS F} (ha : Abs m a) {t : Fin 2 → FVec F S256x256 .bf16}
    (ht : ∀ h, a.reg h r = some (t h)) {x : Fin 2 → Fin 2 → FVec F S96x256 .bf16} (h0 : x 0 = xrS V g) (h1 : x 1 = xrS V g') {K : Mxu F → sProp 𝕄} :
    pt d c.xm Finset.univ fullShare (xmS V)
      ⊢ iprop((∀ m', ⌜Abs m' (mult a p r t x)⌝ -∗ pt d c.xm Finset.univ fullShare (xmS V) -∗ K m')
          -∗ WP d (do let m ← acc2 c p g 0 r m; acc2 c p g' 1 r m) K) := by
  iintro H HK
  rw [WP_bind]
  iapply (wp_acc2 ha (ht 0)) $$ H
  iintro %m1 %hm1 H
  have ht1 : (a.full p 0 r (t 0) (xrS V g)).reg 1 r = some (t 1) := by
    unfold AS.full AS.take AS.dep; dsimp only; rw [if_neg (by simp)]; exact ht 1
  iapply (wp_acc2 hm1 ht1) $$ H
  iintro %m2 %hm2 H
  rw [← h0, ← h1] at hm2
  iapply HK $$ %m2 %hm2 H

/-- What a step's chunks work on. -/
def CR (d : Dev nD) (c : Refs) (V : In F) (l l' : Fin 3) (r : Fin 2) (w w' : BitVec 32)
    (prev : Fin 2 → Fin 192 → Fin 256 → Option (F .f32)) (g nt : Nat) : sProp 𝕄 :=
  iprop(Wts d c V l r w ∗ (pt d c.qb (qbc l' 0) fullShare (qbS V w') ∗ pt d c.qb (qbc l' 1) fullShare (qbS V w'))
    ∗ (pt d c.sb (sbc (1 - r) 0) fullShare (sbS V w') ∗ pt d c.sb (sbc (1 - r) 1) fullShare (sbS V w'))
    ∗ Tab d c V (1 - r) w' nt ∗ Aux d c V ∗ pt d c.xm Finset.univ fullShare (xmS V)
    ∗ (∃ fo, ⌜3 < g → fo = outS prev⌝ ∗ pt d c.ot (otc (1 - r)) fullShare fo))

/-- The tiles filled before chunk `g`. -/
def ntab (g : Nat) : Nat := if g ≤ 8 then 0 else if g ≤ 12 then 1 else if g ≤ 16 then 2 else if g ≤ 20 then 3 else 4

/-- What follows the products of chunk `g`. -/
def ctail (c : Refs) (v0 : IVec S1x128 32) {p : BitVec 32} (hp : StepOk p) (r : Fin 2) (g : Nat) (m : Mxu F) : PR F (Mxu F) :=
  match g with
  | 3 => drain c (1 - r) m
  | 8 => do tables c v0 (1 - r) 0 (colw (Scalar.addi p 1#32) 0) (hp.nxt.base 0); pure m
  | 12 => do tables c v0 (1 - r) 1 (colw (Scalar.addi p 1#32) 0) (hp.nxt.base 0); pure m
  | 16 => do tables c v0 (1 - r) 2 (colw (Scalar.addi p 1#32) 1) (hp.nxt.base 1); pure m
  | 20 => do tables c v0 (1 - r) 3 (colw (Scalar.addi p 1#32) 1) (hp.nxt.base 1); pure m
  | _ => pure m

theorem chunk_lt {p : BitVec 32} (hp : StepOk p) (r : Fin 2) (g : Fin 45) (h : g.val + 1 < 45) (m : Mxu F) :
    chunk c lanes evens hp r g m = (do
      let m ← (do let m ← push c evens hp.cur.l r ⟨g.val + 1, h⟩ 0 (regOf (g.val + 1) r) m
                  push c evens hp.cur.l r ⟨g.val + 1, h⟩ 1 (regOf (g.val + 1) r) m)
      let m ← (do let m ← acc2 c r g 0 (regOf g.val r) m
                  acc2 c r g 1 (regOf g.val r) m)
      ctail c lanes hp r g.val m) := by
  unfold chunk; rw [dif_pos h]
  simp only [bind_assoc]; rfl

theorem chunk_ge {p : BitVec 32} (hp : StepOk p) (r : Fin 2) (g : Fin 45) (h : ¬ g.val + 1 < 45) (m : Mxu F) :
    chunk c lanes evens hp r g m = (do
      let m ← (do let m ← push c evens hp.nxt.l (1 - r) 0 0 (regOf (g.val + 1) r) m
                  push c evens hp.nxt.l (1 - r) 0 1 (regOf (g.val + 1) r) m)
      let m ← (do let m ← acc2 c r g 0 (regOf g.val r) m
                  acc2 c r g 1 (regOf g.val r) m)
      ctail c lanes hp r g.val m) := by
  unfold chunk; rw [dif_neg h]
  simp only [bind_assoc]; rfl

section
variable {p : BitVec 32} {hp : StepOk p} {r : Fin 2} {T : Nat → Fin 2 → FVec F S256x256 .bf16}
  {prev : Fin 2 → Fin 192 → Fin 256 → Option (F .f32)}

theorem wp_ctail {l l' : Fin 3} {w : BitVec 32} {g : Nat} {m : Mxu F} (ha : Abs m (ATm 46 r T (XB V) allM prev g)) {K : Mxu F → sProp 𝕄} :
    CR d c V l l' r w (Scalar.addi p 1#32) prev g (ntab g)
      ⊢ iprop((∀ m', ⌜Abs m' (AT 46 r T (XB V) allM prev (g + 1))⌝ -∗ CR d c V l l' r w (Scalar.addi p 1#32) prev (g + 1) (ntab (g + 1)) -∗ K m')
        -∗ WP d (ctail c lanes hp r g m) K) := by
  have h1r : (1 - r) ≠ r := by omega
  unfold CR ctail
  split
  · iintro ⟨H1, H2, H3, H4, H5, H6, ⟨%fo, -, Ho⟩⟩ HK
    iapply (wp_drain ha) $$ Ho
    iintro %m' %hm Ho
    rw [ATm_drain h1r] at hm
    iapply HK $$ %m' %hm
    isplitl [H1]; · iexact H1
    isplitl [H2]; · iexact H2
    isplitl [H3]; · iexact H3
    isplitl [H4]; · iexact H4
    isplitl [H5]; · iexact H5
    isplitl [H6]; · iexact H6
    iexists _; isplitr
    rotate_left
    · iexact Ho
    · ipureintro
      intro _
      unfold ATm
      dsimp only
      simp only [if_neg h1r, if_pos (Nat.le_refl 3)]
  · iintro ⟨H1, H2, ⟨Hs0, Hs1⟩, H4, H5, H6, ⟨%fo, %hfo, Ho⟩⟩ HK
    rw [WP_bind]
    iapply (wp_tab (V := V) (t := 0) (h := 0) rfl rfl) $$ [Hs0 H4 H5]
    · isplitl [H5]; · iexact H5
      isplitl [Hs0]; · iexact Hs0
      iexact H4
    iintro ⟨H5, Hs0, H4⟩
    iapply WP_pure
    rw [ATm_eq (by decide)] at ha
    iapply HK $$ %m %ha
    isplitl [H1]; · iexact H1
    isplitl [H2]; · iexact H2
    isplitl [Hs0 Hs1]; · isplitl [Hs0] <;> iassumption
    isplitl [H4]; · iexact H4
    isplitl [H5]; · iexact H5
    isplitl [H6]; · iexact H6
    iexists fo; isplitr
    · ipureintro; exact fun _ => hfo (by decide)
    · iexact Ho
  · iintro ⟨H1, H2, ⟨Hs0, Hs1⟩, H4, H5, H6, ⟨%fo, %hfo, Ho⟩⟩ HK
    rw [WP_bind]
    iapply (wp_tab (V := V) (t := 1) (h := 0) rfl rfl) $$ [Hs0 H4 H5]
    · isplitl [H5]; · iexact H5
      isplitl [Hs0]; · iexact Hs0
      iexact H4
    iintro ⟨H5, Hs0, H4⟩
    iapply WP_pure
    rw [ATm_eq (by decide)] at ha
    iapply HK $$ %m %ha
    isplitl [H1]; · iexact H1
    isplitl [H2]; · iexact H2
    isplitl [Hs0 Hs1]; · isplitl [Hs0] <;> iassumption
    isplitl [H4]; · iexact H4
    isplitl [H5]; · iexact H5
    isplitl [H6]; · iexact H6
    iexists fo; isplitr
    · ipureintro; exact fun _ => hfo (by decide)
    · iexact Ho
  · iintro ⟨H1, H2, ⟨Hs0, Hs1⟩, H4, H5, H6, ⟨%fo, %hfo, Ho⟩⟩ HK
    rw [WP_bind]
    iapply (wp_tab (V := V) (t := 2) (h := 1) rfl rfl) $$ [Hs1 H4 H5]
    · isplitl [H5]; · iexact H5
      isplitl [Hs1]; · iexact Hs1
      iexact H4
    iintro ⟨H5, Hs1, H4⟩
    iapply WP_pure
    rw [ATm_eq (by decide)] at ha
    iapply HK $$ %m %ha
    isplitl [H1]; · iexact H1
    isplitl [H2]; · iexact H2
    isplitl [Hs0 Hs1]; · isplitl [Hs0] <;> iassumption
    isplitl [H4]; · iexact H4
    isplitl [H5]; · iexact H5
    isplitl [H6]; · iexact H6
    iexists fo; isplitr
    · ipureintro; exact fun _ => hfo (by decide)
    · iexact Ho
  · iintro ⟨H1, H2, ⟨Hs0, Hs1⟩, H4, H5, H6, ⟨%fo, %hfo, Ho⟩⟩ HK
    rw [WP_bind]
    iapply (wp_tab (V := V) (t := 3) (h := 1) rfl rfl) $$ [Hs1 H4 H5]
    · isplitl [H5]; · iexact H5
      isplitl [Hs1]; · iexact Hs1
      iexact H4
    iintro ⟨H5, Hs1, H4⟩
    iapply WP_pure
    rw [ATm_eq (by decide)] at ha
    iapply HK $$ %m %ha
    isplitl [H1]; · iexact H1
    isplitl [H2]; · iexact H2
    isplitl [Hs0 Hs1]; · isplitl [Hs0] <;> iassumption
    isplitl [H4]; · iexact H4
    isplitl [H5]; · iexact H5
    isplitl [H6]; · iexact H6
    iexists fo; isplitr
    · ipureintro; exact fun _ => hfo (by decide)
    · iexact Ho
  next h3 h8 h12 h16 h20 =>
    have hn : ntab (g + 1) = ntab g := by
      have n3 : g ≠ 3 := h3
      have n8 : g ≠ 8 := h8
      have n12 : g ≠ 12 := h12
      have n16 : g ≠ 16 := h16
      have n20 : g ≠ 20 := h20
      unfold ntab; split_ifs <;> omega
    have h3' : g ≠ 3 := h3
    iintro ⟨H1, H2, H3, H4, H5, H6, ⟨%fo, %hfo, Ho⟩⟩ HK
    iapply WP_pure
    rw [ATm_eq h3'] at ha
    rw [hn]
    iapply HK $$ %m %ha
    isplitl [H1]; · iexact H1
    isplitl [H2]; · iexact H2
    isplitl [H3]; · iexact H3
    isplitl [H4]; · iexact H4
    isplitl [H5]; · iexact H5
    isplitl [H6]; · iexact H6
    iexists fo; isplitr
    · ipureintro; exact fun h => hfo (by omega)
    · iexact Ho

theorem XB_eq (g : Fin 45) (h : Fin 2) : XB V g.val h = xrS V g := by
  unfold XB
  funext mh
  rw [show ch g.val = g from Fin.ext (Nat.mod_eq_of_lt g.isLt)]

theorem wp_chunk (hT : ∀ (g : Fin 45) h, T g.val h = wt V p hp.cur.l r g h)
    (hT' : ∀ h, T 45 h = wt V (Scalar.addi p 1#32) hp.nxt.l (1 - r) 0 h) {g : Fin 45} {m : Mxu F}
    (ha : Abs m (AT 46 r T (XB V) allM prev g.val)) {K : Mxu F → sProp 𝕄} :
    CR d c V hp.cur.l hp.nxt.l r p (Scalar.addi p 1#32) prev g.val (ntab g.val)
      ⊢ iprop((∀ m', ⌜Abs m' (AT 46 r T (XB V) allM prev (g.val + 1))⌝
          -∗ CR d c V hp.cur.l hp.nxt.l r p (Scalar.addi p 1#32) prev (g.val + 1) (ntab (g.val + 1)) -∗ K m')
        -∗ WP d (chunk c lanes evens hp r g m) K) := by
  by_cases hg : g.val + 1 < 45
  · rw [chunk_lt hp r g hg m]
    iintro H HK
    unfold CR
    icases H with ⟨H1, H2, H3, H4, H5, H6, Ho⟩
    rw [WP_bind]
    iapply (wp_push2 (V := V) (w := p) ha (AT_reg_next g.val) (t := T (g.val + 1)) (hT ⟨g.val + 1, hg⟩ 0) (hT ⟨g.val + 1, hg⟩ 1)) $$ H1
    iintro %m1 %hm1 H1
    rw [WP_bind]
    iapply (wp_mult (V := V) (t := T g.val) (x := XB V g.val) (p := r) hm1 (fun h => by
      rw [stage_reg, if_neg (regOf_ne g.val r).symm, AT_reg_cur (by omega)]) (XB_eq g 0) (XB_eq g 1)) $$ H6
    iintro %m2 %hm2 H6
    rw [round_eq (by omega) (fun _ _ => rfl)] at hm2
    iapply (wp_ctail (V := V) hm2) $$ [H1 H2 H3 H4 H5 H6 Ho]
    · unfold CR
      isplitl [H1]; · iexact H1
      isplitl [H2]; · iexact H2
      isplitl [H3]; · iexact H3
      isplitl [H4]; · iexact H4
      isplitl [H5]; · iexact H5
      isplitl [H6] <;> iassumption
    unfold CR
    iexact HK
  · have hg4 : g.val = 44 := by omega
    rw [chunk_ge hp r g hg m]
    iintro H HK
    unfold CR
    icases H with ⟨H1, ⟨H2a, H2b⟩, H3, H4, H5, H6, Ho⟩
    ihave H4 := (tab_full (n := ntab g.val) (by rw [hg4]; rfl)) $$ H4
    icases H4 with ⟨Hz, Hs⟩
    rw [WP_bind]
    iapply (wp_push2 (V := V) (w := Scalar.addi p 1#32) ha (AT_reg_next g.val) (t := T (g.val + 1)) (by rw [hg4]; exact hT' 0) (by rw [hg4]; exact hT' 1)) $$ [H2a H2b Hz Hs]
    · unfold Wts
      isplitl [H2a H2b]
      · isplitl [H2a] <;> iassumption
      isplitl [Hz] <;> iassumption
    unfold Wts
    iintro %m1 %hm1 ⟨⟨H2a, H2b⟩, Hz, Hs⟩
    rw [WP_bind]
    iapply (wp_mult (V := V) (t := T g.val) (x := XB V g.val) (p := r) hm1 (fun h => by
      rw [stage_reg, if_neg (regOf_ne g.val r).symm, AT_reg_cur (by omega)]) (XB_eq g 0) (XB_eq g 1)) $$ H6
    iintro %m2 %hm2 H6
    rw [round_eq (by omega) (fun _ _ => rfl)] at hm2
    iapply (wp_ctail (V := V) (w := p) (l := hp.cur.l) (l' := hp.nxt.l) hm2) $$ [H1 H2a H2b H3 Hz Hs H5 H6 Ho]
    · unfold CR Wts Tab
      isplitl [H1]; · iexact H1
      isplitl [H2a H2b]; · isplitl [H2a] <;> iassumption
      isplitl [H3]; · iexact H3
      isplitl [Hz Hs]
      · isplitl [Hz]
        · iexists _; isplitr
          rotate_left
          · iexact Hz
          · ipureintro; exact fun _ _ => rfl
        · iexists _; isplitr
          rotate_left
          · iexact Hs
          · ipureintro; exact fun _ _ => rfl
      isplitl [H5]; · iexact H5
      isplitl [H6] <;> iassumption
    unfold CR Wts
    iexact HK

theorem wp_chunks (hT : ∀ (g : Fin 45) h, T g.val h = wt V p hp.cur.l r g h)
    (hT' : ∀ h, T 45 h = wt V (Scalar.addi p 1#32) hp.nxt.l (1 - r) 0 h) (K : Mxu F → sProp 𝕄) :
    ∀ (n : Nat) (hn : n ≤ 45) (m : Mxu F) (_ : Abs m (AT 46 r T (XB V) allM prev (45 - n))),
    CR d c V hp.cur.l hp.nxt.l r p (Scalar.addi p 1#32) prev (45 - n) (ntab (45 - n))
      ⊢ iprop((∀ m', ⌜Abs m' (AT 46 r T (XB V) allM prev 45)⌝
          -∗ CR d c V hp.cur.l hp.nxt.l r p (Scalar.addi p 1#32) prev 45 4 -∗ K m')
        -∗ WP d (chunks c lanes evens hp r n hn m) K)
  | 0, hn, m, ha => by
    iintro H HK
    unfold chunks
    iapply WP_pure
    iapply HK $$ %m %ha
    iexact H
  | n + 1, hn, m, ha => by
    have e1 : 45 - (n + 1) = 44 - n := by omega
    have e2 : 44 - n + 1 = 45 - n := by omega
    have hg : 44 - n < 45 := by omega
    rw [e1] at ha ⊢
    iintro H HK
    unfold chunks
    rw [WP_bind]
    iapply (wp_chunk hT hT' (g := ⟨44 - n, hg⟩) ha) $$ H
    dsimp only
    rw [e2]
    iintro %m1 %hm1 H
    iapply (wp_chunks hT hT' K n (Nat.le_of_succ_le hn) m1 hm1) $$ H HK

end

end Cert.Kernel.Rolled
-- ==== Proof.Step.lean ====
/- One step of the kernel: from the state before a block to the state before the next. -/
module

public import proofs.«01_k».proof.Proof.Chunk
public import Idealize.ShloMosaic.Lib.ValueLayout

@[expose] public section

noncomputable section

namespace Cert.Kernel.Rolled

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {sp sp' : Space} {cs : CoreSpace} {s : Shape} {e : EltTy} {d : Dev nD}

variable {V : In F} {c : Refs}

/-! ## Numbers -/

theorem bw_add (b k : Nat) : Scalar.addi (bw b) (BitVec.ofNat 32 k) = bw (b + k) := by
  show BitVec.ofNat 32 b + BitVec.ofNat 32 k = BitVec.ofNat 32 (b + k)
  exact (BitVec.ofNat_add b k).symm

theorem slot_lt : ∀ b : Fin 41, slotw (bw b.val) = b.val % 3 := by decide +kernel
theorem condIn_lt : ∀ b : Fin 40, condIn (bw b.val) = 1#1 ↔ b.val + 2 ≤ 40 := by decide +kernel
theorem condGe2_lt : ∀ b : Fin 40, condGe (bw b.val) 2#32 = 1#1 ↔ 2 ≤ b.val := by decide +kernel
theorem condGe3_lt : ∀ b : Fin 40, condGe (bw b.val) 3#32 = 1#1 ↔ 3 ≤ b.val := by decide +kernel
theorem ycol2_lt : ∀ b : Fin 40, 2 ≤ b.val → ycol (bw b.val) 2#32 = 512 * (b.val - 2) := by decide +kernel
theorem ycol3_lt : ∀ b : Fin 40, 3 ≤ b.val → ycol (bw b.val) 3#32 = 512 * (b.val - 3) := by decide +kernel

theorem inOk_b {b : Nat} (h : b ≤ 40) : InOk (bw b) := inOk_lt ⟨b, by omega⟩

theorem l_eq {p : BitVec 32} (hp : InOk p) {b : Nat} (e : p = bw b) (hb : b ≤ 40) : hp.l = slotOf b := by
  subst e
  exact Fin.ext (slot_lt ⟨b, by omega⟩)

theorem FlIn_congr {d : Dev nD} {p p' : BitVec 32} (e : p = p') (hp : InOk p) (hp' : InOk p') {r r' : Fin 2} (er : r = r') :
    FlIn d c V hp r = FlIn d c V hp' r' := by subst e; subst er; rfl
theorem FlO_congr {d : Dev nD} {r r' : Fin 2} (er : r = r') {k k' : Nat} (e : k = k') (hk : k + 512 ≤ 20736) (hk' : k' + 512 ≤ 20736) :
    FlO d c V r hk = FlO d c V r' hk' := by subst e; subst er; rfl

theorem par_next (b : Nat) : 1 - parOf b = parOf (b + 1) := by
  unfold parOf
  rcases Nat.mod_two_eq_zero_or_one b with h | h
  · have h' : (b + 1) % 2 = 1 := by omega
    simp only [h, h']; rfl
  · have h' : (b + 1) % 2 = 0 := by omega
    simp only [h, h']; rfl
theorem par_two (b : Nat) : parOf (b + 2) = parOf b := by
  unfold parOf; simp only [Fin.ext_iff]; omega
theorem slot_three (b : Nat) : slotOf (b + 3) = slotOf b := by
  unfold slotOf; simp only [Fin.ext_iff]; omega

/-! ## The state before a step -/

/-- What the block before `b` has accumulated. -/
def PV (V : In F) : Nat → Fin 2 → Fin 192 → Fin 256 → Option (F .f32)
  | 0 => fun _ _ _ => none
  | b + 1 => ACC V b

theorem TB_45 (b : Nat) (h : Fin 2) : TB V b 45 h = wt V (bw (b + 1)) (slotOf (b + 1)) (parOf (b + 1)) 0 h := by
  unfold TB; rw [if_neg (by decide), show ch 45 = 0 from rfl]
theorem TB_0 (b : Nat) (h : Fin 2) : TB V b 0 h = wt V (bw b) (slotOf b) (parOf b) 0 h := by
  unfold TB; rw [if_pos (by decide), show ch 0 = 0 from rfl]

theorem AT_next (b : Nat) : AT 46 (parOf b) (TB V b) (XB V) allM (PV V b) 45
    = AT 46 (parOf (b + 1)) (TB V (b + 1)) (XB V) allM (PV V (b + 1)) 0 := by
  refine AS.ext' (fun h r => ?_) (fun p h n C => ?_)
  · unfold AT
    dsimp only
    have e : regOf 45 (parOf b) = regOf 0 (parOf (b + 1)) := by
      unfold regOf parOf; simp only [Fin.ext_iff]; omega
    rw [e]
    have e2 : TB V b 45 h = TB V (b + 1) 0 h := (TB_45 b h).trans (TB_0 (b + 1) h).symm
    rw [e2]
    by_cases hr : r = regOf 0 (parOf (b + 1))
    · rw [if_pos ⟨hr, by decide⟩, if_pos ⟨hr, by decide⟩]
    · rw [if_neg (fun h => hr h.1), if_neg (fun h => hr h.1)]
  · unfold AT
    dsimp only
    have hc : p = parOf b ∨ p = parOf (b + 1) := by
      unfold parOf; simp only [Fin.ext_iff]; omega
    have hne : parOf b ≠ parOf (b + 1) := by
      unfold parOf; simp only [ne_eq, Fin.ext_iff]; omega
    rcases hc with rfl | rfl
    · rw [if_pos rfl, if_neg hne, if_pos (by decide)]; unfold PV ACC; rfl
    · rw [if_neg hne.symm, if_pos rfl, if_neg (by decide)]; unfold accO; rfl

/-- The next block's inputs: in flight, or past the last block their places free. -/
def InP (d : Dev nD) (c : Refs) (V : In F) (b : Nat) : sProp 𝕄 :=
  if h : b + 1 ≤ 40 then FlIn d c V (inOk_b h) (parOf (b + 1)) else iprop(FreeQ (F := F) d c (slotOf (b + 1)) ∗ FreeS d c V (parOf (b + 1)))

/-- The other parity's output buffer: in flight from block `b - 3`, or free. -/
def OutF (d : Dev nD) (c : Refs) (V : In F) (b : Nat) : sProp 𝕄 :=
  if h : 3 ≤ b ∧ b ≤ 40 then FlO d c V (parOf (b + 1)) (k := 512 * (b - 3)) (by omega)
    else iprop(anyw (F := F) d c.ot (otc (parOf (b + 1))) ∗ sem0 d (osem c (parOf (b + 1))).sem)

/-- This parity's output buffer: block `b - 2`. -/
def OutC (d : Dev nD) (c : Refs) (V : In F) (b : Nat) : sProp 𝕄 :=
  iprop((∃ fo, ⌜2 ≤ b → fo = outS (ACC V (b - 2))⌝ ∗ pt d c.ot (otc (parOf b)) fullShare fo) ∗ sem0 d (osem c (parOf b)).sem)

/-- The result, the blocks up to `b - 3` written. -/
def ResY (d : Dev nD) (c : Refs) (V : In F) (b : Nat) : sProp 𝕄 :=
  iprop(pt d c.y (ydone (b - 3)) fullShare (Y V) ∗ anyw d c.y (yrest (b - 2)))

/-- A parity's tables, of block `w`; and whatever they hold. -/
def TabF (d : Dev nD) (c : Refs) (V : In F) (r : Fin 2) (w : BitVec 32) : sProp 𝕄 :=
  iprop(pt d c.zt (ztc r) fullShare (ztS V w) ∗ pt d c.st (stc r) fullShare (stS V w r))
def TabA (d : Dev nD) (c : Refs) (r : Fin 2) : sProp 𝕄 :=
  iprop(anyw (F := F) d c.zt (ztc r) ∗ anyw (F := F) d c.st (stc r))

/-- The state before step `b`. -/
def St (d : Dev nD) (c : Refs) (V : In F) (b : Nat) (m : Mxu F) : sProp 𝕄 :=
  iprop(LoadQ d c V (slotOf b) (bw b) ∗ InP d c V b ∗ FreeQ (F := F) d c (slotOf (b + 2)) ∗ FreeS d c V (parOf b)
    ∗ TabF d c V (parOf b) (bw b) ∗ TabA (F := F) d c (parOf (b + 1)) ∗ Aux d c V ∗ pt d c.xm Finset.univ fullShare (xmS V)
    ∗ OutC d c V b ∗ OutF d c V b ∗ ResY d c V b ∗ ⌜Abs m (AT 46 (parOf b) (TB V b) (XB V) allM (PV V b) 0)⌝ ∗ ow d)

theorem anyw_lend {m : Memref sig .tc sp s e} {S T : Finset s.Idx} (h : T ⊆ S) :
    anyw (F := F) d m S ⊢ iprop(anyw (F := F) d m T ∗ anyw (F := F) d m (S \ T)) := by
  unfold anyw
  iintro ⟨%f, H⟩
  ihave H2 := (pt_lend h) $$ H
  icases H2 with ⟨H1, H2⟩
  isplitl [H1]
  · iexists f; iexact H1
  · iexists f; iexact H2

theorem tabA_tab {r : Fin 2} {w : BitVec 32} : TabA (F := F) d c r ⊢ Tab d c V r w 0 := by
  unfold TabA Tab anyw
  iintro ⟨⟨%f, H1⟩, ⟨%g, H2⟩⟩
  isplitl [H1]
  · iexists f; isplitr
    · ipureintro; exact fun _ h => absurd h (Nat.not_lt_zero _)
    · iexact H1
  · iexists g; isplitr
    · ipureintro; exact fun _ h => absurd h (Nat.not_lt_zero _)
    · iexact H2

/-- The head of step `b`, for what it moves: inputs. -/
theorem wp_far {b : Nat} (hb : b < 40) {p : BitVec 32} (e : p = bw b) (hf : condIn p = 1#1 → InOk (Scalar.addi p 2#32)) {K : PUnit → sProp 𝕄} :
    iprop(FreeQ (F := F) d c (slotOf (b + 2)) ∗ FreeS d c V (parOf b))
      ⊢ iprop((InP d c V (b + 1) -∗ K ⟨⟩)
        -∗ WP d (if h : condIn p = 1#1 then do startIn c (hf h) (parOf b) else do pure ⟨⟩ : PR F PUnit) K) := by
  subst e
  have e2 : Scalar.addi (bw b) 2#32 = bw (b + 2) := bw_add b 2
  unfold InP
  by_cases h : b + 2 ≤ 40
  · have hc := (condIn_lt ⟨b, hb⟩).mpr h
    rw [dif_pos hc, dif_pos (show b + 1 + 1 ≤ 40 from h), ← l_eq (hf hc) e2 h,
      ← FlIn_congr e2 (hf hc) (inOk_b (show b + 1 + 1 ≤ 40 from h)) (par_two b).symm]
    exact wp_startIn
  · have hc : ¬ condIn (bw b) = 1#1 := fun hc => h ((condIn_lt ⟨b, hb⟩).mp hc)
    rw [dif_neg hc, dif_neg (show ¬ b + 1 + 1 ≤ 40 from h), show parOf (b + 1 + 1) = parOf b from par_two b]
    iintro H HK
    iapply WP_pure
    iapply HK $$ H

/-- The head of step `b`, for what it moves: the results of block `b - 3`. -/
theorem wp_y3 {b : Nat} (hb : b < 40) {p : BitVec 32} (e : p = bw b) (hf : condGe p 3#32 = 1#1 → ycol p 3#32 + 512 ≤ 20736) {K : PUnit → sProp 𝕄} :
    iprop(OutF d c V b ∗ pt d c.y (ydone (b - 3)) fullShare (Y V) ∗ ow d)
      ⊢ iprop((iprop((anyw (F := F) d c.ot (otc (parOf (b + 1))) ∗ sem0 d (osem c (parOf (b + 1))).sem)
            ∗ pt d c.y (ydone (b + 1 - 3)) fullShare (Y V) ∗ ow d) -∗ K ⟨⟩)
        -∗ WP d (if h : condGe p 3#32 = 1#1 then do owait c (parOf (b + 1)) (hf h) else do pure ⟨⟩ : PR F PUnit) K) := by
  subst e
  unfold OutF
  by_cases h : 3 ≤ b
  · have hc := (condGe3_lt ⟨b, hb⟩).mpr h
    have ek : 512 * (b - 3) = ycol (bw b) 3#32 := (ycol3_lt ⟨b, hb⟩ h).symm
    rw [dif_pos hc, dif_pos (show 3 ≤ b ∧ b ≤ 40 from ⟨h, by omega⟩), FlO_congr rfl ek (by omega) (hf hc)]
    iintro ⟨HF, Hy, Ho⟩ HK
    iapply wp_owait $$ [HF Ho]
    · isplitl [HF] <;> iassumption
    iintro ⟨Hy2, Hot, Hv, Ho⟩
    iapply HK
    isplitl [Hot Hv]
    · isplitl [Hot] <;> iassumption
    isplitl [Hy Hy2]
    · have hs := ydone_step (b := b - 3) (hf hc) ek.symm
      rw [show b + 1 - 3 = b - 3 + 1 by omega, ← hs.2]
      iapply (pt_join hs.1)
      isplitl [Hy] <;> iassumption
    iexact Ho
  · have hc : ¬ condGe (bw b) 3#32 = 1#1 := fun hc => h ((condGe3_lt ⟨b, hb⟩).mp hc)
    rw [dif_neg hc, dif_neg (show ¬ (3 ≤ b ∧ b ≤ 40) from fun hh => h hh.1), show b + 1 - 3 = b - 3 by omega]
    iintro ⟨HF, Hy, Ho⟩ HK
    iapply WP_pure
    iapply HK
    isplitl [HF]; · iexact HF
    isplitl [Hy] <;> iassumption

/-- The head of step `b`, for what it moves: the results of block `b - 2`. -/
theorem wp_y2 {b : Nat} (hb : b < 40) {p : BitVec 32} (e : p = bw b) (hf : condGe p 2#32 = 1#1 → ycol p 2#32 + 512 ≤ 20736) {K : PUnit → sProp 𝕄} :
    iprop(OutC d c V b ∗ anyw d c.y (yrest (b - 2)))
      ⊢ iprop((iprop(OutF d c V (b + 1) ∗ anyw d c.y (yrest (b + 1 - 2))) -∗ K ⟨⟩)
        -∗ WP d (if h : condGe p 2#32 = 1#1 then do ostart c (parOf b) (hf h) else do pure ⟨⟩ : PR F PUnit) K) := by
  subst e
  unfold OutF OutC
  by_cases h : 2 ≤ b
  · have hc := (condGe2_lt ⟨b, hb⟩).mpr h
    have ek : ycol (bw b) 2#32 = 512 * (b - 2) := ycol2_lt ⟨b, hb⟩ h
    rw [dif_pos hc, dif_pos (show 3 ≤ b + 1 ∧ b + 1 ≤ 40 from ⟨by omega, by omega⟩),
      ← FlO_congr (par_two b).symm (show ycol (bw b) 2#32 = 512 * (b + 1 - 3) by omega) (hf hc) (by omega)]
    iintro ⟨⟨⟨%fo, %hfo, Ho⟩, Hv⟩, Hy⟩ HK
    have hfo := hfo h
    subst hfo
    have hs := yrest_split (b := b - 2) (hf hc) ek
    ihave Hy2 := (anyw_lend hs.1) $$ Hy
    icases Hy2 with ⟨Hy1, Hy2⟩
    iapply (wp_ostart (show b - 2 < 40 by omega) ek) $$ [Ho Hy1 Hv]
    · isplitl [Ho]; · iexact Ho
      isplitl [Hy1] <;> iassumption
    iintro HF
    iapply HK
    isplitl [HF]; · iexact HF
    rw [show b + 1 - 2 = b - 2 + 1 by omega, ← hs.2]
    iexact Hy2
  · have hc : ¬ condGe (bw b) 2#32 = 1#1 := fun hc => h ((condGe2_lt ⟨b, hb⟩).mp hc)
    rw [dif_neg hc, dif_neg (show ¬ (3 ≤ b + 1 ∧ b + 1 ≤ 40) from fun hh => h (by omega)), show b + 1 - 2 = b - 2 by omega,
      show parOf (b + 1 + 1) = parOf b from par_two b]
    iintro ⟨⟨⟨%fo, -, Ho⟩, Hv⟩, Hy⟩ HK
    iapply WP_pure
    iapply HK
    isplitl [Ho Hv]
    · isplitl [Ho]
      · iapply any_of $$ Ho
      · iexact Hv
    iexact Hy

theorem head_eq {p : BitVec 32} (hp : StepOk p) (r : Fin 2) : (head c hp r : PR F PUnit) =
    waitIn c hp.nxt (1 - r) >>= fun _ => (if h : condIn p = 1#1 then startIn c (hp.far h) r else pure ⟨⟩) >>= fun _ =>
      (if h : condGe p 3#32 = 1#1 then owait c (1 - r) (hp.y3 h) else pure ⟨⟩) >>= fun _ =>
      (if h : condGe p 2#32 = 1#1 then ostart c r (hp.y2 h) else pure ⟨⟩) := by
  unfold head
  by_cases h1 : condIn p = 1#1 <;> by_cases h3 : condGe p 3#32 = 1#1 <;> simp only [h1, h3, dif_pos, dif_neg, not_false_eq_true] <;> rfl

theorem wp_step {b : Nat} (hb : b < 40) {p : BitVec 32} {hp : StepOk p} (e : p = bw b) {r : Fin 2} (hr : r = parOf b) {m : Mxu F}
    {K : Mxu F → sProp 𝕄} :
    St d c V b m ⊢ iprop((∀ m', St d c V (b + 1) m' -∗ K m') -∗ WP d (step c lanes evens hp r m) K) := by
  subst hr; subst e
  have e1 : Scalar.addi (bw b) 1#32 = bw (b + 1) := bw_add b 1
  have hl : hp.cur.l = slotOf b := l_eq hp.cur rfl (by omega)
  have hl' : hp.nxt.l = slotOf (b + 1) := l_eq hp.nxt e1 (by omega)
  have hT : ∀ (g : Fin 45) h, TB V b g.val h = wt V (bw b) hp.cur.l (parOf b) g h := by
    intro g h
    unfold TB
    rw [if_pos g.isLt, hl, show ch g.val = g from Fin.ext (Nat.mod_eq_of_lt g.isLt)]
  have hT' : ∀ h, TB V b 45 h = wt V (Scalar.addi (bw b) 1#32) hp.nxt.l (1 - parOf b) 0 h := by
    intro h
    rw [hl', e1, par_next]
    exact TB_45 b h
  have h1 : InP d c V b = FlIn d c V hp.nxt (parOf (b + 1)) := by
    unfold InP; rw [dif_pos (show b + 1 ≤ 40 from hb)]; exact FlIn_congr e1.symm _ _ rfl
  unfold step
  rw [head_eq]
  rw [show (1 : Fin 2) - parOf b = parOf (b + 1) from par_next b]
  unfold St ResY
  rw [h1]
  iintro ⟨HL, HI, HQ, HS, HT, HA, HX, Hx, HC, HF, ⟨Hy1, Hy2⟩, %hm, Ho⟩ HK
  rw [WP_bind, WP_bind]
  iapply (wp_waitIn (V := V)) $$ [HI Ho]
  · isplitl [HI] <;> iassumption
  iintro ⟨HL', HS', Ho⟩
  rw [WP_bind]
  iapply (wp_far (V := V) hb rfl hp.far) $$ [HQ HS]
  · isplitl [HQ] <;> iassumption
  iintro HI
  rw [WP_bind]
  iapply (wp_y3 (V := V) hb rfl hp.y3) $$ [HF Hy1 Ho]
  · isplitl [HF]; · iexact HF
    isplitl [Hy1] <;> iassumption
  iintro ⟨⟨Hot, Hv⟩, Hy1, Ho⟩
  iapply (wp_y2 (V := V) hb rfl hp.y2) $$ [HC Hy2]
  · isplitl [HC] <;> iassumption
  iintro ⟨HF, Hy2⟩
  unfold LoadQ LoadS TabF
  icases HL with ⟨⟨Hq0, Hq1⟩, Hv0, Hv1⟩
  icases HL' with ⟨⟨Hq0', Hq1'⟩, Hv'⟩
  icases HS' with ⟨⟨Hs0, Hs1⟩, HSr⟩
  icases HT with ⟨Hzt, Hst⟩
  unfold anyw
  icases Hot with ⟨%fo, Hot⟩
  ihave HA := (tabA_tab (V := V) (w := Scalar.addi (bw b) 1#32)) $$ HA
  iapply (wp_chunks (V := V) (T := TB V b) (prev := PV V b) hT hT' _ 45 (Nat.le_refl _) m hm) $$ [Hq0 Hq1 Hzt Hst Hq0' Hq1' Hs0 Hs1 HA HX Hx Hot]
  · unfold CR Wts
    rw [hl, par_next]
    isplitl [Hq0 Hq1 Hzt Hst]
    · isplitl [Hq0 Hq1]
      · isplitl [Hq0] <;> iassumption
      isplitl [Hzt] <;> iassumption
    isplitl [Hq0' Hq1']
    · isplitl [Hq0'] <;> iassumption
    isplitl [Hs0 Hs1]
    · isplitl [Hs0] <;> iassumption
    isplitl [HA]; · iexact HA
    isplitl [HX]; · iexact HX
    isplitl [Hx]; · iexact Hx
    iexists fo
    isplitr
    · ipureintro; exact fun h => absurd h (by decide)
    · iexact Hot
  iintro %m' %hm' H
  unfold CR Wts
  icases H with ⟨⟨⟨Hq0, Hq1⟩, Hzt, Hst⟩, ⟨Hq0', Hq1'⟩, ⟨Hs0, Hs1⟩, HA, HX, Hx, ⟨%fo', %hfo, Hot⟩⟩
  ihave HA := (tab_full rfl) $$ HA
  rw [AT_next] at hm'
  have hfo := hfo (by decide)
  subst hfo
  iapply HK $$ %m'
  rw [hl, hl', e1, par_next, show parOf (b + 1 + 1) = parOf b from par_two b, show slotOf (b + 1 + 2) = slotOf b from slot_three b]
  isplitl [Hq0' Hq1' Hv']
  · isplitl [Hq0' Hq1']
    · isplitl [Hq0'] <;> iassumption
    · iexact Hv'
  isplitl [HI]; · iexact HI
  isplitl [Hq0 Hq1 Hv0 Hv1]
  · iapply (loadQ_free (V := V) (w := bw b))
    unfold LoadQ
    isplitl [Hq0 Hq1]
    · isplitl [Hq0] <;> iassumption
    isplitl [Hv0] <;> iassumption
  isplitl [Hs0 Hs1 HSr]
  · iapply (loadS_free (V := V) (w := bw (b + 1)))
    unfold LoadS
    isplitl [Hs0 Hs1]
    · isplitl [Hs0] <;> iassumption
    · iexact HSr
  isplitl [HA]; · iexact HA
  isplitl [Hzt Hst]
  · unfold TabA
    isplitl [Hzt]
    · iapply any_of $$ Hzt
    · iapply any_of $$ Hst
  isplitl [HX]; · iexact HX
  isplitl [Hx]; · iexact Hx
  isplitl [Hot Hv]
  · unfold OutC
    isplitl [Hot]
    · iexists _; isplitr
      rotate_left
      · iexact Hot
      · ipureintro
        intro h
        obtain ⟨b', rfl⟩ : ∃ b', b = b' + 1 := ⟨b - 1, by omega⟩
        rfl
    · iexact Hv
  isplitl [HF]; · iexact HF
  isplitl [Hy1 Hy2]
  · isplitl [Hy1] <;> iassumption
  isplitr
  · ipureintro; exact hm'
  · iexact Ho

theorem wp_trip {t : Fin k0_t1_loop.trips} {m : Mxu F} {K : Mxu F → sProp 𝕄} :
    St d c V (2 * t.val) m ⊢ iprop((∀ m', St d c V (2 * (t.val + 1)) m' -∗ K m') -∗ WP d (trip c lanes evens t m) K) := by
  obtain ⟨h0, h1, h2⟩ := pw_val t
  have e0 : pw t = bw (2 * t.val) := BitVec.eq_of_toNat_eq (by rw [h0]; unfold bw; rw [BitVec.toNat_ofNat]; omega)
  have e1 : Scalar.addi (pw t) 1#32 = bw (2 * t.val + 1) := BitVec.eq_of_toNat_eq (by rw [h1]; unfold bw; rw [BitVec.toNat_ofNat]; omega)
  unfold trip
  iintro H HK
  rw [WP_bind]
  iapply (wp_step (V := V) (b := 2 * t.val) (by omega) e0 (by unfold parOf; simp only [Fin.ext_iff]; show 0 = _; omega)) $$ H
  iintro %m1 H
  iapply (wp_step (V := V) (b := 2 * t.val + 1) (by omega) e1 (by unfold parOf; simp only [Fin.ext_iff]; show 1 = _; omega)) $$ H
  iexact HK

end Cert.Kernel.Rolled
-- ==== Proof.Whole.lean ====
/- What the core owns before and after the body: whole buffers, cut into the parts the steps work on and put together again. -/
module

public import proofs.«01_k».proof.Proof.Step
public import Idealize.ShloMosaic.Lib.ValueLayout

@[expose] public section

noncomputable section

namespace Cert.Kernel.Rolled

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {sp sp' : Space} {cs : CoreSpace} {s : Shape} {e : EltTy} {d : Dev nD}

variable {V : In F} {c : Refs}

theorem any_split {m : Memref sig .tc sp s e} {S T U : Finset s.Idx} (hd : Disjoint S T) (hu : U = S ∪ T) :
    anyw (F := F) d m U ⊢ iprop(anyw (F := F) d m S ∗ anyw (F := F) d m T) := by
  subst hu
  unfold anyw
  iintro ⟨%f, H⟩
  ihave H2 := (pt_split hd) $$ H
  icases H2 with ⟨H1, H2⟩
  isplitl [H1]
  · iexists f; iexact H1
  · iexists f; iexact H2

open Classical in
theorem any_join {m : Memref sig .tc sp s e} {S T U : Finset s.Idx} (hd : Disjoint S T) (hu : U = S ∪ T) :
    iprop(anyw (F := F) d m S ∗ anyw (F := F) d m T) ⊢ anyw (F := F) d m U := by
  subst hu
  unfold anyw
  iintro ⟨⟨%f, H1⟩, ⟨%g, H2⟩⟩
  iexists (fun i => if i ∈ S then f i else g i)
  iapply (pt_join hd)
  isplitl [H1]
  · iapply (pt_congr (f := f) (fun i hi => (if_pos hi).symm)) $$ H1
  · iapply (pt_congr (f := g) (fun i hi => (if_neg (fun h => Finset.disjoint_left.mp hd h hi)).symm)) $$ H2

/-! ## The buffers with a parity -/

theorem ot_two : Disjoint (otc 0) (otc 1) ∧ (Finset.univ : Finset S2x192x512.Idx) = otc 0 ∪ otc 1 := by
  constructor
  · rw [Finset.disjoint_left]
    intro i hi hj
    have h0 := (mem_unit3.mp hi).1
    have h1 := (mem_unit3.mp hj).1
    simp at h0 h1
    omega
  · ext i
    have i0 : (i 0).val < 2 := (i 0).isLt
    have i1 : (i 1).val < 192 := (i 1).isLt
    have i2 : (i 2).val < 512 := (i 2).isLt
    have := Finset.mem_univ i
    simp only [this, true_iff, Finset.mem_union]
    by_cases h : (i 0).val = 0
    · refine Or.inl (mem_unit3.mpr ⟨?_, ?_, ?_⟩) <;> simp <;> omega
    · refine Or.inr (mem_unit3.mpr ⟨?_, ?_, ?_⟩) <;> simp <;> omega

theorem zt_two : Disjoint (ztc 0) (ztc 1) ∧ (Finset.univ : Finset S2x45x512.Idx) = ztc 0 ∪ ztc 1 := by
  unfold ztc
  constructor
  · rw [Finset.disjoint_left]
    intro i hi hj
    rw [Finset.mem_filter] at hi hj
    simp at hi hj
    omega
  · ext i
    have i0 : (i 0).val < 2 := (i 0).isLt
    have := Finset.mem_univ i
    simp only [this, true_iff, Finset.mem_union, Finset.mem_filter, true_and]
    simp
    omega
theorem st_two : Disjoint (stc 0) (stc 1) ∧ (Finset.univ : Finset S2x90x512.Idx) = stc 0 ∪ stc 1 := by
  unfold stc
  constructor
  · rw [Finset.disjoint_left]
    intro i hi hj
    rw [Finset.mem_filter] at hi hj
    simp at hi hj
    omega
  · ext i
    have i0 : (i 0).val < 2 := (i 0).isLt
    have := Finset.mem_univ i
    simp only [this, true_iff, Finset.mem_union, Finset.mem_filter, true_and]
    simp
    omega

theorem tab_cut : iprop(anyw (F := F) d c.zt Finset.univ ∗ anyw (F := F) d c.st Finset.univ) ⊢ iprop(TabA (F := F) d c 0 ∗ TabA (F := F) d c 1) := by
  unfold TabA
  iintro ⟨Hz, Hs⟩
  ihave Hz := (any_split zt_two.1 zt_two.2) $$ Hz
  ihave Hs := (any_split st_two.1 st_two.2) $$ Hs
  icases Hz with ⟨Hz0, Hz1⟩
  icases Hs with ⟨Hs0, Hs1⟩
  isplitl [Hz0 Hs0]
  · isplitl [Hz0] <;> iassumption
  · isplitl [Hz1] <;> iassumption
theorem tab_whole : iprop(TabA (F := F) d c 0 ∗ TabA (F := F) d c 1) ⊢ iprop(anyw (F := F) d c.zt Finset.univ ∗ anyw (F := F) d c.st Finset.univ) := by
  unfold TabA
  iintro ⟨⟨Hz0, Hs0⟩, Hz1, Hs1⟩
  isplitl [Hz0 Hz1]
  · iapply (any_join zt_two.1 zt_two.2)
    isplitl [Hz0] <;> iassumption
  · iapply (any_join st_two.1 st_two.2)
    isplitl [Hs0] <;> iassumption

/-! ## The ring of code words -/

/-- The first `n` half slots. -/
def qlo (n : Nat) : Finset S3x1440x512.Idx := Finset.univ.filter fun i => 2 * (i 0).val + (i 2).val / 256 < n

theorem qlo_step (l : Fin 3) (h : Fin 2) : Disjoint (qlo (2 * l.val + h.val)) (qbc l h)
    ∧ qlo (2 * l.val + h.val + 1) = qlo (2 * l.val + h.val) ∪ qbc l h := by
  have key : ∀ i : S3x1440x512.Idx, i ∈ qbc l h ↔ 2 * (i 0).val + (i 2).val / 256 = 2 * l.val + h.val := by
    intro i
    have i1 : (i 1).val < 1440 := (i 1).isLt
    have i2 : (i 2).val < 512 := (i 2).isLt
    refine mem_unit3.trans ?_
    omega
  unfold qlo
  constructor
  · rw [Finset.disjoint_left]
    intro i hi hj
    rw [key] at hj
    rw [Finset.mem_filter] at hi
    omega
  · ext i
    rw [Finset.mem_union, key, Finset.mem_filter, Finset.mem_filter]
    have := Finset.mem_univ i
    simp only [this, true_and]
    omega
theorem qlo_top : (Finset.univ : Finset S3x1440x512.Idx) = qlo 6 := by
  unfold qlo
  ext i
  have i0 : (i 0).val < 3 := (i 0).isLt
  have i2 : (i 2).val < 512 := (i 2).isLt
  have := Finset.mem_univ i
  rw [Finset.mem_filter]
  simp only [this, true_and, true_iff]
  omega
theorem qlo_one : qlo 1 = qbc 0 0 := by
  have h := (qlo_step 0 0).2
  have e : qlo (2 * (0 : Fin 3).val + (0 : Fin 2).val) = ∅ := by
    unfold qlo
    rw [Finset.filter_eq_empty_iff]
    intro i _
    exact Nat.not_lt_zero _
  rw [e, Finset.empty_union] at h
  exact h

/-- The semaphores of the ring. -/
def QSems (d : Dev nD) (c : Refs) : sProp 𝕄 :=
  iprop((sem0 d (qsemL c 0 0).sem ∗ sem0 d (qsemL c 0 1).sem) ∗ (sem0 d (qsemL c 1 0).sem ∗ sem0 d (qsemL c 1 1).sem)
    ∗ (sem0 d (qsemL c 2 0).sem ∗ sem0 d (qsemL c 2 1).sem))

theorem ring_cut : iprop(anyw (F := F) d c.qb Finset.univ ∗ QSems (F := F) d c)
    ⊢ iprop(FreeQ (F := F) d c 0 ∗ FreeQ (F := F) d c 1 ∗ FreeQ (F := F) d c 2) := by
  unfold QSems FreeQ
  iintro ⟨H, ⟨v0, v1⟩, ⟨v2, v3⟩, v4, v5⟩
  ihave H := (any_split (qlo_step 2 1).1 (qlo_top.trans (qlo_step 2 1).2)) $$ H
  icases H with ⟨H, H5⟩
  ihave H := (any_split (qlo_step 2 0).1 (qlo_step 2 0).2) $$ H
  icases H with ⟨H, H4⟩
  ihave H := (any_split (qlo_step 1 1).1 (qlo_step 1 1).2) $$ H
  icases H with ⟨H, H3⟩
  ihave H := (any_split (qlo_step 1 0).1 (qlo_step 1 0).2) $$ H
  icases H with ⟨H, H2⟩
  ihave H := (any_split (qlo_step 0 1).1 (qlo_step 0 1).2) $$ H
  icases H with ⟨H0, H1⟩
  ihave H0 := (Entails.of_eq (congrArg (anyw (F := F) d c.qb) qlo_one)) $$ H0
  isplitl [H0 H1 v0 v1]
  · isplitl [H0 H1]
    · isplitl [H0] <;> iassumption
    · isplitl [v0] <;> iassumption
  isplitl [H2 H3 v2 v3]
  · isplitl [H2 H3]
    · isplitl [H2] <;> iassumption
    · isplitl [v2] <;> iassumption
  · isplitl [H4 H5]
    · isplitl [H4] <;> iassumption
    · isplitl [v4] <;> iassumption

theorem ring_whole : iprop(FreeQ (F := F) d c 0 ∗ FreeQ (F := F) d c 1 ∗ FreeQ (F := F) d c 2)
    ⊢ iprop(anyw (F := F) d c.qb Finset.univ ∗ QSems (F := F) d c) := by
  unfold QSems FreeQ
  iintro ⟨⟨⟨H0, H1⟩, Hv0⟩, ⟨⟨H2, H3⟩, Hv1⟩, ⟨H4, H5⟩, Hv2⟩
  isplitl [H0 H1 H2 H3 H4 H5]
  · iapply (any_join (qlo_step 2 1).1 (qlo_top.trans (qlo_step 2 1).2))
    isplitl [H0 H1 H2 H3 H4]
    rotate_left
    · iexact H5
    iapply (any_join (qlo_step 2 0).1 (qlo_step 2 0).2)
    isplitl [H0 H1 H2 H3]
    rotate_left
    · iexact H4
    iapply (any_join (qlo_step 1 1).1 (qlo_step 1 1).2)
    isplitl [H0 H1 H2]
    rotate_left
    · iexact H3
    iapply (any_join (qlo_step 1 0).1 (qlo_step 1 0).2)
    isplitl [H0 H1]
    rotate_left
    · iexact H2
    iapply (any_join (qlo_step 0 1).1 (qlo_step 0 1).2)
    isplitl [H0]
    rotate_left
    · iexact H1
    iapply (Entails.of_eq (congrArg (anyw (F := F) d c.qb) qlo_one.symm)) $$ H0
  isplitl [Hv0]; · iexact Hv0
  isplitl [Hv1] <;> iassumption

/-! ## The scales -/

/-- The first `n` halves. -/
def slo (n : Nat) : Finset S2x90x512.Idx := Finset.univ.filter fun i => 2 * (i 0).val + (i 2).val / 256 < n

theorem slo_step (l : Fin 2) (h : Fin 2) : Disjoint (slo (2 * l.val + h.val)) (sbc l h)
    ∧ slo (2 * l.val + h.val + 1) = slo (2 * l.val + h.val) ∪ sbc l h := by
  have key : ∀ i : S2x90x512.Idx, i ∈ sbc l h ↔ 2 * (i 0).val + (i 2).val / 256 = 2 * l.val + h.val := by
    intro i
    have i1 : (i 1).val < 90 := (i 1).isLt
    have i2 : (i 2).val < 512 := (i 2).isLt
    refine mem_unit3.trans ?_
    omega
  unfold slo
  constructor
  · rw [Finset.disjoint_left]
    intro i hi hj
    rw [key] at hj
    rw [Finset.mem_filter] at hi
    omega
  · ext i
    rw [Finset.mem_union, key, Finset.mem_filter, Finset.mem_filter]
    have := Finset.mem_univ i
    simp only [this, true_and]
    omega
theorem slo_top : (Finset.univ : Finset S2x90x512.Idx) = slo 4 := by
  unfold slo
  ext i
  have i0 : (i 0).val < 2 := (i 0).isLt
  have i2 : (i 2).val < 512 := (i 2).isLt
  have := Finset.mem_univ i
  rw [Finset.mem_filter]
  simp only [this, true_and, true_iff]
  omega
theorem slo_one : slo 1 = sbc 0 0 := by
  have h := (slo_step 0 0).2
  have e : slo (2 * (0 : Fin 2).val + (0 : Fin 2).val) = ∅ := by
    unfold slo
    rw [Finset.filter_eq_empty_iff]
    intro i _
    exact Nat.not_lt_zero _
  rw [e, Finset.empty_union] at h
  exact h

theorem shares_cut {sp : Space} {s : Shape} {e : EltTy} {m : Memref sig .tc sp s e} {S : Finset s.Idx} {f : s.Idx → Elt F e} : pt d m S fullShare f
    ⊢ iprop((pt d m S (qsh 0 0) f ∗ pt d m S (qsh 0 1) f) ∗ (pt d m S (qsh 1 0) f ∗ pt d m S (qsh 1 1) f)) := by
  iintro H
  ihave H := (pt_share (q₁ := fullShare.left) (q₂ := fullShare.right) (PosShare.mem_left_op_right _)) $$ H
  icases H with ⟨H0, H1⟩
  isplitl [H0]
  · iapply (pt_share (PosShare.mem_left_op_right _)) $$ H0
  · iapply (pt_share (PosShare.mem_left_op_right _)) $$ H1
theorem shares_whole {sp : Space} {s : Shape} {e : EltTy} {m : Memref sig .tc sp s e} {S : Finset s.Idx} {f : s.Idx → Elt F e} :
    iprop((pt d m S (qsh 0 0) f ∗ pt d m S (qsh 0 1) f) ∗ (pt d m S (qsh 1 0) f ∗ pt d m S (qsh 1 1) f)) ⊢ pt d m S fullShare f := by
  iintro ⟨H0, H1⟩
  iapply (pt_unshare (q₁ := fullShare.left) (q₂ := fullShare.right) (PosShare.mem_left_op_right _))
  isplitl [H0]
  · iapply (pt_unshare (q := fullShare.left) (q₁ := qsh 0 0) (q₂ := qsh 0 1) (PosShare.mem_left_op_right _)) $$ H0
  · iapply (pt_unshare (q := fullShare.right) (q₁ := qsh 1 0) (q₂ := qsh 1 1) (PosShare.mem_left_op_right _)) $$ H1

/-- The scales' semaphores. -/
def SSems (d : Dev nD) (c : Refs) : sProp 𝕄 :=
  iprop((sem0 d (ssem c 0 0).sem ∗ sem0 d (ssem c 0 1).sem) ∗ (sem0 d (ssem c 1 0).sem ∗ sem0 d (ssem c 1 1).sem))

theorem scales_cut : iprop(anyw (F := F) d c.sb Finset.univ ∗ pt d c.q Finset.univ fullShare V.q ∗ pt d c.s Finset.univ fullShare V.s ∗ SSems (F := F) d c)
    ⊢ iprop(FreeS d c V 0 ∗ FreeS d c V 1) := by
  unfold SSems FreeS
  iintro ⟨H, Hq, Hs, ⟨v0, v1⟩, v2, v3⟩
  ihave H := (any_split (slo_step 1 1).1 (slo_top.trans (slo_step 1 1).2)) $$ H
  icases H with ⟨H, H3⟩
  ihave H := (any_split (slo_step 1 0).1 (slo_step 1 0).2) $$ H
  icases H with ⟨H, H2⟩
  ihave H := (any_split (slo_step 0 1).1 (slo_step 0 1).2) $$ H
  icases H with ⟨H0, H1⟩
  ihave H0 := (Entails.of_eq (congrArg (anyw (F := F) d c.sb) slo_one)) $$ H0
  ihave Hq := shares_cut $$ Hq
  ihave Hs := shares_cut $$ Hs
  icases Hq with ⟨⟨q0, q1⟩, q2, q3⟩
  icases Hs with ⟨⟨s0, s1⟩, s2, s3⟩
  isplitl [H0 H1 v0 v1 q0 q1 s0 s1]
  · isplitl [H0 H1]
    · isplitl [H0] <;> iassumption
    isplitl [v0 q0 s0]
    · isplitl [v0]; · iexact v0
      isplitl [q0] <;> iassumption
    · isplitl [v1]; · iexact v1
      isplitl [q1] <;> iassumption
  · isplitl [H2 H3]
    · isplitl [H2] <;> iassumption
    isplitl [v2 q2 s2]
    · isplitl [v2]; · iexact v2
      isplitl [q2] <;> iassumption
    · isplitl [v3]; · iexact v3
      isplitl [q3] <;> iassumption

theorem scales_whole : iprop(FreeS d c V 0 ∗ FreeS d c V 1)
    ⊢ iprop(anyw (F := F) d c.sb Finset.univ ∗ pt d c.q Finset.univ fullShare V.q ∗ pt d c.s Finset.univ fullShare V.s ∗ SSems (F := F) d c) := by
  unfold SSems FreeS
  iintro ⟨⟨⟨H0, H1⟩, ⟨v0, q0, s0⟩, v1, q1, s1⟩, ⟨H2, H3⟩, ⟨v2, q2, s2⟩, v3, q3, s3⟩
  isplitl [H0 H1 H2 H3]
  · iapply (any_join (slo_step 1 1).1 (slo_top.trans (slo_step 1 1).2))
    isplitl [H0 H1 H2]
    rotate_left
    · iexact H3
    iapply (any_join (slo_step 1 0).1 (slo_step 1 0).2)
    isplitl [H0 H1]
    rotate_left
    · iexact H2
    iapply (any_join (slo_step 0 1).1 (slo_step 0 1).2)
    isplitl [H0]
    rotate_left
    · iexact H1
    iapply (Entails.of_eq (congrArg (anyw (F := F) d c.sb) slo_one.symm)) $$ H0
  isplitl [q0 q1 q2 q3]
  · iapply shares_whole
    isplitl [q0 q1]
    · isplitl [q0] <;> iassumption
    · isplitl [q2] <;> iassumption
  isplitl [s0 s1 s2 s3]
  · iapply shares_whole
    isplitl [s0 s1]
    · isplitl [s0] <;> iassumption
    · isplitl [s2] <;> iassumption
  isplitl [v0 v1]
  · isplitl [v0] <;> iassumption
  · isplitl [v2] <;> iassumption

/-! ## The result -/

theorem y_first : (Finset.univ : Finset S192x20736.Idx) = yrest 0 := by
  unfold yrest; ext i
  have := Finset.mem_univ i
  rw [Finset.mem_filter]
  simp only [this, true_and, true_iff]
  omega
theorem y_last : Disjoint (ydone 40) (yrest 40) ∧ (Finset.univ : Finset S192x20736.Idx) = ydone 40 ∪ yrest 40 := by
  unfold yrest ydone
  constructor
  · rw [Finset.disjoint_left]
    intro i hi hj
    rw [Finset.mem_filter] at hi hj
    omega
  · ext i
    have := Finset.mem_univ i
    rw [Finset.mem_union, Finset.mem_filter, Finset.mem_filter]
    simp only [this, true_and, true_iff]
    omega
theorem ydone_zero : ydone 0 = ∅ := by
  unfold ydone
  rw [Finset.filter_eq_empty_iff]
  intro i _
  omega

/-- Nothing is owned of no columns. -/
theorem pt_none {m : Memref sig .tc sp s e} {S : Finset s.Idx} {q : PosShare TreeShare} {f f' : s.Idx → Elt F e} :
    pt d m S q f ⊢ iprop(pt d m ∅ q f' ∗ pt d m S q f) := by
  have e : S = ∅ ∪ S := (Finset.empty_union S).symm
  conv_lhs => rw [e]
  refine (pt_split (Finset.disjoint_empty_left S)).trans ?_
  iintro ⟨H0, H⟩
  isplitl [H0]
  · iapply (pt_congr (fun i hi => absurd hi (Finset.notMem_empty i))) $$ H0
  · iexact H

/-- What the core owns when the body starts; and when it ends. -/
def Own (d : Dev nD) (c : Refs) (V : In F) (Py : sProp 𝕄) : sProp 𝕄 :=
  iprop((pt d c.x Finset.univ fullShare V.x ∗ pt d c.q Finset.univ fullShare V.q ∗ pt d c.s Finset.univ fullShare V.s
      ∗ pt d c.z Finset.univ fullShare V.z ∗ Py)
    ∗ (anyw (F := F) d c.xr Finset.univ ∗ anyw (F := F) d c.xm Finset.univ ∗ anyw (F := F) d c.qb Finset.univ ∗ anyw (F := F) d c.sb Finset.univ
      ∗ anyw (F := F) d c.zb Finset.univ ∗ anyw (F := F) d c.nb Finset.univ ∗ anyw (F := F) d c.sc Finset.univ ∗ anyw (F := F) d c.st Finset.univ
      ∗ anyw (F := F) d c.zt Finset.univ ∗ anyw (F := F) d c.ot Finset.univ)
    ∗ (sem0 d c.xS.sem ∗ QSems (F := F) d c ∗ SSems (F := F) d c ∗ sem0 d c.zS.sem ∗ (sem0 d (osem c 0).sem ∗ sem0 d (osem c 1).sem)) ∗ ow d)

end Cert.Kernel.Rolled
-- ==== Proof.Before.lean ====
/- What precedes the loop: from the core's buffers to the state before step 0. -/
module

public import proofs.«01_k».proof.Proof.Whole
public import Idealize.ShloMosaic.Lib.ValueLayout

@[expose] public section

noncomputable section

namespace Cert.Kernel.Rolled

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {sp sp' : Space} {cs : CoreSpace} {s : Shape} {e : EltTy} {d : Dev nD}

variable {V : In F} {c : Refs}

theorem wp_startB {p : BitVec 32} {hp : InOk p} {b : Nat} (e : p = bw b) (hb : b ≤ 40) {l : Fin 3} (hl : slotOf b = l) {r : Fin 2} {K : PUnit → sProp 𝕄} :
    iprop(FreeQ (F := F) d c l ∗ FreeS d c V r) ⊢ iprop((FlIn d c V (inOk_b hb) r -∗ K ⟨⟩) -∗ WP d (startIn c hp r) K) := by
  subst e; subst hl
  rw [← l_eq hp rfl hb]
  exact wp_startIn

theorem wp_waitB {p : BitVec 32} {hp : InOk p} {b : Nat} (e : p = bw b) (hb : b ≤ 40) {l : Fin 3} (hl : slotOf b = l) {r : Fin 2} {K : PUnit → sProp 𝕄} :
    iprop(FlIn d c V (inOk_b hb) r ∗ ow d) ⊢ iprop((iprop(LoadQ d c V l (bw b) ∗ LoadS d c V r (bw b) ∗ ow d) -∗ K ⟨⟩) -∗ WP d (waitIn c hp r) K) := by
  subst e; subst hl
  rw [← l_eq hp rfl hb]
  exact wp_waitIn

/-- Nothing held. -/
def AS0 : AS F := ⟨fun _ _ => none, fun _ _ _ _ => none⟩

theorem abs_init : Abs (Mxu.init : Mxu F) AS0 := ⟨fun _ _ => rfl, fun _ _ _ _ => rfl, fun _ _ _ _ => rfl, fun _ _ _ => rfl⟩
theorem AS0_drain (p : Fin 2) : (AS0 (F := F)).drain p = AS0 := by
  unfold AS0 AS.drain; simp

theorem stage_first : stage AS0 0 (TB V 0 0) = AT 46 (parOf 0) (TB V 0) (XB V) allM (PV V 0) 0 := by
  refine AS.ext' (fun h r => ?_) (fun p h n C => ?_)
  · rw [stage_reg]
    unfold AT AS0
    dsimp only
    have e : regOf 0 (parOf 0) = 0 := rfl
    rw [e]
    by_cases hr : r = 0
    · rw [if_pos hr, if_pos ⟨hr, by decide⟩]
    · rw [if_neg hr, if_neg (fun h => hr h.1)]
  · unfold stage AS.push AT AS0 PV accO
    dsimp only
    split
    · rfl
    · split <;> rfl

theorem wp_tables4 {p : Fin 2} {w : BitVec 32} {w0 w1 : BitVec 32} (e0 : w0 = colw w 0) (e1 : w1 = colw w 1)
    {h0 : (basew w0).toNat + 128 ≤ 2592} {h1 : (basew w1).toNat + 128 ≤ 2592} {K : PUnit → sProp 𝕄} :
    iprop(Aux d c V ∗ (pt d c.sb (sbc p 0) fullShare (sbS V w) ∗ pt d c.sb (sbc p 1) fullShare (sbS V w)) ∗ TabA (F := F) d c p)
      ⊢ iprop((iprop(Aux d c V ∗ (pt d c.sb (sbc p 0) fullShare (sbS V w) ∗ pt d c.sb (sbc p 1) fullShare (sbS V w)) ∗ TabF d c V p w) -∗ K ⟨⟩)
        -∗ WP d (tables c lanes p 0 w0 h0 >>= fun _ => tables c lanes p 1 w0 h0 >>= fun _ => tables c lanes p 2 w1 h1
            >>= fun _ => tables c lanes p 3 w1 h1) K) := by
  iintro ⟨HX, ⟨Hs0, Hs1⟩, HA⟩ HK
  ihave HA := (tabA_tab (V := V) (w := w)) $$ HA
  rw [WP_bind]
  iapply (wp_tab (V := V) (t := 0) (h := 0) rfl e0) $$ [HX Hs0 HA]
  · isplitl [HX]; · iexact HX
    isplitl [Hs0]; · iexact Hs0
    iexact HA
  iintro ⟨HX, Hs0, HA⟩
  rw [WP_bind]
  iapply (wp_tab (V := V) (t := 1) (h := 0) rfl e0) $$ [HX Hs0 HA]
  · isplitl [HX]; · iexact HX
    isplitl [Hs0]; · iexact Hs0
    iexact HA
  iintro ⟨HX, Hs0, HA⟩
  rw [WP_bind]
  iapply (wp_tab (V := V) (t := 2) (h := 1) rfl e1) $$ [HX Hs1 HA]
  · isplitl [HX]; · iexact HX
    isplitl [Hs1]; · iexact Hs1
    iexact HA
  iintro ⟨HX, Hs1, HA⟩
  iapply (wp_tab (V := V) (t := 3) (h := 1) rfl e1) $$ [HX Hs1 HA]
  · isplitl [HX]; · iexact HX
    isplitl [Hs1]; · iexact Hs1
    iexact HA
  iintro ⟨HX, Hs1, HA⟩
  iapply HK
  isplitl [HX]; · iexact HX
  isplitl [Hs0 Hs1]
  · isplitl [Hs0] <;> iassumption
  unfold TabF
  iapply (tab_full (n := (3 : Fin 4).val + 1) rfl) $$ HA

theorem before_eq : (before c lanes evens : PR F (Mxu F)) = (do
    Prog.lift (.enqueueDma c.z (.here c.zb) (.dma c.zS.sem) c.hz.wordExact c.hzb.wordExact ⟨Or.inl rfl, trivial⟩)
    Prog.lift (.enqueueDma c.x (.here c.xr) (.dma c.xS.sem) c.hx.wordExact c.hxr.wordExact ⟨Or.inl rfl, trivial⟩)
    startIn c (inOk_lt 0) 0
    startIn c (inOk_lt 1) 1
    let m ← drain c 0 Mxu.init
    let m ← drain c 1 m
    Prog.lift (.waitDma2 c.zS.sem c.z c.zb c.hz.wordExact c.hzb.wordExact)
    Prog.lift (.waitDma2 c.xS.sem c.x c.xr c.hx.wordExact c.hxr.wordExact)
    mixes c lanes 45 (Nat.le_refl _)
    waitIn c (inOk_lt 0) 0
    (tables c lanes 0 0 (colw 0#32 0) ((inOk_lt 0).base 0) >>= fun _ => tables c lanes 0 1 (colw 0#32 0) ((inOk_lt 0).base 0)
      >>= fun _ => tables c lanes 0 2 (colw 0#32 1) ((inOk_lt 0).base 1) >>= fun _ => tables c lanes 0 3 (colw 0#32 1) ((inOk_lt 0).base 1))
    (do let m ← push c evens 0 0 0 0 0 m
        push c evens 0 0 0 1 0 m)) := by
  unfold before
  simp only [bind_assoc]

/-- What the loop leaves alone. -/
def Rest (d : Dev nD) (c : Refs) (V : In F) : sProp 𝕄 :=
  iprop(pt d c.x Finset.univ fullShare V.x ∗ pt d c.z Finset.univ fullShare V.z ∗ pt d c.xr Finset.univ fullShare V.x
    ∗ sem0 d c.xS.sem ∗ sem0 d c.zS.sem)

theorem resY_zero {f : S192x20736.Idx → Elt F .bf16} : pt d c.y Finset.univ fullShare f ⊢ ResY d c V 0 := by
  show _ ⊢ iprop(pt d c.y (ydone 0) fullShare (Y V) ∗ anyw d c.y (yrest 0))
  rw [ydone_zero, ← y_first]
  iintro Hy
  ihave Hy := (pt_none (f' := Y V)) $$ Hy
  icases Hy with ⟨H0, Hy⟩
  isplitl [H0]; · iexact H0
  iapply any_of $$ Hy

theorem wp_before {K : Mxu F → sProp 𝕄} :
    Own d c V (anyw d c.y Finset.univ) ⊢ iprop((∀ m, Rest d c V ∗ St d c V 0 m -∗ K m) -∗ WP d (before c lanes evens) K) := by
  rw [before_eq]
  unfold Own anyw
  iintro ⟨⟨Hx, Hq, Hs, Hz, ⟨%fy, Hy⟩⟩, ⟨⟨%fxr, Hxr⟩, ⟨%fxm, Hxm⟩, Hqb, Hsb, ⟨%fzb, Hzb⟩, Hnb, Hsc, Hst, Hzt, Hot⟩, ⟨vx, vq, vs, vz, vo0, vo1⟩, Ho⟩ HK
  ihave HQ := (ring_cut (c := c)) $$ [Hqb vq]
  · isplitl [Hqb]; · unfold anyw; iexact Hqb
    iexact vq
  icases HQ with ⟨HQ0, HQ1, HQ2⟩
  ihave HS := (scales_cut (c := c) (V := V)) $$ [Hsb Hq Hs vs]
  · isplitl [Hsb]; · unfold anyw; iexact Hsb
    isplitl [Hq]; · iexact Hq
    isplitl [Hs] <;> iassumption
  icases HS with ⟨HS0, HS1⟩
  ihave HT := (tab_cut (c := c)) $$ [Hzt Hst]
  · unfold anyw
    isplitl [Hzt] <;> iassumption
  icases HT with ⟨HT0, HT1⟩
  ihave Hot2 := (any_split (m := c.ot) ot_two.1 ot_two.2) $$ [Hot]
  · unfold anyw; iexact Hot
  unfold anyw
  icases Hot2 with ⟨⟨%fo0, Hot0⟩, ⟨%fo1, Hot1⟩⟩
  rw [WP_bind]
  iapply (wp_startL (f := V.z) (g := fzb) (by decide)) $$ [Hz Hzb vz]
  · isplitl [Hz]; · iexact Hz
    isplitl [Hzb] <;> iassumption
  iintro FZ
  rw [WP_bind]
  iapply (wp_startL (f := V.x) (g := fxr) (by decide)) $$ [Hx Hxr vx]
  · isplitl [Hx]; · iexact Hx
    isplitl [Hxr] <;> iassumption
  iintro FX
  rw [WP_bind]
  iapply (wp_startB (V := V) (b := 0) (l := 0) rfl (by decide) rfl) $$ [HQ0 HS0]
  · isplitl [HQ0] <;> iassumption
  iintro FI0
  rw [WP_bind]
  iapply (wp_startB (V := V) (b := 1) (l := 1) rfl (by decide) rfl) $$ [HQ1 HS1]
  · isplitl [HQ1] <;> iassumption
  iintro FI1
  rw [WP_bind]
  iapply (wp_drain abs_init) $$ Hot0
  iintro %m1 %hm1 Hot0
  rw [WP_bind]
  iapply (wp_drain hm1) $$ Hot1
  iintro %m2 %hm2 Hot1
  rw [AS0_drain, AS0_drain] at hm2
  rw [WP_bind]
  iapply (wp_waitL (src := c.z) (dst := c.zb) (h1 := c.hz.wordExact) (h2 := c.hzb.wordExact)) $$ [FZ Ho]
  · isplitl [FZ] <;> iassumption
  iintro ⟨⟨Hzb, Hz⟩, vz, Ho⟩
  rw [WP_bind]
  iapply (wp_waitL (src := c.x) (dst := c.xr) (h1 := c.hx.wordExact) (h2 := c.hxr.wordExact)) $$ [FX Ho]
  · isplitl [FX] <;> iassumption
  iintro ⟨⟨Hxr, Hx⟩, vx, Ho⟩
  rw [WP_bind]
  iapply (wp_mixes (V := V) 45 (Nat.le_refl _) fxm (fun i h => absurd h (Nat.not_lt_zero _)) _) $$ [Hxr Hxm]
  · isplitl [Hxr] <;> iassumption
  iintro ⟨Hxr, Hxm⟩
  rw [WP_bind]
  iapply (wp_waitB (V := V) (b := 0) (l := 0) rfl (by decide) rfl) $$ [FI0 Ho]
  · isplitl [FI0] <;> iassumption
  iintro ⟨HL, HS, Ho⟩
  unfold LoadQ LoadS
  icases HL with ⟨⟨Hq0, Hq1⟩, Hv⟩
  icases HS with ⟨Hss, HSr⟩
  rw [WP_bind]
  iapply (wp_tables4 (V := V) (p := 0) (w := bw 0) rfl rfl) $$ [Hzb Hnb Hsc Hss HT0]
  · unfold Aux anyw
    isplitl [Hzb Hnb Hsc]
    · isplitl [Hzb]; · iexact Hzb
      isplitl [Hnb] <;> iassumption
    isplitl [Hss] <;> iassumption
  iintro ⟨HX, Hss, HT⟩
  unfold TabF
  icases HT with ⟨Hzt, Hst⟩
  iapply (wp_push2 (V := V) (w := bw 0) (l := 0) (p := 0) (t := TB V 0 0) hm2 (fun _ => rfl) (TB_0 0 0) (TB_0 0 1)) $$ [Hq0 Hq1 Hzt Hst]
  · unfold Wts
    isplitl [Hq0 Hq1]
    · isplitl [Hq0] <;> iassumption
    isplitl [Hzt] <;> iassumption
  unfold Wts
  iintro %m3 %hm3 ⟨⟨Hq0, Hq1⟩, Hzt, Hst⟩
  rw [stage_first] at hm3
  iapply HK $$ %m3
  unfold Rest St
  isplitl [Hx Hz Hxr vx vz]
  · isplitl [Hx]; · iexact Hx
    isplitl [Hz]; · iexact Hz
    isplitl [Hxr]; · iexact Hxr
    isplitl [vx] <;> iassumption
  rw [show slotOf 0 = 0 from rfl, show slotOf (0 + 2) = 2 from rfl, show parOf (0 + 1) = 1 from rfl,
    show InP d c V 0 = FlIn d c V (inOk_b (by decide : 1 ≤ 40)) 1 from dif_pos (by decide : 0 + 1 ≤ 40)]
  isplitl [Hq0 Hq1 Hv]
  · unfold LoadQ
    isplitl [Hq0 Hq1]
    · isplitl [Hq0] <;> iassumption
    · iexact Hv
  isplitl [FI1]; · iexact FI1
  isplitl [HQ2]; · iexact HQ2
  isplitl [Hss HSr]
  · rw [show parOf 0 = 0 from rfl]
    iapply (loadS_free (V := V) (w := bw 0))
    unfold LoadS
    isplitl [Hss] <;> iassumption
  isplitl [Hzt Hst]
  · rw [show parOf 0 = 0 from rfl]
    unfold TabF
    isplitl [Hzt] <;> iassumption
  isplitl [HT1]; · iexact HT1
  isplitl [HX]; · iexact HX
  isplitl [Hxm]; · iexact Hxm
  isplitl [Hot0 vo0]
  · unfold OutC
    rw [show parOf 0 = 0 from rfl]
    isplitl [Hot0]
    · iexists _; isplitr
      rotate_left
      · iexact Hot0
      · ipureintro; exact fun h => absurd h (by decide)
    · iexact vo0
  isplitl [Hot1 vo1]
  · unfold OutF
    rw [dif_neg (by decide), show parOf (0 + 1) = 1 from rfl]
    isplitl [Hot1]
    · iapply any_of $$ Hot1
    · iexact vo1
  isplitl [Hy]
  · iapply resY_zero $$ Hy
  isplitr
  · ipureintro; exact hm3
  · iexact Ho

end Cert.Kernel.Rolled
-- ==== Proof.After.lean ====
/- What follows the loop: the last half block, and the end of the body. -/
module

public import proofs.«01_k».proof.Proof.Before
public import Idealize.ShloMosaic.Lib.ValueLayout

@[expose] public section

noncomputable section

namespace Cert.Kernel.Rolled

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {sp sp' : Space} {cs : CoreSpace} {s : Shape} {e : EltTy} {d : Dev nD}

variable {V : In F} {c : Refs}

/-! ## The rounds of the last half block -/

theorem lch_zero (h : Fin 2) : lch 0 h = 0 := by unfold lch; rw [if_pos rfl]
theorem lch_pos0 {i : Nat} (hi : i ≠ 0) (h : i < 45) : lch i 0 = ⟨i, h⟩ := by
  unfold lch; rw [if_neg hi, if_pos rfl]; exact Fin.ext (Nat.mod_eq_of_lt h)
theorem lch_pos1 {i : Nat} (hi : i ≠ 0) (h : i + 22 < 45) : lch i 1 = ⟨i + 22, h⟩ := by
  unfold lch; rw [if_neg hi, if_neg (by decide)]; exact Fin.ext (Nat.mod_eq_of_lt h)

/-- The first round: each unit multiplies its own half of the rows. -/
def multH (a : AS F) (r' : Fin 2) (t : Fin 2 → FVec F S256x256 .bf16) (x : Fin 2 → FVec F S96x256 .bf16) : AS F :=
  (((a.dep 0 0 0 (t 0) (x 0)).take 0 r').dep 0 1 1 (t 1) (x 1)).take 1 r'

theorem multH_eq {prev : Fin 2 → Fin 192 → Fin 256 → Option (F .f32)} :
    multH (stage (AT 23 0 (TL V) (XL V) ML prev 0) (regOf (0 + 1) 0) (TL V (0 + 1))) (regOf 0 0) (TL V 0) (fun h => xrS V 0 h)
      = ATm 23 0 (TL V) (XL V) ML prev 0 := by
  refine AS.ext' (fun h r' => ?_) (fun p h n C => ?_)
  · have e : (multH (stage (AT 23 0 (TL V) (XL V) ML prev 0) (regOf (0 + 1) 0) (TL V (0 + 1))) (regOf 0 0) (TL V 0) (fun h => xrS V 0 h)).reg h r'
        = if r' = regOf 0 0 then none else (stage (AT 23 0 (TL V) (XL V) ML prev 0) (regOf (0 + 1) 0) (TL V (0 + 1))).reg h r' := by
      unfold multH AS.take AS.dep
      dsimp only
      have hh : h = 0 ∨ h = 1 := by omega
      by_cases hr : r' = regOf 0 0 <;> rcases hh with rfl | rfl <;> simp [hr]
    rw [e, stage_reg]
    unfold ATm AT
    dsimp only
    rcases reg_cases 0 0 r' with hr | hr
    · rw [if_pos hr, if_neg]
      rintro ⟨h1, -⟩; exact regOf_ne 0 0 (h1.symm.trans hr)
    · rw [if_neg (fun h => regOf_ne 0 0 (hr.symm.trans h)), if_pos hr, if_pos ⟨hr, by decide⟩]
  · have e : ∀ (a : AS F) (t : Fin 2 → FVec F S256x256 .bf16) (x : Fin 2 → FVec F S96x256 .bf16), (multH a (regOf 0 0) t x).acc p h n C
        = if p = 0 ∧ h = halfOf n then some (depO (a.acc p h n C) (pass (t h) (x (halfOf n)) (Mxu.ix (inHalf n) C))) else a.acc p h n C := by
      intro a t x
      unfold multH AS.take AS.dep
      dsimp only
      have hh : h = 0 ∨ h = 1 := by omega
      have hm : halfOf n = 0 ∨ halfOf n = 1 := by omega
      by_cases hp : p = 0 <;> rcases hh with rfl | rfl <;> rcases hm with hm | hm <;> simp [hp, hm]
    rw [e]
    unfold ATm stage AS.push AT
    dsimp only
    by_cases hp : p = 0
    · rw [if_pos hp, if_pos hp]
      have em : ML 0 h (halfOf n) = decide (h = halfOf n) := by unfold ML; rw [if_pos rfl]
      show _ = (if ML 0 h (halfOf n) then _ else _)
      rw [em]
      by_cases hh : h = halfOf n
      · rw [if_pos ⟨hp, hh⟩, if_pos (decide_eq_true hh)]
        unfold XL; rw [lch_zero]
      · rw [if_neg (fun h => hh h.2), if_neg (by simp [hh])]
    · rw [if_neg (fun h => hp h.1), if_neg hp, if_neg hp]

/-- What the rounds work on. -/
def LR (d : Dev nD) (c : Refs) (V : In F) (prev : Fin 2 → Fin 192 → Fin 256 → Option (F .f32)) (i : Nat) : sProp 𝕄 :=
  iprop(Wts d c V 1 0 (bw 40) ∗ pt d c.xm Finset.univ fullShare (xmS V)
    ∗ (∃ fo, ⌜3 < i → fo = outS prev⌝ ∗ pt d c.ot (otc 1) fullShare fo))

/-- What follows the products of round `i`. -/
def ltail (c : Refs) (i : Nat) (m : Mxu F) : PR F (Mxu F) :=
  match i with
  | 3 => drain c 1 m
  | _ => pure m

section
variable {prev : Fin 2 → Fin 192 → Fin 256 → Option (F .f32)}

theorem wp_ltail {i : Nat} {m : Mxu F} (ha : Abs m (ATm 23 0 (TL V) (XL V) ML prev i)) {K : Mxu F → sProp 𝕄} :
    LR d c V prev i ⊢ iprop((∀ m', ⌜Abs m' (AT 23 0 (TL V) (XL V) ML prev (i + 1))⌝ -∗ LR d c V prev (i + 1) -∗ K m')
      -∗ WP d (ltail c i m) K) := by
  unfold LR ltail
  split
  · iintro ⟨H1, H2, ⟨%fo, -, Ho⟩⟩ HK
    iapply (wp_drain ha) $$ Ho
    iintro %m' %hm Ho
    rw [ATm_drain (by decide)] at hm
    iapply HK $$ %m' %hm
    isplitl [H1]; · iexact H1
    isplitl [H2]; · iexact H2
    iexists _; isplitr
    rotate_left
    · iexact Ho
    · ipureintro
      intro _
      unfold ATm
      dsimp only
      simp
  next h3 =>
    have h3' : i ≠ 3 := h3
    iintro ⟨H1, H2, ⟨%fo, %hfo, Ho⟩⟩ HK
    iapply WP_pure
    rw [ATm_eq h3'] at ha
    iapply HK $$ %m %ha
    isplitl [H1]; · iexact H1
    isplitl [H2]; · iexact H2
    iexists fo; isplitr
    · ipureintro; exact fun h => hfo (by omega)
    · iexact Ho

theorem lastRound_zero (m : Mxu F) : lastRound c evens 0 m = (do
      let m ← (do let m ← push c evens 1 0 ⟨0 + 1, by decide⟩ 0 (regOf (0 + 1) 0) m
                  push c evens 1 0 ⟨0 + 23, by decide⟩ 1 (regOf (0 + 1) 0) m)
      let m ← (do let m ← accHalf c 0 (regOf 0 0) m
                  accHalf c 1 (regOf 0 0) m)
      ltail c 0 m) := by
  unfold lastRound
  rw [dif_pos (by decide)]
  simp only [bind_assoc]; rfl

theorem lastRound_mid (i : Fin 23) (h0 : i.val ≠ 0) (h : i.val + 1 < 23) (m : Mxu F) : lastRound c evens i m = (do
      let m ← (do let m ← push c evens 1 0 ⟨i.val + 1, by omega⟩ 0 (regOf (i.val + 1) 0) m
                  push c evens 1 0 ⟨i.val + 23, by omega⟩ 1 (regOf (i.val + 1) 0) m)
      let m ← (do let m ← acc2 c 0 ⟨i.val, by omega⟩ 0 (regOf i.val 0) m
                  acc2 c 0 ⟨i.val + 22, by omega⟩ 1 (regOf i.val 0) m)
      ltail c i.val m) := by
  unfold lastRound
  rw [dif_pos h]
  simp only [if_neg h0, bind_assoc]; rfl

theorem lastRound_end (i : Fin 23) (h0 : i.val ≠ 0) (h : ¬ i.val + 1 < 23) (m : Mxu F) : lastRound c evens i m = (do
      let m ← (do let m ← acc2 c 0 ⟨i.val, by omega⟩ 0 (regOf i.val 0) m
                  acc2 c 0 ⟨i.val + 22, by omega⟩ 1 (regOf i.val 0) m)
      ltail c i.val m) := by
  unfold lastRound
  rw [dif_neg h]
  simp only [if_neg h0, bind_assoc, pure_bind]; rfl

theorem TL_0 {i : Nat} (hi : i ≠ 0) (h : i < 45) : TL V i 0 = wt V (bw 40) 1 0 ⟨i, h⟩ 0 := by unfold TL; rw [lch_pos0 hi h]
theorem TL_1 {i : Nat} (hi : i ≠ 0) (h : i + 22 < 45) : TL V i 1 = wt V (bw 40) 1 0 ⟨i + 22, h⟩ 1 := by unfold TL; rw [lch_pos1 hi h]
theorem XL_0 {i : Nat} (hi : i ≠ 0) (h : i < 45) : XL V i 0 = xrS V ⟨i, h⟩ := by unfold XL; rw [lch_pos0 hi h]
theorem XL_1 {i : Nat} (hi : i ≠ 0) (h : i + 22 < 45) : XL V i 1 = xrS V ⟨i + 22, h⟩ := by unfold XL; rw [lch_pos1 hi h]
theorem ML_pos {i : Nat} (hi : i ≠ 0) (h mh : Fin 2) : ML i h mh = true := by unfold ML; rw [if_neg hi]

theorem wp_lastRound {i : Fin 23} {m : Mxu F} (ha : Abs m (AT 23 0 (TL V) (XL V) ML prev i.val)) {K : Mxu F → sProp 𝕄} :
    LR d c V prev i.val ⊢ iprop((∀ m', ⌜Abs m' (AT 23 0 (TL V) (XL V) ML prev (i.val + 1))⌝ -∗ LR d c V prev (i.val + 1) -∗ K m')
      -∗ WP d (lastRound c evens i m) K) := by
  by_cases h : i.val + 1 < 23
  · have ht0 : TL V (i.val + 1) 0 = wt V (bw 40) 1 0 ⟨i.val + 1, by omega⟩ 0 := TL_0 (by omega) _
    have ht1 : TL V (i.val + 1) 1 = wt V (bw 40) 1 0 ⟨i.val + 23, by omega⟩ 1 := TL_1 (i := i.val + 1) (by omega) _
    by_cases h0 : i.val = 0
    · obtain rfl : i = 0 := Fin.ext h0
      rw [lastRound_zero]
      change LR d c V prev 0 ⊢ iprop((∀ m', ⌜Abs m' (AT 23 0 (TL V) (XL V) ML prev (0 + 1))⌝ -∗ LR d c V prev (0 + 1) -∗ K m') -∗ _)
      iintro H HK
      unfold LR
      icases H with ⟨H1, H2, Ho⟩
      rw [WP_bind]
      iapply (wp_push2 (V := V) (w := bw 40) ha (AT_reg_next 0) (t := TL V (0 + 1)) ht0 ht1) $$ H1
      iintro %m1 %hm1 H1
      rw [WP_bind, WP_bind]
      have hr0 : ∀ h, (stage (AT 23 0 (TL V) (XL V) ML prev 0) (regOf (0 + 1) 0) (TL V (0 + 1))).reg h (regOf 0 0) = some (TL V 0 h) := by
        intro h; rw [stage_reg, if_neg (regOf_ne 0 0).symm, AT_reg_cur (by decide)]
      iapply (wp_accHalf hm1 (hr0 0)) $$ H2
      iintro %m2 %hm2 H2
      have hr1 : (((stage (AT 23 0 (TL V) (XL V) ML prev 0) (regOf (0 + 1) 0) (TL V (0 + 1))).dep 0 0 0 (TL V 0 0) (xrS V 0 0)).take 0 (regOf 0 0)).reg 1 (regOf 0 0)
          = some (TL V 0 1) := by
        unfold AS.take AS.dep; dsimp only; rw [if_neg (by simp)]; exact hr0 1
      iapply (wp_accHalf hm2 hr1) $$ H2
      iintro %m3 %hm3 H2
      have hm3' : Abs m3 (ATm 23 0 (TL V) (XL V) ML prev 0) := by rw [← multH_eq]; exact hm3
      iapply (wp_ltail (V := V) hm3') $$ [H1 H2 Ho]
      · unfold LR
        isplitl [H1]; · iexact H1
        isplitl [H2] <;> iassumption
      unfold LR
      iexact HK
    · rw [lastRound_mid i h0 h]
      iintro H HK
      unfold LR
      icases H with ⟨H1, H2, Ho⟩
      rw [WP_bind]
      iapply (wp_push2 (V := V) (w := bw 40) ha (AT_reg_next i.val) (t := TL V (i.val + 1)) ht0 ht1) $$ H1
      iintro %m1 %hm1 H1
      rw [WP_bind]
      iapply (wp_mult (V := V) (t := TL V i.val) (x := XL V i.val) (p := 0) hm1 (fun h => by
        rw [stage_reg, if_neg (regOf_ne i.val 0).symm, AT_reg_cur i.isLt]) (XL_0 h0 _) (XL_1 h0 _)) $$ H2
      iintro %m2 %hm2 H2
      rw [round_eq (by omega) (ML_pos h0)] at hm2
      iapply (wp_ltail (V := V) hm2) $$ [H1 H2 Ho]
      · unfold LR
        isplitl [H1]; · iexact H1
        isplitl [H2] <;> iassumption
      unfold LR
      iexact HK
  · have h0 : i.val ≠ 0 := by omega
    rw [lastRound_end i h0 h]
    iintro H HK
    unfold LR
    icases H with ⟨H1, H2, Ho⟩
    rw [WP_bind]
    iapply (wp_mult (V := V) (t := TL V i.val) (x := XL V i.val) (p := 0) ha (fun h => AT_reg_cur i.isLt h) (XL_0 h0 _) (XL_1 h0 _)) $$ H2
    iintro %m2 %hm2 H2
    rw [round_last h (ML_pos h0)] at hm2
    iapply (wp_ltail (V := V) hm2) $$ [H1 H2 Ho]
    · unfold LR
      isplitl [H1]; · iexact H1
      isplitl [H2] <;> iassumption
    unfold LR
    iexact HK

theorem wp_lastRounds (K : Mxu F → sProp 𝕄) :
    ∀ (n : Nat) (hn : n ≤ 23) (m : Mxu F) (_ : Abs m (AT 23 0 (TL V) (XL V) ML prev (23 - n))),
    LR d c V prev (23 - n)
      ⊢ iprop((∀ m', ⌜Abs m' (AT 23 0 (TL V) (XL V) ML prev 23)⌝ -∗ LR d c V prev 23 -∗ K m') -∗ WP d (lastRounds c evens n hn m) K)
  | 0, hn, m, ha => by
    iintro H HK
    unfold lastRounds
    iapply WP_pure
    iapply HK $$ %m %ha
    iexact H
  | n + 1, hn, m, ha => by
    have e1 : 23 - (n + 1) = 22 - n := by omega
    have e2 : 22 - n + 1 = 23 - n := by omega
    have hg : 22 - n < 23 := by omega
    rw [e1] at ha ⊢
    iintro H HK
    unfold lastRounds
    rw [WP_bind]
    iapply (wp_lastRound (i := ⟨22 - n, hg⟩) ha) $$ H
    dsimp only
    rw [e2]
    iintro %m1 %hm1 H
    iapply (wp_lastRounds K n (Nat.le_of_succ_le hn) m1 hm1) $$ H HK

end

/-! ## The last drain -/

/-- The output buffer's contents `f` with a quarter replaced by the last half block. -/
def lquad (A : Fin 2 → Fin 192 → Fin 256 → Option (F .f32)) (mh : Fin 2) (f : S2x192x512.Idx → Elt F .bf16) : S2x192x512.Idx → Elt F .bf16 :=
  fun i => if (i 1).val / 96 = mh.val ∧ (i 2).val / 256 = 0 then
      rnd (FloatOps.addf (valO (A 0 (i 1) ⟨(i 2).val % 256, Nat.mod_lt _ (by decide)⟩)) (valO (A 1 (i 1) ⟨(i 2).val % 256, Nat.mod_lt _ (by decide)⟩)))
    else f i

theorem wp_lastPop {mh : Fin 2} {m : Mxu F} {a : AS F} (ha : Abs m a) {f : S2x192x512.Idx → Elt F .bf16} {K : Mxu F → sProp 𝕄} :
    pt d c.ot (otc 0) fullShare f
      ⊢ iprop((∀ m', ⌜Abs m' ((a.pop 0 0 mh).pop 0 1 mh)⌝ -∗ pt d c.ot (otc 0) fullShare (lquad (a.acc 0) mh f) -∗ K m')
          -∗ WP d (lastPop c mh m) K) := by
  unfold lastPop
  iintro H HK
  rw [WP_bind]
  iapply (wp_ldL (ot_sub 0 mh 0)) $$ H
  iintro H
  rw [WP_bind]
  iapply (wp_stL (lquad (a.acc 0) mh f) (ot_sub 0 mh 0) ?_ ?_) $$ H
  · intro x
    have x1 : (x 1).val < 96 := (x 1).isLt
    have x2 : (x 2).val < 256 := (x 2).isLt
    have e1 := emb3_1 (inb := oin 0 mh 0) x
    have e2 := (emb3_2 (inb := oin 0 mh 0) x).trans (Nat.zero_add (x 2).val)
    unfold lquad
    rw [if_pos (by constructor <;> omega)]
    refine Eq.trans ?_ (cast_at _ x).symm
    have hn : halfOf ⟨96 * mh.val + (x 1).val, by omega⟩ = mh := by
      unfold halfOf; exact Fin.ext (by show (96 * mh.val + (x 1).val) / 96 = mh.val; omega)
    have hr := ha.read 0 0 mh (fit 0 mh) ⟨96 * mh.val + (x 1).val, by omega⟩ hn (x 2)
    have hr1 := (ha.pop 0 0 mh (fit 0 mh)).read 0 1 mh (fit 0 mh) ⟨96 * mh.val + (x 1).val, by omega⟩ hn (x 2)
    have e3 : inHalf ⟨96 * mh.val + (x 1).val, by omega⟩ = (x 1) := by
      unfold inHalf; exact Fin.ext (by show (96 * mh.val + (x 1).val) % 96 = (x 1).val; omega)
    have hp : (a.pop 0 0 mh).acc 0 1 ⟨96 * mh.val + (x 1).val, by omega⟩ (x 2) = a.acc 0 1 ⟨96 * mh.val + (x 1).val, by omega⟩ (x 2) := by
      unfold AS.pop; dsimp only; rw [if_neg (by simp)]
    rw [e3] at hr hr1
    rw [hp] at hr1
    have c1 : ((Rect.unit (s := S2x192x512) ![(0 : Fin 2).val, 96 * mh.val, 256 * (0 : Fin 2).val] S1x96x256.size (oin 0 mh 0)).emb x 1)
        = (⟨96 * mh.val + (x 1).val, by omega⟩ : Fin 192) := Fin.ext e1
    have c2 : (⟨((Rect.unit (s := S2x192x512) ![(0 : Fin 2).val, 96 * mh.val, 256 * (0 : Fin 2).val] S1x96x256.size (oin 0 mh 0)).emb x 2).val % 256,
        Nat.mod_lt _ (by decide)⟩ : Fin 256) = x 2 := Fin.ext ((congrArg (· % 256) e2).trans (Nat.mod_eq_of_lt x2))
    rw [c1, c2, ← hr, ← hr1]
    rfl
  · intro i hi hn
    unfold lquad
    rw [if_neg]
    intro hc
    have h0 := (mem_unit3.mp hi).1
    refine hn (mem_unit3.mpr ⟨h0, ?_, ?_⟩) <;> simp only [Fin.val_zero] at * <;> omega
  iintro H
  iapply WP_pure
  iapply HK $$ [] H
  ipureintro
  exact (ha.pop 0 0 mh (fit 0 mh)).pop 0 1 mh (fit 0 mh)

/-- The columns the last copy takes. -/
def lset : Finset S2x192x512.Idx :=
  (Rect.unit (s := S2x192x512) ![0, 0, 0] S1x192x256.size inb_S2x192x512_S1x192x256_0_0_0).set

theorem mem_lset {i : S2x192x512.Idx} : i ∈ lset ↔ (i 0).val = 0 ∧ (i 2).val < 256 := by
  have i1 : (i 1).val < 192 := (i 1).isLt
  unfold lset
  refine mem_unit3.trans ?_
  omega

theorem lset_sub : lset ⊆ otc 0 := by
  intro i hi
  rw [mem_lset] at hi
  have i1 : (i 1).val < 192 := (i 1).isLt
  have i2 : (i 2).val < 512 := (i 2).isLt
  refine mem_unit3.mpr ⟨?_, ?_, ?_⟩ <;> simp only [Fin.val_zero] at * <;> omega

theorem lquads {A A' : Fin 2 → Fin 192 → Fin 256 → Option (F .f32)} (h0 : A = LACC V)
    (h1 : ∀ h n C, halfOf n = 1 → A' h n C = LACC V h n C) (f : S2x192x512.Idx → Elt F .bf16) :
    ∀ i ∈ lset, lquad A' 1 (lquad A 0 f) i = outL V i := by
  subst h0
  intro i hi
  rw [mem_lset] at hi
  have i1 : (i 1).val < 192 := (i 1).isLt
  unfold lquad outL
  by_cases hm : (i 1).val / 96 = 1
  · have hh : halfOf (i 1) = 1 := by unfold halfOf; exact Fin.ext hm
    rw [if_pos ⟨hm, by omega⟩, h1 _ _ _ hh, h1 _ _ _ hh]
  · rw [if_neg (fun h => hm h.1), if_pos ⟨by show _ = 0; omega, by omega⟩]

theorem yl_set : (yrest 40) = (Rect.unit (s := S192x20736) ![0, 20480] S192x256.size inb_S192x20736_S192x256_0_20480).set := by
  ext i
  have i0 : (i 0).val < 192 := (i 0).isLt
  have i1 : (i 1).val < 20736 := (i 1).isLt
  refine Iff.trans ?_ mem_unit2.symm
  unfold yrest
  rw [Finset.mem_filter]
  have := Finset.mem_univ i
  simp only [this, true_and]
  omega

theorem l_src {f : S2x192x512.Idx → Elt F .bf16} : pt d c.ot lset fullShare f ⊢ pt d (lsrc c) Finset.univ fullShare
      (fun x => f ((Rect.unit (s := S2x192x512) ![0, 0, 0] S1x192x256.size inb_S2x192x512_S1x192x256_0_0_0).emb
        (Shape.reshapeEquiv squeezes_S1x192x256_S192x256.numel_eq x))) :=
  (pt_sliceS (r := Rect.unit (s := S2x192x512) ![0, 0, 0] S1x192x256.size inb_S2x192x512_S1x192x256_0_0_0) (hr := fun _ => rfl) rfl).trans
    (pt_squeeze (h := squeezes_S1x192x256_S192x256))
theorem l_unsrc {f : S2x192x512.Idx → Elt F .bf16} : pt d (lsrc c) Finset.univ fullShare
      (fun x => f ((Rect.unit (s := S2x192x512) ![0, 0, 0] S1x192x256.size inb_S2x192x512_S1x192x256_0_0_0).emb
        (Shape.reshapeEquiv squeezes_S1x192x256_S192x256.numel_eq x))) ⊢ anyw d c.ot lset :=
  ((pt_unsqueeze (m := c.ot.slice (Rect.unit (s := S2x192x512) ![0, 0, 0] S1x192x256.size inb_S2x192x512_S1x192x256_0_0_0) (fun _ => rfl))
    (h := squeezes_S1x192x256_S192x256)
    (f := fun y => f ((Rect.unit (s := S2x192x512) ![0, 0, 0] S1x192x256.size inb_S2x192x512_S1x192x256_0_0_0).emb y))).trans (pt_unsliceS rfl)).trans any_of
theorem l_dst {f : S192x20736.Idx → Elt F .bf16} :
    pt d c.y (yrest 40) fullShare f ⊢ iprop(∃ g, pt d (ldst c) Finset.univ fullShare g) :=
  (pt_sliceS (r := Rect.unit (s := S192x20736) ![0, 20480] S192x256.size inb_S192x20736_S192x256_0_20480) (hr := fun _ => rfl) yl_set).trans (exists_intro _)
theorem l_undst : pt d (ldst c) Finset.univ fullShare
      (fun x => outL V ((Rect.unit (s := S2x192x512) ![0, 0, 0] S1x192x256.size inb_S2x192x512_S1x192x256_0_0_0).emb
        (Shape.reshapeEquiv squeezes_S1x192x256_S192x256.numel_eq x))) ⊢ pt d c.y (yrest 40) fullShare (Y V) := by
  have e : (fun x : S192x256.Idx => outL V ((Rect.unit (s := S2x192x512) ![0, 0, 0] S1x192x256.size inb_S2x192x512_S1x192x256_0_0_0).emb
        (Shape.reshapeEquiv squeezes_S1x192x256_S192x256.numel_eq x)))
      = fun x => Y V ((Rect.unit (s := S192x20736) ![0, 20480] S192x256.size inb_S192x20736_S192x256_0_20480).emb x) := by
    funext x
    have x1 : (x 1).val < 256 := (x 1).isLt
    refine (congrArg (fun y => outL V ((Rect.unit (s := S2x192x512) ![0, 0, 0] S1x192x256.size inb_S2x192x512_S1x192x256_0_0_0).emb y))
      (resh12 (a := 192) (b := 256) squeezes_S1x192x256_S192x256.numel_eq x)).trans ?_
    have hy : ((Rect.unit (s := S192x20736) ![0, 20480] S192x256.size inb_S192x20736_S192x256_0_20480).emb x 1).val = 20480 + (x 1).val := by
      show 20480 + 1 * (x 1).val = _; omega
    have hy0 : ((Rect.unit (s := S192x20736) ![0, 20480] S192x256.size inb_S192x20736_S192x256_0_20480).emb x 0).val = (x 0).val := by
      show 0 + 1 * (x 0).val = _; omega
    unfold Y
    rw [if_neg (by omega)]
    unfold outL
    have c1 : ∀ (i j : S2x192x512.Idx), (i 1).val = (j 1).val → (i 2).val % 256 = (j 2).val % 256 →
        (rnd (FloatOps.addf (valO (LACC V 0 (i 1) ⟨(i 2).val % 256, Nat.mod_lt _ (by decide)⟩)) (valO (LACC V 1 (i 1) ⟨(i 2).val % 256, Nat.mod_lt _ (by decide)⟩))) : F .bf16)
          = rnd (FloatOps.addf (valO (LACC V 0 (j 1) ⟨(j 2).val % 256, Nat.mod_lt _ (by decide)⟩)) (valO (LACC V 1 (j 1) ⟨(j 2).val % 256, Nat.mod_lt _ (by decide)⟩))) := by
      intro i j h1 h2
      have e1 : (i 1) = (j 1) := Fin.ext h1
      have e2 : (⟨(i 2).val % 256, Nat.mod_lt _ (by decide)⟩ : Fin 256) = ⟨(j 2).val % 256, Nat.mod_lt _ (by decide)⟩ := Fin.ext h2
      rw [e1, e2]
    refine c1 _ _ ?_ ?_
    · show 0 + 1 * (x 0).val = _
      rw [Nat.zero_add, Nat.one_mul]; exact hy0.symm
    · show (0 + 1 * (x 1).val) % 256 = (((Rect.unit (s := S192x20736) ![0, 20480] S192x256.size inb_S192x20736_S192x256_0_20480).emb x 1).val % 256) % 256
      rw [hy]; omega
  rw [e]
  exact pt_unsliceS (hr := fun _ => rfl) yl_set

end Cert.Kernel.Rolled
-- ==== Proof.Body.lean ====
/- The body: from the core's buffers, the result written and everything else given back. -/
module

public import proofs.«01_k».proof.Proof.After
public import Idealize.ShloMosaic.Lib.ValueLayout

@[expose] public section

noncomputable section

namespace Cert.Kernel.Rolled

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {sp sp' : Space} {cs : CoreSpace} {s : Shape} {e : EltTy} {d : Dev nD}

variable {V : In F} {c : Refs}

theorem AT_last : AT 46 (parOf 40) (TB V 40) (XB V) allM (PV V 40) 0 = AT 23 0 (TL V) (XL V) ML (ACC V 39) 0 := by
  refine AS.ext' (fun h r => ?_) (fun p h n C => ?_)
  · unfold AT
    dsimp only
    rw [show parOf 40 = 0 from rfl]
    by_cases hr : r = regOf 0 0
    · rw [if_pos ⟨hr, by decide⟩, if_pos ⟨hr, by decide⟩, TB_0]
      unfold TL
      rw [lch_zero]; rfl
    · rw [if_neg (fun h => hr h.1), if_neg (fun h => hr h.1)]
  · unfold AT
    dsimp only
    rw [show parOf 40 = 0 from rfl]
    by_cases hp : p = 0
    · rw [if_pos hp, if_pos hp]; unfold accO; rfl
    · rw [if_neg hp, if_neg hp, if_pos (by decide)]; unfold PV; rfl

/-- What the units hold after the last round. -/
abbrev ASL (V : In F) : AS F := AT 23 0 (TL V) (XL V) ML (ACC V 39) 23

theorem ASL_acc : (ASL V).acc 0 = LACC V := by
  unfold ASL AT LACC; rfl
theorem ASL_acc1 (h n C) : (((ASL V).pop 0 0 0).pop 0 1 0).acc 0 h n C = if halfOf n = 0 then none else LACC V h n C := by
  rw [← ASL_acc]
  unfold AS.pop
  dsimp only
  have hh : h = 0 ∨ h = 1 := by omega
  by_cases hn : halfOf n = 0 <;> rcases hh with rfl | rfl <;> simp [hn]

theorem drained {m : Mxu F} (ha : Abs m (((((ASL V).pop 0 0 0).pop 0 1 0).pop 0 0 1).pop 0 1 1)) : m.Drained := by
  constructor
  · intro h r
    rw [ha.reg]
    have e : (((((ASL V).pop 0 0 0).pop 0 1 0).pop 0 0 1).pop 0 1 1).reg h r = none := by
      unfold AS.pop ASL AT
      dsimp only
      rw [if_neg (fun h => absurd h.2 (by decide))]
    rw [e]; rfl
  · intro h R
    by_cases hR : 384 ≤ R.val
    · exact ha.top h R hR
    · have e : R = rowOf ⟨R.val / 192, by omega⟩ ⟨R.val % 192, Nat.mod_lt _ (by decide)⟩ := by
        unfold rowOf; exact Fin.ext (by show R.val = 192 * (R.val / 192) + R.val % 192; omega)
      rw [e, ha.live _ h _ 0]
      have e2 : ∀ p n, (((((ASL V).pop 0 0 0).pop 0 1 0).pop 0 0 1).pop 0 1 1).acc p h n 0 = none := by
        intro p n
        have hp : p = 0 ∨ p = 1 := by omega
        have hh : h = 0 ∨ h = 1 := by omega
        have hm : halfOf n = 0 ∨ halfOf n = 1 := by omega
        rcases hp with rfl | rfl
        · unfold AS.pop
          dsimp only
          rcases hh with rfl | rfl <;> rcases hm with hm | hm <;> simp [hm]
        · have e3 : (ASL V).acc 1 h n 0 = none := by
            unfold ASL AT; dsimp only; rw [if_neg (by decide), if_neg (by decide)]
          unfold AS.pop
          dsimp only
          simp only [show ¬ ((1 : Fin 2) = 0) from by decide, false_and, if_false]
          exact e3
      rw [e2]; rfl

theorem wp_exit {m : Mxu F} (h : m.Drained) {K : PUnit → sProp 𝕄} : K ⟨⟩ ⊢ WP d (m.exit : PR F PUnit) K := by
  unfold Mxu.exit
  iintro HK
  iapply (wp_assume Variants.none (d : Thread nD τ) none Set.univ h)
  rw [wp_ret]
  imodintro
  iexact HK

theorem after_eq (m : Mxu F) : (after c evens m : PR F PUnit) = (do
  owait c 1 (k := 18944) (by decide)
  ostart c 0 (k := 19456) (by decide)
  let m ← lastRounds c evens 23 (Nat.le_refl _) m
  ostart c 1 (k := 19968) (by decide)
  owait c 0 (k := 19456) (by decide)
  let m ← lastPop c 0 m
  let m ← lastPop c 1 m
  Prog.lift (.enqueueDma (lsrc c) (.here (ldst c)) (.dma (osem c 0).sem)
    ((c.hot.wordExact_slice rfl _ wordsbf16_S2x192x512_S1x192x256_0_0_0).reshape _ _)
    (c.hy.wordExact_slice rfl _ wordsbf16_S192x20736_S192x256_0_20480) ⟨Or.inl rfl, trivial⟩)
  owait c 1 (k := 19968) (by decide)
  Prog.lift (.waitDma2 (osem c 0).sem (lsrc c) (ldst c)
    ((c.hot.wordExact_slice rfl _ wordsbf16_S2x192x512_S1x192x256_0_0_0).reshape _ _)
    (c.hy.wordExact_slice rfl _ wordsbf16_S192x20736_S192x256_0_20480))
  m.exit) := by
  unfold after
  rfl

theorem y_take {b k : Nat} (hk : k + 512 ≤ 20736) (e : k = 512 * b) :
    anyw (F := F) d c.y (yrest b) ⊢ iprop(anyw (F := F) d c.y (yset hk) ∗ anyw (F := F) d c.y (yrest (b + 1))) := by
  have hs := yrest_split hk e
  rw [← hs.2]
  exact anyw_lend hs.1
theorem y_give {b k : Nat} (hk : k + 512 ≤ 20736) (e : k = 512 * b) :
    iprop(pt d c.y (ydone b) fullShare (Y V) ∗ pt d c.y (yset hk) fullShare (Y V)) ⊢ pt d c.y (ydone (b + 1)) fullShare (Y V) := by
  have hs := ydone_step hk e
  rw [← hs.2]
  exact pt_join hs.1
theorem y_all : iprop(pt d c.y (ydone 40) fullShare (Y V) ∗ pt d c.y (yrest 40) fullShare (Y V)) ⊢ pt d c.y Finset.univ fullShare (Y V) := by
  rw [y_last.2]
  exact pt_join y_last.1

theorem wp_after {m : Mxu F} {K : PUnit → sProp 𝕄} :
    iprop(Rest d c V ∗ St d c V 40 m) ⊢ iprop((Own d c V (pt d c.y Finset.univ fullShare (Y V)) -∗ K ⟨⟩) -∗ WP d (after c evens m) K) := by
  rw [after_eq]
  unfold St OutC ResY
  rw [AT_last, show slotOf 40 = 1 from rfl, show slotOf (40 + 2) = 0 from rfl, show parOf 40 = 0 from rfl, show parOf (40 + 1) = 1 from rfl,
    show InP d c V 40 = iprop(FreeQ (F := F) d c 2 ∗ FreeS d c V 1) from dif_neg (by decide),
    show OutF d c V 40 = FlO d c V 1 (k := 18944) (by decide) from dif_pos (by decide)]
  iintro ⟨HR, HL, ⟨HQ2, HS1⟩, HQ0, HS0, HT, HA, HX, Hxm, ⟨⟨%fo, %hfo, Hot0⟩, vo0⟩, HF, ⟨Hy1, Hy2⟩, %hm, Ho⟩ HK
  have hfo := hfo (by decide)
  subst hfo
  rw [WP_bind]
  iapply wp_owait $$ [HF Ho]
  · isplitl [HF] <;> iassumption
  iintro ⟨Hys, Hot1, vo1, Ho⟩
  ihave Hy1 := (y_give (b := 37) (k := 18944) (by decide) rfl) $$ [Hy1 Hys]
  · isplitl [Hy1] <;> iassumption
  rw [WP_bind]
  ihave Hy2 := (y_take (b := 38) (k := 19456) (by decide) rfl) $$ Hy2
  icases Hy2 with ⟨Hys, Hy2⟩
  iapply (wp_ostart (V := V) (b := 38) (by decide) rfl) $$ [Hot0 Hys vo0]
  · isplitl [Hot0]; · iexact Hot0
    isplitl [Hys] <;> iassumption
  iintro HF
  unfold LoadQ TabF
  icases HL with ⟨⟨Hq0, Hq1⟩, Hv⟩
  unfold anyw
  icases Hot1 with ⟨%fo1, Hot1⟩
  rw [WP_bind]
  iapply (wp_lastRounds (V := V) (prev := ACC V 39) _ 23 (Nat.le_refl _) m hm) $$ [Hq0 Hq1 HT Hxm Hot1]
  · unfold LR Wts
    isplitl [Hq0 Hq1 HT]
    · isplitl [Hq0 Hq1]
      · isplitl [Hq0] <;> iassumption
      · iexact HT
    isplitl [Hxm]; · iexact Hxm
    iexists fo1; isplitr
    · ipureintro; exact fun h => absurd h (by decide)
    · iexact Hot1
  unfold LR Wts
  iintro %m1 %hm1 ⟨⟨⟨Hq0, Hq1⟩, Hzt, Hst⟩, Hxm, ⟨%fo2, %hfo2, Hot1⟩⟩
  have hfo2 := hfo2 (by decide)
  subst hfo2
  rw [WP_bind]
  ihave Hy2 := (y_take (b := 39) (k := 19968) (by decide) rfl) $$ [Hy2]
  · unfold anyw; iexact Hy2
  icases Hy2 with ⟨Hys, Hy2⟩
  iapply (wp_ostart (V := V) (b := 39) (by decide) rfl) $$ [Hot1 Hys vo1]
  · isplitl [Hot1]; · iexact Hot1
    isplitl [Hys] <;> iassumption
  iintro HF1
  rw [WP_bind]
  iapply wp_owait $$ [HF Ho]
  · isplitl [HF] <;> iassumption
  iintro ⟨Hys, Hot0, vo0, Ho⟩
  ihave Hy1 := (y_give (b := 38) (k := 19456) (by decide) rfl) $$ [Hy1 Hys]
  · isplitl [Hy1] <;> iassumption
  unfold anyw
  icases Hot0 with ⟨%fo3, Hot0⟩
  rw [WP_bind]
  iapply (wp_lastPop hm1) $$ Hot0
  iintro %m2 %hm2 Hot0
  rw [WP_bind]
  iapply (wp_lastPop hm2) $$ Hot0
  iintro %m3 %hm3 Hot0
  ihave Hot0 := (pt_lend lset_sub) $$ Hot0
  icases Hot0 with ⟨HotL, HotR⟩
  ihave HotL := (pt_congr (lquads (V := V) ASL_acc (fun h n C hn => (ASL_acc1 h n C).trans (if_neg (by rw [hn]; decide))) _)) $$ HotL
  ihave HotL := l_src $$ HotL
  icases Hy2 with ⟨%fy, Hy2⟩
  ihave Hy2 := l_dst $$ Hy2
  icases Hy2 with ⟨%fy2, Hy2⟩
  rw [WP_bind]
  iapply (wp_startD (D := iprop(pt d c.y (yrest 40) fullShare (Y V) ∗ anyw d c.ot lset)) (by decide) ?_) $$ [HotL Hy2 vo0]
  rotate_left
  · isplitl [HotL]; · iexact HotL
    isplitl [Hy2]; · iexact Hy2
    iexact vo0
  · iintro HFL
    rw [WP_bind]
    iapply wp_owait $$ [HF1 Ho]
    · isplitl [HF1] <;> iassumption
    iintro ⟨Hys, Hot1, vo1, Ho⟩
    ihave Hy1 := (y_give (b := 39) (k := 19968) (by decide) rfl) $$ [Hy1 Hys]
    · isplitl [Hy1] <;> iassumption
    rw [WP_bind]
    iapply (wp_waitL (src := lsrc c) (dst := ldst c)
      (h1 := (c.hot.wordExact_slice rfl _ wordsbf16_S2x192x512_S1x192x256_0_0_0).reshape _ _)
      (h2 := c.hy.wordExact_slice rfl _ wordsbf16_S192x20736_S192x256_0_20480)) $$ [HFL Ho]
    · isplitl [HFL] <;> iassumption
    iintro ⟨⟨Hys, HotL⟩, vo0, Ho⟩
    ihave Hy1 := y_all $$ [Hy1 Hys]
    · isplitl [Hy1] <;> iassumption
    iapply (wp_exit (drained hm3))
    iapply HK
    ihave HotR := any_of $$ HotR
    ihave Hot0 := (any_join (m := c.ot) (S := lset) (T := otc 0 \ lset) (U := otc 0) Finset.disjoint_sdiff (Finset.union_sdiff_of_subset lset_sub).symm) $$ [HotL HotR]
    · isplitl [HotL] <;> iassumption
    ihave Hot := (any_join (m := c.ot) ot_two.1 ot_two.2) $$ [Hot0 Hot1]
    · isplitl [Hot0] <;> iassumption
    ihave HQ1 := (loadQ_free (V := V) (w := bw 40) (l := 1)) $$ [Hq0 Hq1 Hv]
    · unfold LoadQ
      isplitl [Hq0 Hq1]
      · isplitl [Hq0] <;> iassumption
      · iexact Hv
    ihave HQ := (ring_whole (c := c)) $$ [HQ0 HQ1 HQ2]
    · isplitl [HQ0]; · iexact HQ0
      isplitl [HQ1] <;> iassumption
    icases HQ with ⟨Hqb, vq⟩
    ihave HS := (scales_whole (c := c) (V := V)) $$ [HS0 HS1]
    · isplitl [HS0] <;> iassumption
    icases HS with ⟨Hsb, Hq, Hs, vs⟩
    ihave Hzt := any_of $$ Hzt
    ihave Hst := any_of $$ Hst
    ihave HT := (tab_whole (c := c)) $$ [Hzt Hst HA]
    · isplitl [Hzt Hst]
      · unfold TabA
        isplitl [Hzt] <;> iassumption
      · iexact HA
    icases HT with ⟨Hzt, Hst⟩
    unfold Aux Rest
    icases HX with ⟨Hzb, Hnb, Hsc⟩
    icases HR with ⟨Hx, Hz, Hxr, vx, vz⟩
    unfold Own
    isplitl [Hx Hq Hs Hz Hy1]
    · isplitl [Hx]; · iexact Hx
      isplitl [Hq]; · iexact Hq
      isplitl [Hs]; · iexact Hs
      isplitl [Hz] <;> iassumption
    isplitl [Hxr Hxm Hqb Hsb Hzb Hnb Hsc Hst Hzt Hot]
    · isplitl [Hxr]; · iapply any_of $$ Hxr
      isplitl [Hxm]; · iapply any_of $$ Hxm
      isplitl [Hqb]; · iexact Hqb
      isplitl [Hsb]; · iexact Hsb
      isplitl [Hzb]; · iapply any_of $$ Hzb
      isplitl [Hnb]; · iexact Hnb
      isplitl [Hsc]; · iexact Hsc
      isplitl [Hst]; · iexact Hst
      isplitl [Hzt] <;> iassumption
    isplitl [vx vq vs vz vo0 vo1]
    · isplitl [vx]; · iexact vx
      isplitl [vq]; · iexact vq
      isplitl [vs]; · iexact vs
      isplitl [vz]; · iexact vz
      isplitl [vo0] <;> iassumption
    iexact Ho
  · iintro ⟨H1, H2⟩
    isplitl [H1]
    · iapply l_undst $$ H1
    · iapply l_unsrc $$ H2

theorem trip_at (k : Fin k0_t1_loop.trips) (m : Mxu F) :
    St d c V (2 * k.val) m ⊢ WP d (trip c lanes evens k m) (fun m' => St d c V (2 * (k.val + 1)) m') := by
  iintro H
  iapply wp_trip $$ H
  iintro %m' H
  iexact H

/-- A loop by an invariant that holds after its `n` trips. -/
theorem wp_for_inv (l : Scf.Loop 32) (ok : l.OK) (n : Nat) (hn : l.trips = n) (m : Mxu F) (f : Fin l.trips → Mxu F → PR F (Mxu F))
    (I : Nat → Mxu F → sProp 𝕄) (hb : ∀ k m, I k.val m ⊢ WP d (f k m) (fun m' => I (k.val + 1) m')) {K : Mxu F → sProp 𝕄} :
    I 0 m ⊢ iprop((∀ m', I n m' -∗ K m') -∗ WP d (Scf.Loop.for l ok m f) K) := by
  subst hn
  have h := Scf.wp_for (σ := Mxu F) frame (wpE (defs₀ (F := F)) Variants.none (d : Thread nD τ) none) Set.univ l.lb l.ub l.st
    ok m f I hb (Q := K)
  iintro HI HK
  iapply h
  isplitl [HI] <;> iassumption

theorem trips_eq : k0_t1_loop.trips = 20 := by decide +kernel

theorem wp_loop {m : Mxu F} {K : Mxu F → sProp 𝕄} :
    St d c V 0 m ⊢ iprop((∀ m', St d c V 40 m' -∗ K m') -∗ WP d (Scf.Loop.for k0_t1_loop k0_t1_ok m (trip c lanes evens)) K) :=
  wp_for_inv k0_t1_loop k0_t1_ok 20 trips_eq m (trip c lanes evens) (fun k m => St d c V (2 * k) m) trip_at

theorem body_def : (body c : PR F PUnit) = (do
    let m ← before c lanes evens
    let m ← Scf.Loop.for k0_t1_loop k0_t1_ok m (trip c lanes evens)
    after c evens m) := rfl

/-- The whole body: from the buffers a core starts with, it ends with the result written and the rest given back. -/
theorem wp_body {K : PUnit → sProp 𝕄} :
    Own d c V (anyw (F := F) d c.y Finset.univ)
      ⊢ iprop((Own d c V (pt d c.y Finset.univ fullShare (Y V)) -∗ K ⟨⟩) -∗ WP d (body c) K) := by
  rw [body_def]
  iintro H HK
  rw [WP_bind]
  iapply wp_before $$ H
  iintro %m ⟨HR, HS⟩
  rw [WP_bind]
  iapply wp_loop $$ HS
  iintro %m1 HS
  iapply (wp_after (V := V)) $$ [HR HS]
  · isplitl [HR] <;> iassumption
  iexact HK

end Cert.Kernel.Rolled
-- ==== Proof.RolledEq.lean ====
/- The printed body is the rolled one. -/
module

public import proofs.«01_k».proof.Proof.Rolled
public import Idealize.ShloMosaic.Lib.Tactic

@[expose] public section

noncomputable section

namespace Cert.Kernel.Rolled

open Idealize.ShloMosaic Idealize.SL.Sem Cert.Kernel Cert.Kernel.Gen

variable {F : FTy → Type} [FloatOps F]

/-- One trip as the program prints it. -/
def tripP (c : Refs) (v0 : IVec S1x128 32) (v5 : IVec S256x256 1) (k0_t1 : Fin k0_t1_loop.trips) (k0_mxu12 : Mxu F) : PR F (Mxu F) := do
  let ⟨v7800_r0, v7851_r0, v7853_r0, k0_mxu165⟩ : Σ' (v7800_r0 : BitVec 32) (v7851_r0 : BitVec 32) (v7853_r0 : BitVec 32), Mxu F ← k0_part196 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v0 v5 0#32 1#32 k0_t1 k0_mxu12
  let ⟨v11185_r0, v11235_r0, v11237_r0, k0_mxu351, v11988_r0, v11992_r0, v11994_r0⟩ : Σ' (v11185_r0 : BitVec 32) (v11235_r0 : BitVec 32) (v11237_r0 : BitVec 32) (k0_mxu351 : Mxu F) (v11988_r0 : FVec F S256x256 .bf16) (v11992_r0 : FVec F S256x256 .f32), FVec F S1x256 .f32 ← k0_part197 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v0 v5 k0_t1 v7800_r0 v7851_r0 v7853_r0 k0_mxu165
  let ⟨k0_mxu514, v14118_r0, v14122_r0⟩ : Σ' (k0_mxu514 : Mxu F) (v14118_r0 : FVec F S256x256 .bf16), FVec F S256x256 .f32 ← k0_part198 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v0 v5 k0_t1 v11185_r0 v11235_r0 k0_mxu351 v11988_r0 v11992_r0 v11994_r0
  let ⟨k0_mxu519, v14153_r0⟩ : Σ' (k0_mxu519 : Mxu F), FVec F S256x256 .bf16 ← k0_part183 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_t1 v11235_r0 k0_mxu514 v14118_r0 v14122_r0
  let k0_mxu521 : Mxu F ← k0_part184 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_t1 v11235_r0 k0_mxu519 v14153_r0
  let ⟨k0_mxu525, v14215_r0, v14224_r0⟩ : Σ' (k0_mxu525 : Mxu F) (v14215_r0 : FVec F S256x256 .bf16), FVec F S256x256 .f32 ← k0_part185 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_t1 v11235_r0 k0_mxu521
  let k0_mxu529 : Mxu F ← k0_part186 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_t1 v11235_r0 k0_mxu525 v14215_r0 v14224_r0
  let ⟨k0_mxu532, v14293_r0, c983055_i32_7205_r0⟩ : Σ' (k0_mxu532 : Mxu F) (v14293_r0 : IVec S128x256 32), BitVec 32 ← k0_part187 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_t1 v11235_r0 k0_mxu529
  let k0_mxu537 : Mxu F ← k0_part188 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 v11235_r0 k0_mxu532 v14293_r0 c983055_i32_7205_r0
  let ⟨k0_mxu538, v14360_r0, v14363_r0⟩ : Σ' (k0_mxu538 : Mxu F) (v14360_r0 : FVec F S256x256 .bf16), IVec S1x256 32 ← k0_part189 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_t1 v11235_r0 k0_mxu537
  let ⟨k0_mxu543, v14395_r0⟩ : Σ' (k0_mxu543 : Mxu F), FVec F S256x256 .bf16 ← k0_part190 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_t1 v11235_r0 k0_mxu538 v14360_r0 v14363_r0
  let ⟨k0_mxu544, v14428_r0, v14432_r0⟩ : Σ' (k0_mxu544 : Mxu F) (v14428_r0 : FVec F S256x256 .bf16), FVec F S256x256 .f32 ← k0_part191 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_t1 v11235_r0 k0_mxu543 v14395_r0
  let ⟨k0_mxu549, v14463_r0⟩ : Σ' (k0_mxu549 : Mxu F), FVec F S256x256 .bf16 ← k0_part192 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_t1 v11235_r0 k0_mxu544 v14428_r0 v14432_r0
  let k0_mxu551 : Mxu F ← k0_part193 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_t1 v11235_r0 k0_mxu549 v14463_r0
  let k0_mxu556 : Mxu F ← k0_part194 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_t1 v11237_r0 k0_mxu551
  let k0_mxu560 : Mxu F ← k0_part195 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_t1 v11237_r0 k0_mxu556
  let v14566_r0 : Vec F S1x96x256 .bf16 ← Prog.lift (.load c.xm (Rect.unit (s := S45x192x256) ![44, 96, 0] S1x96x256.size inb_S45x192x256_S1x96x256_44_96_0).toLoadRect (View.loadsAt_vmem h_S1x96x256))
  have v14567_r0 : FVec F S96x256 .bf16 := shapeCast S96x256 v14566_r0 shapeCasts_S1x96x256_S96x256
  let k0_mxu561 : Mxu F ← k0_mxu560.accLhsLoaded 1 72 v14567_r0 fits_72_96
  pure k0_mxu561

set_option maxRecDepth 100000 in
theorem tripP_eq (c : Refs) (v0 : IVec S1x128 32) (v5 : IVec S256x256 1) (t : Fin k0_t1_loop.trips) (m : Mxu F) :
    tripP c v0 v5 t m = trip c v0 v5 t m := by
  obtain ⟨n, hn⟩ := t
  have h : n < 20 := hn
  iterate 20
    rcases n with _ | n
    · sl_kernel_rfl
  omega

/-- What the program prints after the loop, in the three pieces its text is cut into. -/
def tailP1 (c : Refs) (v5 : IVec S256x256 1) (k0_mxu13 : Mxu F) : PR F (Σ' (k0_mxu13 : Mxu F) (v6420_r0 : FVec F S256x256 .bf16), Vec F S1x1x256 .f32) := do
  let c20_i32_2256_r0 : BitVec 32 := 20#32
  let c18944_i32_r0 : BitVec 32 := 18944#32
  let v6396_r0 : BitVec 32 := c18944_i32_r0
  let c1_i32_2257_r0 : BitVec 32 := 1#32
  let c1_i32_2258_r0 : BitVec 32 := 1#32
  let v6397_r0 : DmaSems sig S1 := c.oS.slice (Rect.unit (s := S2) ![1] S1.size inb_S2_S1_1)
  let v6398_r0 : DmaSems sig S_ := v6397_r0.squeeze S_ squeezes_S1_S_
  let c0_i32_2259_r0 : BitVec 32 := 0#32
  let v6399_r0 : Memref sig .tc .hbm S192x512 .bf16 := c.y.slice (Rect.unit (s := S192x20736) ![0, 18944] S192x512.size inb_S192x20736_S192x512_0_18944) (fun _ => rfl)
  let c0_i32_2260_r0 : BitVec 32 := 0#32
  let c0_i32_2261_r0 : BitVec 32 := 0#32
  let v6400_r0 : Memref sig .tc .vmem S1x192x512 .bf16 := c.ot.slice (Rect.unit (s := S2x192x512) ![1, 0, 0] S1x192x512.size inb_S2x192x512_S1x192x512_1_0_0) (fun _ => rfl)
  let v6401_r0 : Memref sig .tc .vmem S192x512 .bf16 := v6400_r0.squeeze S192x512 squeezes_S1x192x512_S192x512
  Prog.lift (.waitDma2 v6398_r0.sem v6401_r0 v6399_r0 ((c.hot.wordExact_slice rfl _ wordsbf16_S2x192x512_S1x192x512_1_0_0).reshape _ _) (c.hy.wordExact_slice rfl _ wordsbf16_S192x20736_S192x512_0_18944))
  let c19456_i32_r0 : BitVec 32 := 19456#32
  let v6402_r0 : BitVec 32 := c19456_i32_r0
  let c0_i32_2262_r0 : BitVec 32 := 0#32
  let c0_i32_2263_r0 : BitVec 32 := 0#32
  let v6403_r0 : DmaSems sig S1 := c.oS.slice (Rect.unit (s := S2) ![0] S1.size inb_S2_S1_0)
  let v6404_r0 : DmaSems sig S_ := v6403_r0.squeeze S_ squeezes_S1_S_
  let c0_i32_2264_r0 : BitVec 32 := 0#32
  let v6405_r0 : Memref sig .tc .hbm S192x512 .bf16 := c.y.slice (Rect.unit (s := S192x20736) ![0, 19456] S192x512.size inb_S192x20736_S192x512_0_19456) (fun _ => rfl)
  let c0_i32_2265_r0 : BitVec 32 := 0#32
  let c0_i32_2266_r0 : BitVec 32 := 0#32
  let v6406_r0 : Memref sig .tc .vmem S1x192x512 .bf16 := c.ot.slice (Rect.unit (s := S2x192x512) ![0, 0, 0] S1x192x512.size inb_S2x192x512_S1x192x512_0_0_0) (fun _ => rfl)
  let v6407_r0 : Memref sig .tc .vmem S192x512 .bf16 := v6406_r0.squeeze S192x512 squeezes_S1x192x512_S192x512
  Prog.lift (.enqueueDma v6407_r0 (.here v6405_r0) (.dma v6404_r0.sem) ((c.hot.wordExact_slice rfl _ wordsbf16_S2x192x512_S1x192x512_0_0_0).reshape _ _) (c.hy.wordExact_slice rfl _ wordsbf16_S192x20736_S192x512_0_19456) ⟨Or.inl rfl, trivial⟩)
  let c1_2267_r0 : Index := 1#32
  let c128_2268_r0 : Index := 128#32
  let c0_2269_r0 : Index := 0#32
  let v6408_r0 : Vec F S1x128x256 .i32 ← Prog.lift (.load c.qb (Rect.unit (s := S3x1440x512) ![1, 128, 0] S1x128x256.size inb_S3x1440x512_S1x128x256_1_128_0).toLoadRect (View.loadsAt_vmem h_S1x128x256))
  have v6409_r0 : IVec S128x256 32 := shapeCast S128x256 v6408_r0 shapeCasts_S1x128x256_S128x256
  let c983055_i32_2270_r0 : BitVec 32 := 983055#32
  have v6410_r0 : IVec S128x256 32 := broadcast S128x256 c983055_i32_2270_r0
  have v6411_r0 : IVec S128x256 32 := andi v6409_r0 v6410_r0
  let c1124090624_i32_2271_r0 : BitVec 32 := 1124090624#32
  have v6412_r0 : IVec S128x256 32 := broadcast S128x256 c1124090624_i32_2271_r0
  have v6413_r0 : IVec S128x256 32 := ori v6411_r0 v6412_r0
  have v6414_r0 : FVec F S256x256 .bf16 := bitcastToFloat .bf16 (bitcast S256x256 16 v6413_r0 bitcasts_S128x256_w32_S256x256_w16)
  let c0_2272_r0 : Index := 0#32
  let c1_2273_r0 : Index := 1#32
  let c0_2274_r0 : Index := 0#32
  let v6415_r0 : Vec F S1x1x256 .i32 ← Prog.lift (.load c.zt (Rect.unit (s := S2x45x512) ![0, 1, 0] S1x1x256.size inb_S2x45x512_S1x1x256_0_1_0).toLoadRect (View.loadsAt_vmem h_S1x1x256))
  have v6416_r0 : IVec S1x256 32 := shapeCast S1x256 v6415_r0 shapeCasts_S1x1x256_S1x256
  have v6417_r0 : IVec S1x256 32 := shapeCast S1x256 v6416_r0 shapeCasts_S1x256_S1x256
  have v6418_r0 : IVec S128x256 32 := broadcastTo S128x256 v6417_r0 broadcasts_S1x256_S128x256
  have v6419_r0 : FVec F S256x256 .bf16 := bitcastToFloat .bf16 (bitcast S256x256 16 v6418_r0 bitcasts_S128x256_w32_S256x256_w16)
  have v6420_r0 : FVec F S256x256 .bf16 := subf v6414_r0 v6419_r0
  let c0_2275_r0 : Index := 0#32
  let c1_2276_r0 : Index := 1#32
  let c0_2277_r0 : Index := 0#32
  let v6421_r0 : Vec F S1x1x256 .f32 ← Prog.lift (.load c.st (Rect.unit (s := S2x90x512) ![0, 1, 0] S1x1x256.size inb_S2x90x512_S1x1x256_0_1_0).toLoadRect (View.loadsAt_vmem h_S1x1x256))
  pure ⟨k0_mxu13, v6420_r0, v6421_r0⟩

def tailP2 (c : Refs) (v5 : IVec S256x256 1) : (Σ' (k0_mxu13 : Mxu F) (v6420_r0 : FVec F S256x256 .bf16), Vec F S1x1x256 .f32) → PR F (Σ' (k0_mxu660 : Mxu F) (v7420_r0 : FVec F S256x256 .bf16), FVec F S1x256 .f32) := fun ⟨k0_mxu13, v6420_r0, v6421_r0⟩ => do
  let ⟨k0_mxu563, v6458_r0⟩ : Σ' (k0_mxu563 : Mxu F), Vec F S1x96x256 .bf16 ← k0_part349 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu13 v6420_r0 v6421_r0
  let ⟨k0_mxu566, v6491_r0, v6492_r0⟩ : Σ' (k0_mxu566 : Mxu F) (v6491_r0 : IVec S128x256 32), IVec S128x256 32 ← k0_part350 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu563 v6458_r0
  let ⟨k0_mxu571, v6521_r0, v6522_r0⟩ : Σ' (k0_mxu571 : Mxu F) (v6521_r0 : IVec S128x256 32), IVec S128x256 32 ← k0_part351 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu566 v6491_r0 v6492_r0
  let ⟨k0_mxu572, v6558_r0, v6559_r0⟩ : Σ' (k0_mxu572 : Mxu F) (v6558_r0 : FVec F S256x256 .bf16), Vec F S1x1x256 .f32 ← k0_part352 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu571 v6521_r0 v6522_r0
  let ⟨k0_mxu577, v6590_r0⟩ : Σ' (k0_mxu577 : Mxu F), FVec F S256x256 .bf16 ← k0_part353 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu572 v6558_r0 v6559_r0
  let k0_mxu579 : Mxu F ← k0_part354 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu577 v6590_r0
  let ⟨k0_mxu587, v6652_r0, v6653_r0⟩ : Σ' (k0_mxu587 : Mxu F) (v6652_r0 : FVec F S96x256 .bf16), Vec F S1x96x256 .bf16 ← k0_part355 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS k0_mxu579
  let ⟨k0_mxu588, v6688_r0⟩ : Σ' (k0_mxu588 : Mxu F), FVec F S256x256 .bf16 ← k0_part356 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu587 v6652_r0 v6653_r0
  let ⟨k0_mxu593, v6720_r0⟩ : Σ' (k0_mxu593 : Mxu F), FVec F S256x256 .bf16 ← k0_part357 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu588 v6688_r0
  let ⟨k0_mxu594, v6752_r0, v6756_r0⟩ : Σ' (k0_mxu594 : Mxu F) (v6752_r0 : FVec F S256x256 .bf16), FVec F S256x256 .f32 ← k0_part358 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu593 v6720_r0
  let ⟨k0_mxu599, v6784_r0, v6787_r0⟩ : Σ' (k0_mxu599 : Mxu F) (v6784_r0 : FVec F S256x256 .bf16), FVec F S1x256 .f32 ← k0_part359 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu594 v6752_r0 v6756_r0
  let k0_mxu602 : Mxu F ← k0_part360 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu599 v6784_r0 v6787_r0
  let k0_mxu606 : Mxu F ← k0_part361 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu602
  let k0_mxu610 : Mxu F ← k0_part362 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu606
  let ⟨k0_mxu612, v6920_r0⟩ : Σ' (k0_mxu612 : Mxu F), FVec F S256x256 .bf16 ← k0_part363 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu610
  let ⟨k0_mxu617, v6952_r0⟩ : Σ' (k0_mxu617 : Mxu F), FVec F S256x256 .bf16 ← k0_part364 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu612 v6920_r0
  let ⟨k0_mxu618, v6984_r0, v6988_r0⟩ : Σ' (k0_mxu618 : Mxu F) (v6984_r0 : FVec F S256x256 .bf16), FVec F S256x256 .f32 ← k0_part365 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu617 v6952_r0
  let ⟨k0_mxu623, v7019_r0⟩ : Σ' (k0_mxu623 : Mxu F), FVec F S256x256 .bf16 ← k0_part366 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu618 v6984_r0 v6988_r0
  let ⟨k0_mxu624, v7054_r0⟩ : Σ' (k0_mxu624 : Mxu F), FVec F S256x256 .bf16 ← k0_part367 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu623 v7019_r0
  let ⟨k0_mxu629, v7085_r0, c1124090624_i32_2707_r0⟩ : Σ' (k0_mxu629 : Mxu F) (v7085_r0 : IVec S128x256 32), BitVec 32 ← k0_part368 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu624 v7054_r0
  let ⟨k0_mxu630, v7120_r0, v7123_r0⟩ : Σ' (k0_mxu630 : Mxu F) (v7120_r0 : FVec F S256x256 .bf16), FVec F S1x256 .f32 ← k0_part369 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu629 v7085_r0 c1124090624_i32_2707_r0
  let ⟨k0_mxu635, v7154_r0⟩ : Σ' (k0_mxu635 : Mxu F), FVec F S256x256 .bf16 ← k0_part370 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu630 v7120_r0 v7123_r0
  let k0_mxu637 : Mxu F ← k0_part371 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu635 v7154_r0
  let ⟨k0_mxu641, v7214_r0, v7218_r0, v7220_r0⟩ : Σ' (k0_mxu641 : Mxu F) (v7214_r0 : FVec F S256x256 .bf16) (v7218_r0 : FVec F S256x256 .f32), FVec F S1x256 .f32 ← k0_part372 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS k0_mxu637
  let k0_mxu645 : Mxu F ← k0_part373 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu641 v7214_r0 v7218_r0 v7220_r0
  let ⟨k0_mxu648, v7287_r0, c12_i32_2833_r0⟩ : Σ' (k0_mxu648 : Mxu F) (v7287_r0 : IVec S128x256 32), BitVec 32 ← k0_part374 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu645
  let k0_mxu653 : Mxu F ← k0_part375 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu648 v7287_r0 c12_i32_2833_r0
  let ⟨k0_mxu654, v7354_r0⟩ : Σ' (k0_mxu654 : Mxu F), FVec F S256x256 .bf16 ← k0_part376 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu653
  let ⟨k0_mxu659, v7385_r0, c1124090624_i32_2898_r0⟩ : Σ' (k0_mxu659 : Mxu F) (v7385_r0 : IVec S128x256 32), BitVec 32 ← k0_part377 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu654 v7354_r0
  let ⟨k0_mxu660, v7420_r0, v7423_r0⟩ : Σ' (k0_mxu660 : Mxu F) (v7420_r0 : FVec F S256x256 .bf16), FVec F S1x256 .f32 ← k0_part378 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu659 v7385_r0 c1124090624_i32_2898_r0
  pure ⟨k0_mxu660, v7420_r0, v7423_r0⟩

def tailP3 (c : Refs) (v5 : IVec S256x256 1) : (Σ' (k0_mxu660 : Mxu F) (v7420_r0 : FVec F S256x256 .bf16), FVec F S1x256 .f32) → PR F PUnit := fun ⟨k0_mxu660, v7420_r0, v7423_r0⟩ => do
  let ⟨k0_mxu665, v7454_r0⟩ : Σ' (k0_mxu665 : Mxu F), FVec F S256x256 .bf16 ← k0_part379 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu660 v7420_r0 v7423_r0
  let k0_mxu667 : Mxu F ← k0_part380 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu665 v7454_r0
  let ⟨k0_mxu671, v7514_r0, v7518_r0, v7520_r0⟩ : Σ' (k0_mxu671 : Mxu F) (v7514_r0 : FVec F S256x256 .bf16) (v7518_r0 : FVec F S256x256 .f32), FVec F S1x256 .f32 ← k0_part381 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS k0_mxu667
  let k0_mxu675 : Mxu F ← k0_part382 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu671 v7514_r0 v7518_r0 v7520_r0
  let ⟨k0_mxu678, v7587_r0, c12_i32_3024_r0⟩ : Σ' (k0_mxu678 : Mxu F) (v7587_r0 : IVec S128x256 32), BitVec 32 ← k0_part383 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu675
  let k0_mxu683 : Mxu F ← k0_part384 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu678 v7587_r0 c12_i32_3024_r0
  let ⟨k0_mxu684, v7654_r0⟩ : Σ' (k0_mxu684 : Mxu F), FVec F S256x256 .bf16 ← k0_part385 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu683
  let ⟨k0_mxu689, v7685_r0, c1124090624_i32_3089_r0⟩ : Σ' (k0_mxu689 : Mxu F) (v7685_r0 : IVec S64x256 32), BitVec 32 ← k0_part386 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu684 v7654_r0
  let ⟨k0_mxu690, v7723_r0⟩ : Σ' (k0_mxu690 : Mxu F), FVec F S256x256 .bf16 ← k0_part387 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu689 v7685_r0 c1124090624_i32_3089_r0
  let k0_mxu696 : Mxu F ← k0_part388 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS v5 k0_mxu690 v7723_r0
  let ⟨k0_mxu703, v7779_r0⟩ : Σ' (k0_mxu703 : Mxu F), FVec F S96x256 .bf16 ← k0_part389 c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS k0_mxu696
  let c0_3155_r0 : Index := 0#32
  let c96_3156_r0 : Index := 96#32
  let c0_3157_r0 : Index := 0#32
  let v7780_r0 : Vec F S1x96x256 .bf16 ← Prog.lift (.load c.ot (Rect.unit (s := S2x192x512) ![0, 96, 0] S1x96x256.size inb_S2x192x512_S1x96x256_0_96_0).toLoadRect (View.loadsAt_vmem h_S1x96x256))
  have v7781_r0 : FVec F S96x256 .bf16 := shapeCast S96x256 v7780_r0 shapeCasts_S1x96x256_S96x256
  have v7782_r0 : FVec F S1x96x256 .bf16 := shapeCast S1x96x256 v7779_r0 shapeCasts_S96x256_S1x96x256
  Prog.lift (.store c.ot (Rect.unit (s := S2x192x512) ![0, 96, 0] S1x96x256.size inb_S2x192x512_S1x96x256_0_96_0) v7782_r0 Finset.univ (View.stores_vmem h_S1x96x256 (c.hot.storeExact_slice rfl _ packedbf16_S2x192x512_S1x96x256_0_96_0) (fun _ => rfl)) (.inl rfl))
  let c0_i32_3158_r0 : BitVec 32 := 0#32
  let c0_i32_3159_r0 : BitVec 32 := 0#32
  let v7783_r0 : DmaSems sig S1 := c.oS.slice (Rect.unit (s := S2) ![0] S1.size inb_S2_S1_0)
  let v7784_r0 : DmaSems sig S_ := v7783_r0.squeeze S_ squeezes_S1_S_
  let c0_i32_3160_r0 : BitVec 32 := 0#32
  let c20480_i32_3161_r0 : BitVec 32 := 20480#32
  let v7785_r0 : Memref sig .tc .hbm S192x256 .bf16 := c.y.slice (Rect.unit (s := S192x20736) ![0, 20480] S192x256.size inb_S192x20736_S192x256_0_20480) (fun _ => rfl)
  let c0_i32_3162_r0 : BitVec 32 := 0#32
  let c0_i32_3163_r0 : BitVec 32 := 0#32
  let v7786_r0 : Memref sig .tc .vmem S1x192x256 .bf16 := c.ot.slice (Rect.unit (s := S2x192x512) ![0, 0, 0] S1x192x256.size inb_S2x192x512_S1x192x256_0_0_0) (fun _ => rfl)
  let v7787_r0 : Memref sig .tc .vmem S192x256 .bf16 := v7786_r0.squeeze S192x256 squeezes_S1x192x256_S192x256
  Prog.lift (.enqueueDma v7787_r0 (.here v7785_r0) (.dma v7784_r0.sem) ((c.hot.wordExact_slice rfl _ wordsbf16_S2x192x512_S1x192x256_0_0_0).reshape _ _) (c.hy.wordExact_slice rfl _ wordsbf16_S192x20736_S192x256_0_20480) ⟨Or.inl rfl, trivial⟩)
  let c19968_i32_3164_r0 : BitVec 32 := 19968#32
  let v7788_r0 : BitVec 32 := c19968_i32_3164_r0
  let c1_i32_3165_r0 : BitVec 32 := 1#32
  let c1_i32_3166_r0 : BitVec 32 := 1#32
  let v7789_r0 : DmaSems sig S1 := c.oS.slice (Rect.unit (s := S2) ![1] S1.size inb_S2_S1_1)
  let v7790_r0 : DmaSems sig S_ := v7789_r0.squeeze S_ squeezes_S1_S_
  let c0_i32_3167_r0 : BitVec 32 := 0#32
  let v7791_r0 : Memref sig .tc .hbm S192x512 .bf16 := c.y.slice (Rect.unit (s := S192x20736) ![0, 19968] S192x512.size inb_S192x20736_S192x512_0_19968) (fun _ => rfl)
  let c0_i32_3168_r0 : BitVec 32 := 0#32
  let c0_i32_3169_r0 : BitVec 32 := 0#32
  let v7792_r0 : Memref sig .tc .vmem S1x192x512 .bf16 := c.ot.slice (Rect.unit (s := S2x192x512) ![1, 0, 0] S1x192x512.size inb_S2x192x512_S1x192x512_1_0_0) (fun _ => rfl)
  let v7793_r0 : Memref sig .tc .vmem S192x512 .bf16 := v7792_r0.squeeze S192x512 squeezes_S1x192x512_S192x512
  Prog.lift (.waitDma2 v7790_r0.sem v7793_r0 v7791_r0 ((c.hot.wordExact_slice rfl _ wordsbf16_S2x192x512_S1x192x512_1_0_0).reshape _ _) (c.hy.wordExact_slice rfl _ wordsbf16_S192x20736_S192x512_0_19968))
  let c0_i32_3170_r0 : BitVec 32 := 0#32
  let c0_i32_3171_r0 : BitVec 32 := 0#32
  let v7794_r0 : DmaSems sig S1 := c.oS.slice (Rect.unit (s := S2) ![0] S1.size inb_S2_S1_0)
  let v7795_r0 : DmaSems sig S_ := v7794_r0.squeeze S_ squeezes_S1_S_
  let c0_i32_3172_r0 : BitVec 32 := 0#32
  let c20480_i32_3173_r0 : BitVec 32 := 20480#32
  let v7796_r0 : Memref sig .tc .hbm S192x256 .bf16 := c.y.slice (Rect.unit (s := S192x20736) ![0, 20480] S192x256.size inb_S192x20736_S192x256_0_20480) (fun _ => rfl)
  let c0_i32_3174_r0 : BitVec 32 := 0#32
  let c0_i32_3175_r0 : BitVec 32 := 0#32
  let v7797_r0 : Memref sig .tc .vmem S1x192x256 .bf16 := c.ot.slice (Rect.unit (s := S2x192x512) ![0, 0, 0] S1x192x256.size inb_S2x192x512_S1x192x256_0_0_0) (fun _ => rfl)
  let v7798_r0 : Memref sig .tc .vmem S192x256 .bf16 := v7797_r0.squeeze S192x256 squeezes_S1x192x256_S192x256
  Prog.lift (.waitDma2 v7795_r0.sem v7798_r0 v7796_r0 ((c.hot.wordExact_slice rfl _ wordsbf16_S2x192x512_S1x192x256_0_0_0).reshape _ _) (c.hy.wordExact_slice rfl _ wordsbf16_S192x20736_S192x256_0_20480))
  k0_mxu703.exit
  pure ⟨⟩

/-- The body as the program prints it, on these operands. -/
def bodyP (c : Refs) : PR F PUnit :=
  cc0_int4_linear c.x c.hx c.q c.hq c.s c.hs c.z c.hz c.y c.hy c.xr c.hxr c.xm c.hxm c.qb c.hqb c.sb c.hsb c.zb c.hzb c.nb c.hnb c.sc c.hsc c.st c.hst c.zt c.hzt c.ot c.hot c.xS c.qS c.sS c.zS c.oS

set_option maxRecDepth 100000 in
theorem bodyP_eq₁ (c : Refs) : bodyP (F := F) c = (before c lanes evens >>= fun m =>
    ((Scf.Loop.for k0_t1_loop k0_t1_ok m (tripP c lanes evens) >>= tailP1 c evens) >>= tailP2 c evens) >>= tailP3 c evens) := by
  sl_kernel_rfl

set_option maxRecDepth 100000 in
theorem tail_eq (c : Refs) (m : Mxu F) : ((tailP1 c evens m >>= tailP2 c evens) >>= tailP3 c evens) = after c evens m := by
  sl_kernel_rfl

/-- The printed body is the rolled one. -/
theorem body_eq (c : Refs) : bodyP (F := F) c = body c := by
  have ht : (tripP c lanes evens : Fin k0_t1_loop.trips → Mxu F → PR F (Mxu F)) = trip c lanes evens :=
    funext fun t => funext fun m => tripP_eq c lanes evens t m
  rw [bodyP_eq₁, ht]
  simp only [bind_assoc]
  refine congrArg _ (funext fun m => congrArg _ (funext fun m' => ?_))
  rw [← tail_eq]
  simp only [bind_assoc]

end Cert.Kernel.Rolled
-- ==== Proof.Launch.lean ====
/- The kernel's run: @main around its one region, the result left in place, the arguments unchanged, every semaphore at zero. -/
module

public import proofs.«01_k».proof.Proof.Body
public import proofs.«01_k».proof.Proof.RolledEq
public import proofs.«01_k».proof.Proof.Gen.Kernel.Frame
public import Idealize.ShloMosaic.Lib.Pipeline.FrameSuffixV

@[expose] public section

set_option maxRecDepth 16384

noncomputable section

namespace Cert.Kernel.Rolled

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The buffers and semaphores the region runs the body on. -/
def c0 : Refs where
  x := Memref.whole main_v0
  hx := Memref.isWhole_whole _
  q := Memref.whole main_arg1
  hq := Memref.isWhole_whole _
  s := Memref.whole main_arg2
  hs := Memref.isWhole_whole _
  z := Memref.whole main_arg3
  hz := Memref.isWhole_whole _
  y := Memref.whole main_v1
  hy := Memref.isWhole_whole _
  xr := Memref.whole cc0_scratch0
  hxr := Memref.isWhole_whole _
  xm := Memref.whole cc0_scratch1
  hxm := Memref.isWhole_whole _
  qb := Memref.whole cc0_scratch2
  hqb := Memref.isWhole_whole _
  sb := Memref.whole cc0_scratch3
  hsb := Memref.isWhole_whole _
  zb := Memref.whole cc0_scratch4
  hzb := Memref.isWhole_whole _
  nb := Memref.whole cc0_scratch5
  hnb := Memref.isWhole_whole _
  sc := Memref.whole cc0_scratch6
  hsc := Memref.isWhole_whole _
  st := Memref.whole cc0_scratch7
  hst := Memref.isWhole_whole _
  zt := Memref.whole cc0_scratch8
  hzt := Memref.isWhole_whole _
  ot := Memref.whole cc0_scratch9
  hot := Memref.isWhole_whole _
  xS := cc0_scratch10
  qS := cc0_scratch11
  sS := cc0_scratch12
  zS := cc0_scratch13
  oS := cc0_scratch14

/-- The region's body is the printed body on those. -/
theorem bodyAt_eq (t : Fin cfg0.N) : bodyAt0 (F := F) t = body c0 := by
  rw [← body_eq]; rfl

/-- The semaphores of the kernel's own copies. -/
def sems : Fin 14 → SemLoc sig := fun k => SemLoc.dma
  (match k with
  | 0 => c0.xS.sem
  | 1 => (qsemL c0 0 0).sem | 2 => (qsemL c0 0 1).sem | 3 => (qsemL c0 1 0).sem
  | 4 => (qsemL c0 1 1).sem | 5 => (qsemL c0 2 0).sem | 6 => (qsemL c0 2 1).sem
  | 7 => (ssem c0 0 0).sem | 8 => (ssem c0 0 1).sem | 9 => (ssem c0 1 0).sem | 10 => (ssem c0 1 1).sem
  | 11 => c0.zS.sem
  | 12 => (osem c0 0).sem | 13 => (osem c0 1).sem)

theorem sems_ok : Pipeline.OwnSemFacts cfg0.spec sems := by decide

variable (m : (ℓ : Loc nD τ sig) → Buf (Elt F) ℓ) (ρ : Dev nD → PrngReg)

/-- The inputs core `d`'s body finds. -/
def inp (d : Dev nD) : In F where
  x := V m d main_v0
  q := V m d main_arg1
  s := V m d main_arg2
  z := V m d main_arg3

/-- The contents of the buffers after the region. -/
def GY (d : Dev nD) : (b : Ref sig .tc) → Buf (Elt F) ((d : Thread nD τ).loc b) :=
  Function.update (fun b => V m d b) main_v1 (Y (inp m d) : Buf (Elt F) ((d : Thread nD τ).loc main_v1))

abbrev HH : Finset (Ref sig .tc) := {main_arg1, main_arg2, main_arg3, main_v0}
abbrev RR : Finset (Ref sig .tc) := {main_v1}

/-- A whole buffer at known contents, both ways. -/
theorem pt_of_whole {d : Dev nD} (b : Ref sig .tc) (f : Buf (Elt F) ((d : Thread nD τ).loc b)) :
    (((d : Thread nD τ).loc b) ↦{fullShare} f : sProp 𝕄) ⊢ pt d (Memref.whole b) Finset.univ fullShare f := by
  unfold pt
  iintro H
  iexists f
  isplitr
  · ipureintro; intro i _; rfl
  · rw [show (Memref.whole b).view.setOn Finset.univ = Finset.univ from View.setOn_whole_univ b]
    iexact H

theorem whole_of_pt {d : Dev nD} (b : Ref sig .tc) (f : Buf (Elt F) ((d : Thread nD τ).loc b)) :
    pt d (Memref.whole b) Finset.univ fullShare f ⊢ (((d : Thread nD τ).loc b) ↦{fullShare} f : sProp 𝕄) := by
  unfold pt
  iintro ⟨%g, %hg, H⟩
  have e : g = f := funext fun i => hg i (Finset.mem_univ _)
  subst e
  rw [show (Memref.whole b).view.setOn Finset.univ = Finset.univ from View.setOn_whole_univ b]
  iexact H

theorem any_of_whole {d : Dev nD} (b : Ref sig .tc) :
    iprop(∃ f : Buf (Elt F) ((d : Thread nD τ).loc b), ((d : Thread nD τ).loc b) ↦{fullShare} f)
      ⊢ (anyw (F := F) d (Memref.whole b) Finset.univ : sProp 𝕄) := by
  unfold anyw
  iintro ⟨%f, H⟩
  iexists f
  iapply (pt_of_whole b f) $$ H

theorem whole_of_any {d : Dev nD} (b : Ref sig .tc) :
    (anyw (F := F) d (Memref.whole b) Finset.univ : sProp 𝕄)
      ⊢ iprop(∃ f : Buf (Elt F) ((d : Thread nD τ).loc b), ((d : Thread nD τ).loc b) ↦{fullShare} f) := by
  unfold anyw
  iintro ⟨%f, H⟩
  iexists f
  iapply (whole_of_pt b f) $$ H

theorem big_insert {s : Finset (Ref sig .tc)} {i : Ref sig .tc} (hi : i ∉ s) (Φ : Ref sig .tc → sProp 𝕄) :
    bigSep (insert i s) Φ = iprop(Φ i ∗ bigSep s Φ) := BI.bigSep_insert hi

theorem HH_eq (d : Dev nD) (W : (b : Ref sig .tc) → Buf (Elt F) ((d : Thread nD τ).loc b)) :
    (bigSep HH fun b => ((d : Thread nD τ).loc b) ↦{fullShare} W b : sProp 𝕄)
      = iprop((((d : Thread nD τ).loc main_arg1) ↦{fullShare} W main_arg1) ∗ (((d : Thread nD τ).loc main_arg2) ↦{fullShare} W main_arg2)
        ∗ (((d : Thread nD τ).loc main_arg3) ↦{fullShare} W main_arg3) ∗ (((d : Thread nD τ).loc main_v0) ↦{fullShare} W main_v0)) := by
  rw [show HH = insert main_arg1 (insert main_arg2 (insert main_arg3 {main_v0})) from rfl]
  rw [big_insert (by decide), big_insert (by decide), big_insert (by decide), bigSep_singleton]

theorem sems_eq (d : Dev nD) :
    (Pipeline.ownSems0 (Ix := Unit) (Name := ℕ) (U := Pipeline.UD sig nD τ) (Lvl := ℕ) (Val := Elt F) (τ := τ) sems d : sProp 𝕄)
      = iprop(sem0 d c0.xS.sem
        ∗ sem0 d (qsemL c0 0 0).sem ∗ sem0 d (qsemL c0 0 1).sem ∗ sem0 d (qsemL c0 1 0).sem
        ∗ sem0 d (qsemL c0 1 1).sem ∗ sem0 d (qsemL c0 2 0).sem ∗ sem0 d (qsemL c0 2 1).sem
        ∗ sem0 d (ssem c0 0 0).sem ∗ sem0 d (ssem c0 0 1).sem ∗ sem0 d (ssem c0 1 0).sem ∗ sem0 d (ssem c0 1 1).sem
        ∗ sem0 d c0.zS.sem ∗ sem0 d (osem c0 0).sem ∗ sem0 d (osem c0 1).sem) :=
  Pipeline.ownSems0_eq_of_list (c := d) sems [0,1,2,3,4,5,6,7,8,9,10,11,12,13] (by decide) (by decide)

/-- What the region holds before its point and after it. -/
abbrev Inv (d : Dev nD) (G : (d : Dev nD) → (b : Ref sig .tc) → Buf (Elt F) ((d : Thread nD τ).loc b)) : sProp 𝕄 :=
  Pipeline.ΦDRV sems cfg0.spec HH RR (fun d b => V m d b) G d

theorem inv_own (d : Dev nD) :
    iprop(Inv m d (fun d b => V m d b) ∗ ow d) ⊢ (Own d c0 (inp m d) (anyw (F := F) d c0.y Finset.univ) : sProp 𝕄) := by
  unfold Inv Pipeline.ΦDRV Own QSems SSems
  rw [scopedRest0_eq, sems_eq, HH_eq, bigSep_singleton]
  iintro ⟨⟨⟨B0, B1, B2, B3, B4, B5, B6, B7, B8, B9⟩, ⟨S0, S1, S2, S3, S4, S5, S6, S7, S8, S9, S10, S11, S12, S13⟩, ⟨A1, A2, A3, A0⟩, Ay⟩, HO⟩
  isplitl [A0 A1 A2 A3 Ay]
  · isplitl [A0]; · iapply (pt_of_whole main_v0 _) $$ A0
    isplitl [A1]; · iapply (pt_of_whole main_arg1 _) $$ A1
    isplitl [A2]; · iapply (pt_of_whole main_arg2 _) $$ A2
    isplitl [A3]; · iapply (pt_of_whole main_arg3 _) $$ A3
    iapply (any_of_whole main_v1)
    iexists _; iexact Ay
  isplitl [B0 B1 B2 B3 B4 B5 B6 B7 B8 B9]
  · isplitl [B0]; · iapply (any_of_whole cc0_scratch0) $$ B0
    isplitl [B1]; · iapply (any_of_whole cc0_scratch1) $$ B1
    isplitl [B2]; · iapply (any_of_whole cc0_scratch2) $$ B2
    isplitl [B3]; · iapply (any_of_whole cc0_scratch3) $$ B3
    isplitl [B4]; · iapply (any_of_whole cc0_scratch4) $$ B4
    isplitl [B5]; · iapply (any_of_whole cc0_scratch5) $$ B5
    isplitl [B6]; · iapply (any_of_whole cc0_scratch6) $$ B6
    isplitl [B7]; · iapply (any_of_whole cc0_scratch7) $$ B7
    isplitl [B8]; · iapply (any_of_whole cc0_scratch8) $$ B8
    iapply (any_of_whole cc0_scratch9) $$ B9
  isplitr [HO]
  · isplitl [S0]; · iexact S0
    isplitl [S1 S2 S3 S4 S5 S6]
    · isplitl [S1 S2]
      · isplitl [S1] <;> iassumption
      isplitl [S3 S4]
      · isplitl [S3] <;> iassumption
      · isplitl [S5] <;> iassumption
    isplitl [S7 S8 S9 S10]
    · isplitl [S7 S8]
      · isplitl [S7] <;> iassumption
      · isplitl [S9] <;> iassumption
    isplitl [S11]; · iexact S11
    isplitl [S12] <;> iassumption
  · iexact HO

theorem own_inv (d : Dev nD) :
    (Own d c0 (inp m d) (pt d c0.y Finset.univ fullShare (Y (inp m d))) : sProp 𝕄) ⊢ iprop(Inv m d (GY m) ∗ ow d) := by
  unfold Inv Pipeline.ΦDRV Own QSems SSems
  rw [scopedRest0_eq, sems_eq, HH_eq, bigSep_singleton]
  iintro ⟨⟨A0, A1, A2, A3, Ay⟩, ⟨B0, B1, B2, B3, B4, B5, B6, B7, B8, B9⟩,
    ⟨S0, ⟨⟨S1, S2⟩, ⟨S3, S4⟩, ⟨S5, S6⟩⟩, ⟨⟨S7, S8⟩, ⟨S9, S10⟩⟩, S11, ⟨S12, S13⟩⟩, HO⟩
  isplitr [HO]
  · isplitl [B0 B1 B2 B3 B4 B5 B6 B7 B8 B9]
    · isplitl [B0]; · iapply (show (anyw (F := F) d c0.xr Finset.univ : sProp 𝕄) ⊢ _ from whole_of_any cc0_scratch0) $$ B0
      isplitl [B1]; · iapply (show (anyw (F := F) d c0.xm Finset.univ : sProp 𝕄) ⊢ _ from whole_of_any cc0_scratch1) $$ B1
      isplitl [B2]; · iapply (show (anyw (F := F) d c0.qb Finset.univ : sProp 𝕄) ⊢ _ from whole_of_any cc0_scratch2) $$ B2
      isplitl [B3]; · iapply (show (anyw (F := F) d c0.sb Finset.univ : sProp 𝕄) ⊢ _ from whole_of_any cc0_scratch3) $$ B3
      isplitl [B4]; · iapply (show (anyw (F := F) d c0.zb Finset.univ : sProp 𝕄) ⊢ _ from whole_of_any cc0_scratch4) $$ B4
      isplitl [B5]; · iapply (show (anyw (F := F) d c0.nb Finset.univ : sProp 𝕄) ⊢ _ from whole_of_any cc0_scratch5) $$ B5
      isplitl [B6]; · iapply (show (anyw (F := F) d c0.sc Finset.univ : sProp 𝕄) ⊢ _ from whole_of_any cc0_scratch6) $$ B6
      isplitl [B7]; · iapply (show (anyw (F := F) d c0.st Finset.univ : sProp 𝕄) ⊢ _ from whole_of_any cc0_scratch7) $$ B7
      isplitl [B8]; · iapply (show (anyw (F := F) d c0.zt Finset.univ : sProp 𝕄) ⊢ _ from whole_of_any cc0_scratch8) $$ B8
      iapply (show (anyw (F := F) d c0.ot Finset.univ : sProp 𝕄) ⊢ _ from whole_of_any cc0_scratch9) $$ B9
    isplitl [S0 S1 S2 S3 S4 S5 S6 S7 S8 S9 S10 S11 S12 S13]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12] <;> iassumption
    isplitl [A0 A1 A2 A3]
    · isplitl [A1]; · iapply (show (pt d c0.q Finset.univ fullShare (inp m d).q : sProp 𝕄) ⊢ _ from whole_of_pt main_arg1 (V m d main_arg1)) $$ A1
      isplitl [A2]; · iapply (show (pt d c0.s Finset.univ fullShare (inp m d).s : sProp 𝕄) ⊢ _ from whole_of_pt main_arg2 (V m d main_arg2)) $$ A2
      isplitl [A3]; · iapply (show (pt d c0.z Finset.univ fullShare (inp m d).z : sProp 𝕄) ⊢ _ from whole_of_pt main_arg3 (V m d main_arg3)) $$ A3
      iapply (show (pt d c0.x Finset.univ fullShare (inp m d).x : sProp 𝕄) ⊢ _ from whole_of_pt main_v0 (V m d main_v0)) $$ A0
    · rw [show GY m d main_v1 = (Y (inp m d) : Buf (Elt F) ((d : Thread nD τ).loc main_v1)) from Function.update_self ..]
      iapply (show (pt d c0.y Finset.univ fullShare (Y (inp m d)) : sProp 𝕄) ⊢ _ from whole_of_pt main_v1 (Y (inp m d))) $$ Ay
  · iexact HO

/-- The region's proof data: no staged array, the invariant before and after the one point. -/
def dats : (p : Fin 1) → (d : Dev nD) → Pipeline.Dat τ (Elt F) Unit ℕ (Pipeline.UD sig nD τ) ℕ (cfgs p) d := fun p d =>
  match p with
  | 0 =>
    { A := fun w => (w : Fin 0).elim0
      after := fun w => (w : Fin 0).elim0
      Φ := fun t => Inv m d (if t.val = 0 then fun d b => V m d b else GY m)
      q := fun w => (w : Fin 0).elim0
      owed := fun _ => 0 }

theorem obligation (d : Dev nD) :
    Pipeline.BodyObligationLoose (dats m 0 d) (defs₀ (F := F)) Variants.none () Set.univ := by
  intro t
  have ht : t.val = 0 := by
    have h : t.val < grid0.N := t.isLt
    rw [N_0] at h; omega
  have e0 : (dats m 0 d).Φ t.castSucc = Inv m d (fun d b => V m d b) := by
    show Inv m d (if t.val = 0 then _ else _) = _
    rw [if_pos ht]
  have e1 : (dats m 0 d).Φ t.succ = Inv m d (GY m) := by
    show Inv m d (if t.val + 1 = 0 then _ else _) = _
    rw [if_neg (by omega)]
  rw [e0, e1]
  show _ ⊢ wp frame (wpE (defs₀ (F := F)) Variants.none (d : Thread nD τ) none) Set.univ (bodyAt0 (F := F) t) _
  rw [bodyAt_eq]
  iintro ⟨HI, ⟨%W, %hW, HO⟩, HS⟩
  ihave HI := (inv_own m d) $$ [HI HO]
  · isplitl [HI]; · iexact HI
    unfold ow; iexists W; iexact HO
  iapply (wp_body (F := F) (d := d) (V := inp m d) (c := c0)) $$ HI
  iintro HI
  ihave HI := (own_inv m d) $$ HI
  icases HI with ⟨HI, HO⟩
  isplitl [HI]; · iexact HI
  isplitl [HO]
  · unfold ow
    icases HO with ⟨%W', HO⟩
    iexists W'
    isplitr
    · ipureintro
      exact fun _ _ => Or.inl trivial
    · iexact HO
  · iexact HS

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What every buffer holds at the end of the run. -/
theorem run₀ : θ_run defs (onTc (τ := τ) (main (F := F))) (s₀ m ρ) (fun r =>
    (∀ d : Dev nD, ∀ b ∈ Pipeline.restRefs sig cfg0.spec, r.2.mem ((d.tc : Thread nD τ).loc b)
      = StableHlo.after [hostOps1].flatten (Pipeline.withArrays cfg0.spec d (Pipeline.withR (V0 m d) RR d (GY m d)) fun w => (w : Fin 0).elim0) (Proc.devRef .tc b))
    ∧ r.2.sem = fun _ => 0) :=
  Pipeline.θ_run_frame_dmaR_aroundV cfgs (dats m) 0 launch0 sems defs₀ Variants.none sems_ok HH RR (by decide) (by decide) m ρ main
    (fun d => obligation m d) (fun d w => (w : Fin 0).elim0) (fun _ _ => rfl) (V0 m) [hostOps1] sfx_sub sfx_fresh sfx_keeps (GY m) (hmainD m)
    (fun d w => (w : Fin 0).elim0)
    (fun d => by exact Entails.rfl)
    (fun d => by exact Entails.rfl)
    (Q' := _)
    (fun r h => ⟨fun d b hb => by
      have := (h.1 d).2 b hb
      rw [this]
      exact congrArg (fun A => StableHlo.after [hostOps1].flatten (Pipeline.withArrays cfg0.spec d (Pipeline.withR (V0 m d) RR d (GY m d)) A) (Proc.devRef .tc b))
        (funext fun w => (w : Fin 0).elim0), h.2⟩)

end Cert.Kernel.Rolled

end
-- ==== Proof.Run.lean ====
/- The kernel's run, read at its result and its arguments. -/
module

public import proofs.«01_k».proof.Proof.Launch

@[expose] public section

set_option maxRecDepth 16384

noncomputable section

namespace Cert.Kernel.Rolled

open Cert.Kernel Cert.Kernel.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The inputs, read off the memory the run starts from. -/
def inp₀ (d : Dev nD) : In F where
  x := shapeCast S192x11520 (m ((d : Thread nD τ).loc main_arg0)) shapeCasts_S192x1x11520_S192x11520
  q := m ((d : Thread nD τ).loc main_arg1)
  s := m ((d : Thread nD τ).loc main_arg2)
  z := m ((d : Thread nD τ).loc main_arg3)

theorem V_main_v0 (d : Dev nD) : V m d main_v0 = (inp₀ m d).x := by
  show StableHlo.after [StableHlo.reshape main_arg0 main_v0 (rfl : (.bf16 : EltTy) = .bf16) shapeCasts_S192x1x11520_S192x11520 _ _] _ _ = _
  simp only [StableHlo.after, List.foldl]
  exact StableHlo.reshape_result ..

theorem inp_eq (d : Dev nD) : inp m d = inp₀ m d := by
  unfold inp
  rw [V_main_v0, V_main_arg1, V_main_arg2, V_main_arg3]
  rfl

/-- What a buffer the suffix does not write holds. -/
theorem end_ne (d : Dev nD) (b : Ref sig .tc) (h2 : b ≠ main_v2) (h1 : b ∉ RR) :
    StableHlo.after [hostOps1].flatten (Pipeline.withArrays cfg0.spec d (Pipeline.withR (V0 m d) RR d (GY m d)) fun w => (w : Fin 0).elim0)
      (Proc.devRef .tc b) = V m d b := by
  show StableHlo.after [StableHlo.reshape main_v1 main_v2 (rfl : (.bf16 : EltTy) = .bf16) shapeCasts_S192x20736_S192x1x20736 _ _] _ _ = _
  simp only [StableHlo.after, List.foldl]
  refine (StableHlo.reshape_result_ne (h := h2) ..).trans ?_
  rw [Pipeline.withArrays_of_ne _ d _ _ b (fun w => (w : Fin 0).elim0), Pipeline.withR_of_not_mem _ _ _ _ _ h1]

/-- What the result holds. -/
theorem end_v2 (d : Dev nD) :
    StableHlo.after [hostOps1].flatten (Pipeline.withArrays cfg0.spec d (Pipeline.withR (V0 m d) RR d (GY m d)) fun w => (w : Fin 0).elim0)
      (Proc.devRef .tc main_v2) = shapeCast S192x1x20736 (Y (inp₀ m d)) shapeCasts_S192x20736_S192x1x20736 := by
  show StableHlo.after [StableHlo.reshape main_v1 main_v2 (rfl : (.bf16 : EltTy) = .bf16) shapeCasts_S192x20736_S192x1x20736 _ _] _ _ = _
  simp only [StableHlo.after, List.foldl]
  refine (StableHlo.reshape_result ..).trans ?_
  rw [Pipeline.withArrays_of_ne _ d _ _ main_v1 (fun w => (w : Fin 0).elim0), Pipeline.withR_of_mem _ _ _ _ _ (by decide)]
  show shapeCast S192x1x20736 (GY m d main_v1) shapeCasts_S192x20736_S192x1x20736 = _
  rw [show GY m d main_v1 = (Y (inp m d) : Buf (Elt F) ((d : Thread nD τ).loc main_v1)) from Function.update_self .., inp_eq]

/-- The kernel runs: its result is `Y` of its arguments, the arguments end unchanged, every semaphore at zero. -/
theorem run : θ_run defs (onTc (τ := τ) (main (F := F))) ⟨m, fun _ => 0, ρ⟩ (fun r =>
    (∀ d : Dev nD,
      r.2.mem ((d.tc : Thread nD τ).loc main_v2) = shapeCast S192x1x20736 (Y (inp₀ m d)) shapeCasts_S192x20736_S192x1x20736
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3))
    ∧ r.2.sem = fun _ => 0) :=
  (θ_run defs _ _).mono (fun r h => ⟨fun d =>
    ⟨(h.1 d main_v2 (Pipeline.mem_restRefs_of main_v2 (by decide) (by decide))).trans (end_v2 m d),
     ((h.1 d main_arg0 (Pipeline.mem_restRefs_of main_arg0 (by decide) (by decide))).trans (end_ne m d _ (by decide) (by decide))).trans (V_main_arg0 m d),
     ((h.1 d main_arg1 (Pipeline.mem_restRefs_of main_arg1 (by decide) (by decide))).trans (end_ne m d _ (by decide) (by decide))).trans (V_main_arg1 m d),
     ((h.1 d main_arg2 (Pipeline.mem_restRefs_of main_arg2 (by decide) (by decide))).trans (end_ne m d _ (by decide) (by decide))).trans (V_main_arg2 m d),
     ((h.1 d main_arg3 (Pipeline.mem_restRefs_of main_arg3 (by decide) (by decide))).trans (end_ne m d _ (by decide) (by decide))).trans (V_main_arg3 m d)⟩,
    h.2⟩) (run₀ m ρ)

end Cert.Kernel.Rolled

end
-- ==== Proof.Transport.lean ====
/- The idealized kernel is the kernel's own text, so the kernel's run is its run. -/
module

public import proofs.«01_k».proof.Proof.Gen.KernelIdeal
public import proofs.«01_k».proof.Proof.Run
public import proofs.«01_k».proof.Defs

@[expose] public section

set_option maxRecDepth 16384

noncomputable section

namespace Cert.Final

open Idealize.ShloMosaic Idealize.ShloMosaic.TcCoe Idealize.SL.Sem Cert.Kernel.Rolled

section
open Cert.KernelIdeal Cert.KernelIdeal.Gen

/-- The inputs of the idealized kernel, read off the memory the run starts from. -/
def inpI (m : (ℓ : Loc nD τ sig) → Buf (Elt Ideal) ℓ) (d : Dev nD) : In Ideal where
  x := shapeCast S192x11520 (m ((d : Thread nD τ).loc main_arg0)) shapeCasts_S192x1x11520_S192x11520
  q := m ((d : Thread nD τ).loc main_arg1)
  s := m ((d : Thread nD τ).loc main_arg2)
  z := m ((d : Thread nD τ).loc main_arg3)

/-- The idealized kernel runs: its result is `Y` of its arguments, the arguments end unchanged, every semaphore at zero. -/
def IdealRun : Prop := ∀ (m : (ℓ : Loc nD τ sig) → Buf (Elt Ideal) ℓ) (ρ : Dev nD → PrngReg),
  θ_run defs (onTc (τ := τ) (main (F := Ideal))) ⟨m, fun _ => 0, ρ⟩ (fun r =>
    (∀ d : Dev nD,
      r.2.mem ((d.tc : Thread nD τ).loc main_v2) = shapeCast S192x1x20736 (Y (inpI m d)) shapeCasts_S192x20736_S192x1x20736
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3))
    ∧ r.2.sem = fun _ => 0)
end

section
open Cert.Kernel Cert.Kernel.Gen

/-- The kernel's run over the extended reals. -/
def KernelRun : Prop := ∀ (m : (ℓ : Loc nD τ sig) → Buf (Elt Ideal) ℓ) (ρ : Dev nD → PrngReg),
  θ_run defs (onTc (τ := τ) (main (F := Ideal))) ⟨m, fun _ => 0, ρ⟩ (fun r =>
    (∀ d : Dev nD,
      r.2.mem ((d.tc : Thread nD τ).loc main_v2) = shapeCast S192x1x20736 (Y (inp₀ m d)) shapeCasts_S192x20736_S192x1x20736
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3))
    ∧ r.2.sem = fun _ => 0)
end

/-- The two statements are one. -/
theorem idealRun_eq : IdealRun = KernelRun := by
  sl_kernel_rfl

/-- The idealized kernel's run. -/
theorem idealRun : IdealRun := idealRun_eq.mpr fun m ρ => Cert.Kernel.Rolled.run m ρ

end Cert.Final
-- ==== Proof.Ints.lean ====
/- The kernel's lane numbers, word numbers and columns, by evaluation. -/
module

public import proofs.«01_k».proof.Proof.Spec
public import Idealize.ShloMosaic.Lib.Pointwise

@[expose] public section

noncomputable section

namespace Cert.Kernel.Rolled

open Idealize.ShloMosaic Cert.Kernel Cert.Kernel.Gen

variable {F : FTy → Type} [FloatOps F]

/-! ## Integer tables -/

/-- A lane's number. -/
theorem lanes_apply (j : S1x128.Idx) : lanes j = BitVec.ofNat 32 (j 1).val := by
  unfold lanes; pointwise []

/-- A rectangle's embedding is its index map. -/
theorem emb_idx {s : Shape} (r : Rect s) (x : r.shape.Idx) : r.emb x = r.idx x := rfl

/-- The quotient row depends on the entry alone. -/
theorem fdivV_apply (v : IVec S1x128 32) (b : BitVec 32) (j : S1x128.Idx) :
    fdivV v b j = fdivV (fun _ => v j) b (ix2 0 0) := by
  unfold fdivV; pointwise []

/-- The remainder row depends on the entry alone. -/
theorem fmodV_apply (v : IVec S1x128 32) (b : BitVec 32) (j : S1x128.Idx) :
    fmodV v b j = fmodV (fun _ => v j) b (ix2 0 0) := by
  unfold fmodV; pointwise []

theorem div8 : ∀ n : Fin 128, fdivV (fun _ => BitVec.ofNat 32 n.val) 8#32 (ix2 0 0) = BitVec.ofNat 32 (n.val / 8) := by decide +kernel
theorem mod8 : ∀ n : Fin 128, IntOp.muli (fmodV (fun _ => BitVec.ofNat 32 n.val) 8#32 (ix2 0 0)) 4#32
    = BitVec.ofNat 32 (4 * (n.val % 8)) := by decide +kernel

/-- A lane number, a negative one taken from the end. -/
def wrapw (P : BitVec 32) : BitVec 32 := Scalar.select (IntOp.cmpi .slt P 0#32) (IntOp.addi P 128#32) P

theorem evenIx_lane : ∀ i : Fin 128, (wrapw (evenIx lanes (ix2 0 i))).toNat % 128 = i.val / 2 + 64 * (i.val % 2) := by
  decide +kernel
theorem oddIx_lane : ∀ i : Fin 128, (wrapw (oddIx lanes (ix2 0 i))).toNat % 128 = i.val / 2 + 64 * (1 - i.val % 2) := by
  decide +kernel
theorem low_lane : ∀ i : Fin 128, IntOp.cmpi .slt (BitVec.ofNat 32 i.val) 64#32 = BitVec.ofBool (decide (i.val < 64)) := by
  decide +kernel
theorem even_row : ∀ i : Fin 256, IntOp.cmpi .eq (IntOp.andi (BitVec.ofNat 32 i.val) 1#32) 0#32
    = BitVec.ofBool (decide (i.val % 2 = 0)) := by decide +kernel

/-- The first column of each half block. -/
theorem colw_toNat : ∀ (b : Fin 41) (h : Fin 2), (colw (bw b.val) h).toNat = min (512 * b.val + 256 * h.val) 20480 := by
  decide +kernel

/-- The word of the window picked for a lane's zero. -/
def pickw (b : Nat) (h : Fin 2) (sub e : Nat) : BitVec 32 :=
  IntOp.addi (Scalar.addi (Scalar.subi (wordw (colw (bw b) h)) (basew (colw (bw b) h))) (BitVec.ofNat 32 (16 * sub))) (BitVec.ofNat 32 e)

/-- It is in the window, and is the word of its column. -/
theorem pickw_spec : ∀ (b : Fin 41) (h sub : Fin 2) (e : Fin 16), wrapw (pickw b.val h sub.val e.val) = pickw b.val h sub.val e.val ∧
    (pickw b.val h sub.val e.val).toNat < 128 ∧ (basew (colw (bw b.val) h)).toNat + (pickw b.val h sub.val e.val).toNat
      = (min (512 * b.val + 256 * h.val) 20480 + 128 * sub.val) / 8 + e.val := by
  decide +kernel

/-- Column `k` of block `b`, as a number. -/
theorem colOf_val (b : Fin 41) (k : Fin 512) :
    (colOf (bw b.val) k).val = min (512 * b.val + 256 * (k.val / 256)) 20480 + k.val % 256 := by
  unfold colOf
  simp only [colw_toNat]
  have := b.isLt
  have := k.isLt
  omega

/-- A right shift by less than a word. -/
theorem shrui_lt (x : BitVec 32) (n : Nat) (hn : n < 32) : IntOp.shrui .vector x (BitVec.ofNat 32 n) = x >>> n := by
  have e : (BitVec.ofNat 32 n).toNat = n := by rw [BitVec.toNat_ofNat]; omega
  unfold IntOp.shrui
  rw [e, if_pos hn, BitVec.ushiftRight_eq', e]

/-! ## Reshapes -/

section Reshapes
variable {α : Type}

theorem sc_1_90 (x : S1x90x128.Idx → α) (h) (r : Fin 90) (i : Fin 128) : shapeCast S90x128 x h (ix2 r i) = x (ix3 0 r i) := by pointwise []
theorem sc_90_1 (x : S90x128.Idx → α) (h) (r : Fin 90) (i : Fin 128) : shapeCast S1x90x128 x h (ix3 0 r i) = x (ix2 r i) := by pointwise []
theorem sc_45_1 (x : S45x128.Idx → α) (h) (r : Fin 45) (i : Fin 128) : shapeCast S1x45x128 x h (ix3 0 r i) = x (ix2 r i) := by pointwise []
theorem sc_192_1 (x : S192x128.Idx → α) (h) (r : Fin 192) (i : Fin 128) : shapeCast S1x192x128 x h (ix3 0 r i) = x (ix2 r i) := by pointwise []
theorem sc_1_96 (x : S1x96x256.Idx → α) (h) (r : Fin 96) (i : Fin 256) : shapeCast S96x256 x h (ix2 r i) = x (ix3 0 r i) := by pointwise []
theorem sc_1_128 (x : S1x128x256.Idx → α) (h) (r : Fin 128) (i : Fin 256) : shapeCast S128x256 x h (ix2 r i) = x (ix3 0 r i) := by pointwise []
theorem sc_1_32 (x : S1x32x256.Idx → α) (h) (r : Fin 32) (i : Fin 256) : shapeCast S32x256 x h (ix2 r i) = x (ix3 0 r i) := by pointwise []
theorem sc_1_64 (x : S1x64x256.Idx → α) (h) (r : Fin 64) (i : Fin 256) : shapeCast S64x256 x h (ix2 r i) = x (ix3 0 r i) := by pointwise []
theorem sc_self {s : Shape} (x : s.Idx → α) (h) (j : s.Idx) : shapeCast s x h j = x j :=
  congrArg x (Shape.reshapeEquiv_self h j)

end Reshapes

/-- Two entries of a matrix at places with the same numbers are the same. -/
theorem at2 {α : Type} {m n : Nat} (f : (⟨2, ![m, n]⟩ : Shape).Idx → α) {i j : (⟨2, ![m, n]⟩ : Shape).Idx}
    (h0 : (i 0).val = (j 0).val) (h1 : (i 1).val = (j 1).val) : f i = f j := by
  refine congrArg f (funext fun a => ?_)
  match a with
  | ⟨0, _⟩ => exact Fin.ext h0
  | ⟨1, _⟩ => exact Fin.ext h1

end Cert.Kernel.Rolled
-- ==== Proof.Zeros.lean ====
/- The kernel's table of zeros, read at an index. -/
module

public import proofs.«01_k».proof.Proof.Ints

@[expose] public section

noncomputable section

namespace Cert.Kernel.Rolled

open Idealize.ShloMosaic Cert.Kernel Cert.Kernel.Gen

variable {F : FTy → Type} [FloatOps F]

/-! ## The zeros -/

/-- The zero of row `r` and column `c`, alone in a word. -/
def zq (V : In F) (r : Fin 90) (c : Fin 20736) : BitVec 32 :=
  V.z (ix2 r ⟨c.val / 8, by omega⟩) >>> (4 * (c.val % 8)) &&& 15#32

/-- The zeros' row, with the first word and the quotient and remainder rows as given. -/
def zrow (P : BitVec 32) (dv mv : IVec S1x128 32) (u : IVec S90x128 32) : IVec S90x128 32 :=
  let pick : IVec S90x128 32 := broadcastTo S90x128 (shapeCast S1x128 (addi (broadcast S1x128 P) dv)
    shapeCasts_S1x128_S1x128) broadcasts_S1x128_S90x128
  let at' : IVec S90x128 32 := select (cmpi .slt pick (broadcast S90x128 0#32)) (addi pick (broadcast S90x128 128#32)) pick
  andi (shrui (dynamicGather 1 u (shapeCast S90x128 (shapeCast S90x128x1 at' shapeCasts_S90x128_S90x128x1)
      shapeCasts_S90x128x1_S90x128))
    (broadcastTo S90x128 (shapeCast S1x128 (muli mv (broadcast S1x128 4#32)) shapeCasts_S1x128_S1x128)
      broadcasts_S1x128_S90x128)) (broadcast S90x128 15#32)

theorem zrow_apply (P : BitVec 32) (dv mv : IVec S1x128 32) (u : IVec S90x128 32) (r : Fin 90) (i : Fin 128) (n : Fin 128)
    (hn : (wrapw (IntOp.addi P (dv (ix2 0 i)))).toNat % 128 = n.val) :
    zrow P dv mv u (ix2 r i) = IntOp.andi (IntOp.shrui .vector (u (ix2 r n)) (IntOp.muli (mv (ix2 0 i)) 4#32)) 15#32 := by
  unfold zrow
  pointwise []
  exact congrArg (fun n => IntOp.andi (IntOp.shrui .vector (u (ix2 r n)) (IntOp.muli (mv (ix2 0 i)) 4#32)) 15#32) (Fin.ext hn)

theorem zeros4_zrow (v0 : IVec S1x128 32) (w : BitVec 32) (sub : Nat) (u : Vec F S90x128 .i32) :
    zeros4 (F := F) v0 w sub u = zrow (Scalar.addi (Scalar.subi (wordw w) (basew w)) (BitVec.ofNat 32 (16 * sub)))
      (fdivV v0 8#32) (fmodV v0 8#32) u := by
  unfold zeros4 zrow
  rfl

theorem div_lane (i : Fin 128) : fdivV lanes 8#32 (ix2 0 i) = BitVec.ofNat 32 (i.val / 8) := by
  rw [fdivV_apply, lanes_apply]; exact div8 i

theorem mod_lane (i : Fin 128) : IntOp.muli (fmodV lanes 8#32 (ix2 0 i)) 4#32 = BitVec.ofNat 32 (4 * (i.val % 8)) := by
  rw [fmodV_apply, lanes_apply]; exact mod8 i

theorem zeros4_apply (b : Fin 41) (h sub : Fin 2) (u : Vec F S90x128 .i32) (r : Fin 90) (i : Fin 128) :
    zeros4 (F := F) lanes (colw (bw b.val) h) sub.val u (ix2 r i)
      = u (ix2 r ⟨(pickw b.val h sub.val (i.val / 8)).toNat, (pickw_spec b h sub ⟨i.val / 8, by omega⟩).2.1⟩)
        >>> (4 * (i.val % 8)) &&& 15#32 := by
  have hp := pickw_spec b h sub ⟨i.val / 8, by omega⟩
  rw [zeros4_zrow, zrow_apply _ _ _ _ _ _ ⟨(pickw b.val h sub.val (i.val / 8)).toNat, hp.2.1⟩, mod_lane, shrui_lt _ _ (by omega)]
  · unfold IntOp.andi; rfl
  · rw [div_lane]
    exact (congrArg (fun t : BitVec 32 => t.toNat % 128) hp.1).trans (Nat.mod_eq_of_lt hp.2.1)

theorem nbS_apply (V : In F) (b : Fin 41) (h sub : Fin 2) (r : Fin 90) (i : Fin 128) (c : Fin 20736)
    (hc : c.val = min (512 * b.val + 256 * h.val) 20480 + 128 * sub.val + i.val) :
    nbS V (colw (bw b.val) h) sub.val (ix2 r i) = zq V r c := by
  have hp := pickw_spec b h sub ⟨i.val / 8, by omega⟩
  unfold nbS
  rw [sc_self, zeros4_apply]
  unfold zq zwin
  have hb := b.isLt
  have hh := h.isLt
  have hs := sub.isLt
  have e1 : i.val % 8 = c.val % 8 := by omega
  rw [e1]
  congr 2
  refine at2 V.z rfl ?_
  show ((basew (colw (bw b.val) h)).toNat + (pickw b.val h sub.val (i.val / 8)).toNat) % 2592 = c.val / 8
  rw [hp.2.2]
  show (_ + i.val / 8) % 2592 = _
  omega

theorem zpair_apply (n : Vec F S90x128 .i32) (g : Fin 45) (i : Fin 128) :
    shapeCast S1x45x128 (ori (ori (ldv n (Rect.unit (s := S90x128) ![0, 0] S45x128.size inb_S90x128_S45x128_0_0))
    (shli (ldv n (Rect.unit (s := S90x128) ![45, 0] S45x128.size inb_S90x128_S45x128_45_0))
      (broadcast S45x128 16#32))) (broadcast S45x128 1124090624#32)) shapeCasts_S45x128_S1x45x128 (ix3 0 g i)
      = (n (ix2 ⟨g.val, by omega⟩ i) ||| n (ix2 ⟨g.val + 45, by omega⟩ i) <<< 16) ||| 1124090624#32 := by
  rw [sc_45_1]
  have e0 : ldv n (Rect.unit (s := S90x128) ![0, 0] S45x128.size inb_S90x128_S45x128_0_0) (ix2 g i) = n (ix2 ⟨g.val, by omega⟩ i) := by
    unfold ldv
    refine at2 n ?_ ?_
    · show 0 + 1 * g.val = g.val; omega
    · show 0 + 1 * i.val = i.val; omega
  have e1 : ldv n (Rect.unit (s := S90x128) ![45, 0] S45x128.size inb_S90x128_S45x128_45_0) (ix2 g i) = n (ix2 ⟨g.val + 45, by omega⟩ i) := by
    unfold ldv
    refine at2 n ?_ ?_
    · show 45 + 1 * g.val = g.val + 45; omega
    · show 0 + 1 * i.val = i.val; omega
  rw [← e0, ← e1]
  generalize ldv n (Rect.unit (s := S90x128) ![0, 0] S45x128.size inb_S90x128_S45x128_0_0) = a
  generalize ldv n (Rect.unit (s := S90x128) ![45, 0] S45x128.size inb_S90x128_S45x128_45_0) = b
  show IntOp.ori (IntOp.ori (a (ix2 g i)) (IntOp.shli .vector (b (ix2 g i)) 16#32)) 1124090624#32 = _
  simp [IntOp.ori, IntOp.shli]

theorem ztT_apply (V : In F) (w : BitVec 32) (t : Fin 4) (g : Fin 45) (i : Fin 128) :
    ztT V w t (ix3 0 g i) = (nbS V (colw w ⟨t.val / 2, by omega⟩) (t.val % 2) (ix2 ⟨g.val, by omega⟩ i)
      ||| nbS V (colw w ⟨t.val / 2, by omega⟩) (t.val % 2) (ix2 ⟨g.val + 45, by omega⟩ i) <<< 16) ||| 1124090624#32 := by
  unfold ztT
  exact zpair_apply _ g i

/-- The table of zeros: two rows' zeros in the halves of a word, over the pattern of 128. -/
theorem ztS_apply (V : In F) (b : Fin 41) (p : Fin 2) (g : Fin 45) (k : Fin 512) :
    ztS V (bw b.val) (ix3 p g k) = (zq V ⟨g.val, by omega⟩ (colOf (bw b.val) k)
      ||| zq V ⟨g.val + 45, by omega⟩ (colOf (bw b.val) k) <<< 16) ||| 1124090624#32 := by
  have hk := k.isLt
  have hcol := colOf_val b k
  have hz : ∀ r : Fin 90, nbS V (colw (bw b.val) ⟨k.val / 128 / 2, by omega⟩) (k.val / 128 % 2) (ix2 r (inTile k))
      = zq V r (colOf (bw b.val) k) := fun r =>
    nbS_apply V b ⟨k.val / 128 / 2, by omega⟩ ⟨k.val / 128 % 2, by omega⟩ r (inTile k) _ (by
      rw [hcol]; show _ = min (512 * b.val + 256 * (k.val / 128 / 2)) 20480 + 128 * (k.val / 128 % 2) + k.val % 128; omega)
  have e3 : ztS V (bw b.val) (ix3 p g k) = ztT V (bw b.val) (tileOf k) (ix3 0 g (inTile k)) := by
    rw [ix3_eq_valueIdx, ix3_eq_valueIdx]
    unfold ztS
    rfl
  rw [e3, ztT_apply]
  have h0 := hz ⟨g.val, by omega⟩
  have h1 := hz ⟨g.val + 45, by omega⟩
  rw [← h0, ← h1]
  rfl

end Cert.Kernel.Rolled
-- ==== Proof.Scales.lean ====
/- The kernel's table of scales, read at an index. -/
module

public import proofs.«01_k».proof.Proof.Ints

@[expose] public section

noncomputable section

namespace Cert.Kernel.Rolled

open Idealize.ShloMosaic Cert.Kernel Cert.Kernel.Gen

variable {F : FTy → Type} [FloatOps F]

/-! ## The scales -/

theorem scS_apply (V : In Ideal) (w : BitVec 32) (p : Fin 2) (t : Fin 4) (r : Fin 90) (i : Fin 128) :
    scS V w p t (ix2 r i) = V.s (ix2 r (colOf w ⟨128 * t.val + i.val, by omega⟩)) := by
  unfold scS
  rw [sc_self]
  show shapeCast S90x128 (ldv (sbS V w) (Rect.unit (s := S2x90x512) ![p.val, 0, 128 * t.val] S1x90x128.size (stin p t)))
    shapeCasts_S1x90x128_S90x128 (ix2 r i) = _
  rw [sc_1_90]
  unfold ldv sbS
  refine at2 V.s ?_ (congrArg (fun k => (colOf w k).val) (Fin.ext ?_))
  · show 0 + 1 * r.val = r.val; omega
  · show 128 * t.val + 1 * i.val = 128 * t.val + i.val; omega

theorem stT_apply (V : In Ideal) (w : BitVec 32) (p : Fin 2) (t : Fin 4) (r : Fin 90) (i : Fin 128) :
    stT V w p t (ix3 0 r i) = scS V w p t (ix2 r i) := by
  unfold stT
  rw [sc_90_1]
  unfold ldv
  refine at2 (scS V w p t) ?_ ?_
  · show 0 + 1 * r.val = r.val; omega
  · show 0 + 1 * i.val = i.val; omega

theorem stS_tile (V : In Ideal) (w : BitVec 32) (p p' : Fin 2) (r : Fin 90) (k : Fin 512) :
    stS V w p (ix3 p' r k) = stT V w p (tileOf k) (ix3 0 r (inTile k)) := by
  rw [ix3_eq_valueIdx, ix3_eq_valueIdx]
  unfold stS
  rfl

/-- The table of scales, as scales of the argument. -/
theorem stS_apply (V : In Ideal) (w : BitVec 32) (p p' : Fin 2) (r : Fin 90) (k : Fin 512) :
    stS V w p (ix3 p' r k) = V.s (ix2 r (colOf w k)) := by
  have hk := k.isLt
  have e : (⟨128 * (tileOf k).val + (inTile k).val, by have := (tileOf k).isLt; have := (inTile k).isLt; omega⟩ : Fin 512) = k :=
    Fin.ext (by show 128 * (k.val / 128) + k.val % 128 = k.val; omega)
  rw [stS_tile, stT_apply, scS_apply, e]

end Cert.Kernel.Rolled
-- ==== Proof.Acts.lean ====
/- The kernel's mixed activations, read at an index. -/
module

public import proofs.«01_k».proof.Proof.Ints

@[expose] public section

noncomputable section

namespace Cert.Kernel.Rolled

open Idealize.ShloMosaic Cert.Kernel Cert.Kernel.Gen

variable {F : FTy → Type} [FloatOps F]

/-! ## The mixed activations -/

/-- The column of the activations that place `K` of chunk `g` holds. -/
def kidx (g : Fin 45) (K : Fin 256) : Fin 11520 := ⟨128 * (g.val + 45 * (K.val % 2)) + K.val / 2, by omega⟩

theorem gat_apply (ix : IVec S1x128 32) (x : FVec Ideal S192x128 .f32) (r : Fin 192) (i : Fin 128) (n : Fin 128)
    (hn : (wrapw (ix (ix2 0 i))).toNat % 128 = n.val) : gat ix x (ix2 r i) = x (ix2 r n) := by
  unfold gat
  pointwise []
  exact congrArg (fun n => x (ix2 r n)) (Fin.ext hn)

theorem mixT_apply (V : In Ideal) (g : Fin 45) (j : Fin 2) (r : Fin 192) (i : Fin 128) :
    mixT V g j (ix3 0 r i) = V.x (ix2 r (kidx g ⟨128 * j.val + i.val, by omega⟩)) := by
  have hi := i.isLt
  unfold mixT kidx
  match j with
  | 0 =>
    show shapeCast S1x192x128 _ _ _ = _
    rw [sc_192_1, gat_apply _ _ _ _ ⟨i.val / 2 + 64 * (i.val % 2), by omega⟩ (evenIx_lane i)]
    pointwise [lowV, ldv, emb_idx, lanes_apply]
    rw [low_lane ⟨i.val / 2 + 64 * (i.val % 2), by omega⟩]
    by_cases hc : i.val % 2 = 0
    · rw [show decide (i.val / 2 + 64 * (i.val % 2) < 64) = true from decide_eq_true (by omega)]
      refine at2 V.x rfl ?_
      show 128 * g.val + (i.val / 2 + 64 * (i.val % 2)) = 128 * (g.val + 45 * (i.val % 2)) + i.val / 2
      omega
    · rw [show decide (i.val / 2 + 64 * (i.val % 2) < 64) = false from decide_eq_false (by omega)]
      refine at2 V.x rfl ?_
      show 128 * (g.val + 45) + (i.val / 2 + 64 * (i.val % 2) + 128 - 64) % 128 = 128 * (g.val + 45 * (i.val % 2)) + i.val / 2
      omega
  | 1 =>
    show shapeCast S1x192x128 _ _ _ = _
    rw [sc_192_1, gat_apply _ _ _ _ ⟨i.val / 2 + 64 * (1 - i.val % 2), by omega⟩ (oddIx_lane i)]
    pointwise [lowV, ldv, emb_idx, lanes_apply]
    rw [low_lane ⟨i.val / 2 + 64 * (1 - i.val % 2), by omega⟩]
    by_cases hc : i.val % 2 = 0
    · rw [show decide (i.val / 2 + 64 * (1 - i.val % 2) < 64) = false from decide_eq_false (by omega)]
      refine at2 V.x rfl ?_
      show 128 * g.val + (i.val / 2 + 64 * (1 - i.val % 2)) = 128 * (g.val + 45 * ((128 * 1 + i.val) % 2)) + (128 * 1 + i.val) / 2
      omega
    · rw [show decide (i.val / 2 + 64 * (1 - i.val % 2) < 64) = true from decide_eq_true (by omega)]
      refine at2 V.x rfl ?_
      show 128 * (g.val + 45) + (i.val / 2 + 64 * (1 - i.val % 2) + 128 - 64) % 128 = 128 * (g.val + 45 * ((128 * 1 + i.val) % 2)) + (128 * 1 + i.val) / 2
      omega

/-- The rows a pass takes, as entries of the activations. -/
theorem xrS_apply (V : In Ideal) (g : Fin 45) (mh : Fin 2) (n : Fin 96) (K : Fin 256) :
    xrS V g mh (ix2 n K) = V.x (ix2 ⟨96 * mh.val + n.val, by omega⟩ (kidx g K)) := by
  have hK := K.isLt
  unfold xrS
  rw [sc_1_96]
  unfold ldv xmS
  simp only [← ix3_eq_valueIdx]
  refine Eq.trans (b := mixT V g ⟨K.val / 128, by omega⟩ (ix3 0 ⟨96 * mh.val + n.val, by omega⟩ ⟨K.val % 128, by omega⟩)) ?_ ?_
  · have e0 : ∀ (g' : Fin 45) (j j' : Fin 2) (n' n'' : Fin 192) (i i' : Fin 128), g' = g → j = j' → n' = n'' → i = i' →
        mixT V g' j (ix3 0 n' i) = mixT V g j' (ix3 0 n'' i') := by
      intro g' j j' n' n'' i i' h1 h2 h3 h4; rw [h1, h2, h3, h4]
    refine e0 _ _ _ _ _ _ _ ?_ ?_ ?_ ?_
    · exact Fin.ext (by show g.val + 1 * 0 = g.val; omega)
    · exact Fin.ext (by show (0 + 1 * K.val) / 128 = K.val / 128; omega)
    · exact Fin.ext (by show 96 * mh.val + 1 * n.val = 96 * mh.val + n.val; omega)
    · exact Fin.ext (by show (0 + 1 * K.val) % 128 = K.val % 128; omega)
  rw [mixT_apply]
  refine at2 V.x rfl (congrArg (fun k => (kidx g k).val) (Fin.ext ?_))
  show 128 * (K.val / 128) + K.val % 128 = K.val
  omega

end Cert.Kernel.Rolled
-- ==== Proof.Codes.lean ====
/- The kernel's code words, read at an index. -/
module

public import proofs.«01_k».proof.Proof.Ints

@[expose] public section

noncomputable section

namespace Cert.Kernel.Rolled

open Idealize.ShloMosaic Cert.Kernel Cert.Kernel.Gen

variable {F : FTy → Type} [FloatOps F]

/-! ## The code words -/

/-- Two codes of a word, over the pattern of 128 in each half. -/
def nibw (q : BitVec 32) (f : Nat) : BitVec 32 := ((q >>> (4 * f)) &&& 983055#32) ||| 1124090624#32

theorem nibs_apply (s : Shape) (f : Nat) (hf : f < 8) (q : IVec s 32) (j : s.Idx) : nibs s f q j = nibw (q j) f := by
  unfold nibs nibw
  match f with
  | 0 => simp [ori, andi, broadcast, IntOp.ori, IntOp.andi]
  | f + 1 =>
    pointwise []
    rw [shrui_lt _ _ (by omega)]
    rfl

/-- A ring slot's word, loaded from row `a` on. -/
theorem qrow (V : In F) (w : BitVec 32) (l : Fin 3) (h : Fin 2) {a n : Nat} (hr : a + n ≤ 1440) (j : Fin n) (C : Fin 256)
    (r : Fin 1440) (e : r.val = a + j.val) :
    ldv (qbS V w) (Rect.unit (s := S3x1440x512) ![l.val, a, 256 * h.val] ![1, n, 256] (qin l h hr)) (ix3 0 j C)
      = V.q (ix2 r (colOf w ⟨256 * h.val + C.val, by omega⟩)) := by
  unfold ldv qbS
  refine at2 V.q ?_ (congrArg (fun k => (colOf w k).val) (Fin.ext ?_))
  · show a + 1 * j.val = r.val; omega
  · show 256 * h.val + 1 * C.val = 256 * h.val + C.val; omega

theorem codeS_apply (V : In F) (w : BitVec 32) (l : Fin 3) (g : Fin 45) (h : Fin 2) (j : Fin 128) (C : Fin 256) :
    codeS V w l g h (ix2 j C) = nibw (V.q (ix2 ⟨(128 * g.val + j.val) % 1440, Nat.mod_lt _ (by decide)⟩
      (colOf w ⟨256 * h.val + C.val, by omega⟩))) ((128 * g.val + j.val) / 1440) := by
  have hg := g.isLt
  have hj := j.isLt
  unfold codeS
  split
  · rw [nibs_apply _ _ (by omega), sc_1_128, qrow V w l h (by omega) j C ⟨(128 * g.val + j.val) % 1440, Nat.mod_lt _ (by decide)⟩
      (by show (128 * g.val + j.val) % 1440 = _; omega)]
    congr 1; omega
  · split
    · rename_i _ e
      pointwise []
      by_cases hc : j.val < 32
      · rw [dif_pos hc, nibs_apply _ _ (by omega), sc_1_32, qrow V w l h (by omega) _ C ⟨(128 * g.val + j.val) % 1440, Nat.mod_lt _ (by decide)⟩
          (by show (128 * g.val + j.val) % 1440 = 1408 + j.val; omega)]
        congr 1; omega
      · rw [dif_neg hc, nibs_apply _ _ (by omega), sc_1_96, qrow V w l h (by omega) _ C ⟨(128 * g.val + j.val) % 1440, Nat.mod_lt _ (by decide)⟩
          (by show (128 * g.val + j.val) % 1440 = 0 + (j.val - 32); omega)]
        congr 1; omega
    · split
      · rename_i _ e
        pointwise []
        by_cases hc : j.val < 64
        · rw [dif_pos hc, nibs_apply _ _ (by omega), sc_1_64, qrow V w l h (by omega) _ C ⟨(128 * g.val + j.val) % 1440, Nat.mod_lt _ (by decide)⟩
            (by show (128 * g.val + j.val) % 1440 = 1376 + j.val; omega)]
          congr 1; omega
        · rw [dif_neg hc, nibs_apply _ _ (by omega), sc_1_64, qrow V w l h (by omega) _ C ⟨(128 * g.val + j.val) % 1440, Nat.mod_lt _ (by decide)⟩
            (by show (128 * g.val + j.val) % 1440 = 0 + (j.val - 64); omega)]
          congr 1; omega
      · have e : g.val = 33 := by
          rename_i h0 h1 h2
          revert h0 h1 h2; clear hg; revert g; decide
        pointwise []
        by_cases hc : j.val < 96
        · rw [dif_pos hc, nibs_apply _ _ (by omega), sc_1_96, qrow V w l h (by omega) _ C ⟨(128 * g.val + j.val) % 1440, Nat.mod_lt _ (by decide)⟩
            (by show (128 * g.val + j.val) % 1440 = 1344 + j.val; omega)]
          congr 1; omega
        · rw [dif_neg hc, nibs_apply _ _ (by omega), sc_1_32, qrow V w l h (by omega) _ C ⟨(128 * g.val + j.val) % 1440, Nat.mod_lt _ (by decide)⟩
            (by show (128 * g.val + j.val) % 1440 = 0 + (j.val - 96); omega)]
          congr 1; omega

end Cert.Kernel.Rolled
-- ==== Proof.Weights.lean ====
/- The kernel's weight tiles and passes over the extended reals. -/
module

public import proofs.«01_k».proof.Proof.Ints
public import proofs.«01_k».proof.Proof.Codes
public import Idealize.ShloMosaic.Lib.BitcastPair

@[expose] public section

noncomputable section

namespace Cert.Kernel.Rolled

open Idealize.ShloMosaic Cert.Kernel Cert.Kernel.Gen

variable {F : FTy → Type} [FloatOps F]

/-! ## The weights -/

theorem halves_apply (w : IVec S128x256 32) (K C : Fin 256) :
    bitcast S256x256 16 w bitcasts_S128x256_w32_S256x256_w16 (ix2 K C)
      = BitVec.extractLsb' (16 * (K.val % 2)) 16 (w (ix2 ⟨K.val / 2, by omega⟩ C)) := by
  rw [bitcast_32_16]
  refine congrArg (BitVec.extractLsb' (16 * (K.val % 2)) 16) (at2 w ?_ ?_)
  · rfl
  · rfl

theorem wts_apply (w : IVec S128x256 32) (z : Vec Ideal S1x1x256 .i32) (s1 s2 : Vec Ideal S1x1x256 .f32) (K C : Fin 256) :
    wts evens w z s1 s2 (ix2 K C) = (Ideal.ofBits .bf16 (BitVec.extractLsb' (16 * (K.val % 2)) 16 (w (ix2 ⟨K.val / 2, by omega⟩ C)))
      - Ideal.ofBits .bf16 (BitVec.extractLsb' (16 * (K.val % 2)) 16 (z (ix3 0 0 C))))
      * (if K.val % 2 = 0 then s1 (ix3 0 0 C) else s2 (ix3 0 0 C)) := by
  unfold wts evens
  pointwise [halves_apply]
  rw [even_row K]
  congr 1
  by_cases hc : K.val % 2 = 0
  · rw [if_pos hc, decide_eq_true hc]; rfl
  · rw [if_neg hc, decide_eq_false hc]; rfl

theorem ext_code (q : BitVec 32) (f e : Nat) (hf : f < 4) (he : e < 2) : (nibw q f).extractLsb' (16 * e) 16
    = 0x4300#16 ||| ((q >>> (4 * (f + 4 * e))) &&& 15#32).setWidth 16 := by
  unfold nibw
  apply BitVec.eq_of_getLsbD_eq
  intro i hi
  interval_cases f <;> interval_cases e <;> interval_cases i <;> simp

theorem ext_zero (a b : BitVec 32) (e : Nat) (he : e < 2) :
    (((a &&& 15#32) ||| (b &&& 15#32) <<< 16) ||| 1124090624#32).extractLsb' (16 * e) 16
      = 0x4300#16 ||| ((if e = 0 then a else b) &&& 15#32).setWidth 16 := by
  apply BitVec.eq_of_getLsbD_eq
  intro i hi
  interval_cases e <;> interval_cases i <;> simp

/-- The bf16 pattern of 128 with a code in its low bits is 128 plus the code. -/
theorem ofBits_code (n : BitVec 32) : Ideal.ofBits .bf16 (0x4300#16 ||| (n &&& 15#32).setWidth 16)
    = (((128 + (n &&& 15#32).toNat : ℕ) : ℝ) : EReal) := by
  have h : ∀ k : Fin 16, Ideal.ofBits .bf16 (0x4300#16 ||| (BitVec.ofNat 32 k.val).setWidth 16) = (((128 + k.val : ℕ) : ℝ) : EReal) := by
    intro k
    fin_cases k <;> (simp [Ideal.ofBits, Ideal.ieee, -EReal.coe_mul] <;> norm_num)
  have e : (n &&& 15#32).toNat < 16 := by
    rw [BitVec.toNat_and]; exact lt_of_le_of_lt Nat.and_le_right (by decide)
  have := h ⟨_, e⟩
  simpa using this

/-! ## A pass -/

theorem pass_apply (t : FVec Ideal S256x256 .bf16) (x : FVec Ideal S96x256 .bf16) (n : Fin 96) (C : Fin 256) :
    pass t x (ix2 n C) = ∑ K : Fin 256, x (ix2 n K) * t (ix2 K C) := by
  show Ideal.mxuPass (DotDims.plain 96 256 256) x t (ix2 n C) = _
  unfold Ideal.mxuPass
  refine Fintype.sum_equiv (ValueIdx.contrEquiv1 (DotDims.plain 96 256 256) 256 rfl rfl) _ _ fun k => ?_
  congr 2 <;> (funext a; match a with | ⟨0, _⟩ => rfl | ⟨1, _⟩ => rfl)

end Cert.Kernel.Rolled
-- ==== Proof.Sums.lean ====
/- The kernel's result over the extended reals: each entry is the sum over all columns of the activations. -/
module

public import proofs.«01_k».proof.Proof.Zeros
public import proofs.«01_k».proof.Proof.Scales
public import proofs.«01_k».proof.Proof.Acts
public import proofs.«01_k».proof.Proof.Weights

@[expose] public section

noncomputable section

namespace Cert.Kernel.Rolled

open Idealize.ShloMosaic Cert.Kernel Cert.Kernel.Gen

/-- Two entries of a rank-3 array at places with the same numbers are the same. -/
theorem at3 {α : Type} {l m n : Nat} (f : (⟨3, ![l, m, n]⟩ : Shape).Idx → α) {i j : (⟨3, ![l, m, n]⟩ : Shape).Idx}
    (h0 : (i 0).val = (j 0).val) (h1 : (i 1).val = (j 1).val) (h2 : (i 2).val = (j 2).val) : f i = f j := by
  refine congrArg f (funext fun a => ?_)
  match a with
  | ⟨0, _⟩ => exact Fin.ext h0
  | ⟨1, _⟩ => exact Fin.ext h1
  | ⟨2, _⟩ => exact Fin.ext h2

/-! ## The weights -/

/-- The code of row `k` and column `c`, alone in a word. -/
def nq (V : In Ideal) (k : Fin 11520) (c : Fin 20736) : BitVec 32 :=
  V.q (ix2 ⟨k.val % 1440, Nat.mod_lt _ (by decide)⟩ c) >>> (4 * (k.val / 1440)) &&& 15#32

/-- A code as an extended real. -/
def codeE (n : BitVec 32) : EReal := ((n.toNat : ℝ) : EReal)

/-- The weight of row `k` and column `c`: the code less the zero of its group, times the scale of its group. -/
def Wt (V : In Ideal) (k : Fin 11520) (c : Fin 20736) : EReal :=
  (codeE (nq V k c) - codeE (zq V ⟨k.val / 128, by omega⟩ c)) * (V.s (ix2 ⟨k.val / 128, by omega⟩ c) : EReal)

theorem sub_code (a b : Nat) : (((128 + a : ℕ) : ℝ) : EReal) - (((128 + b : ℕ) : ℝ) : EReal) = ((a : ℝ) : EReal) - ((b : ℝ) : EReal) := by
  rw [← EReal.coe_sub, ← EReal.coe_sub]
  congr 1
  push_cast
  ring

theorem zt_at (V : In Ideal) (b : Fin 41) (p : Fin 2) (g : Fin 45) (h : Fin 2) (C : Fin 256) :
    ldv (ztS V (bw b.val)) (Rect.unit (s := S2x45x512) ![p.val, g.val, 256 * h.val] S1x1x256.size (zin p g h)) (ix3 0 0 C)
      = ztS V (bw b.val) (ix3 p g ⟨256 * h.val + C.val, by omega⟩) := by
  unfold ldv
  refine at3 (ztS V (bw b.val)) ?_ ?_ ?_
  · show p.val + 1 * 0 = p.val; omega
  · show g.val + 1 * 0 = g.val; omega
  · show 256 * h.val + 1 * C.val = 256 * h.val + C.val; omega

theorem st_at (V : In Ideal) (w : BitVec 32) (p : Fin 2) (r : Fin 90) (h : Fin 2) (C : Fin 256)
    (hr : ∀ a, ![p.val, r.val, 256 * h.val] a + S1x1x256.size a ≤ S2x90x512.size a) :
    ldv (stS V w p) (Rect.unit (s := S2x90x512) ![p.val, r.val, 256 * h.val] S1x1x256.size hr) (ix3 0 0 C)
      = stS V w p (ix3 p r ⟨256 * h.val + C.val, by omega⟩) := by
  unfold ldv
  refine at3 (stS V w p) ?_ ?_ ?_
  · show p.val + 1 * 0 = p.val; omega
  · show r.val + 1 * 0 = r.val; omega
  · show 256 * h.val + 1 * C.val = 256 * h.val + C.val; omega

theorem zq_and (V : In Ideal) (r : Fin 90) (c : Fin 20736) : zq V r c &&& 15#32 = zq V r c := by
  unfold zq; rw [BitVec.and_assoc]; rfl

/-- A weight tile's entry is the weight of its row and column. -/
theorem wt_apply (V : In Ideal) (b : Fin 41) (l : Fin 3) (p : Fin 2) (g : Fin 45) (h : Fin 2) (K C : Fin 256) :
    wt V (bw b.val) l p g h (ix2 K C) = Wt V (kidx g K) (colOf (bw b.val) ⟨256 * h.val + C.val, by omega⟩) := by
  have hg := g.isLt
  have hK := K.isLt
  unfold wt
  rw [wts_apply, codeS_apply, zt_at, ztS_apply]
  rw [st_at V (bw b.val) p ⟨g.val, by omega⟩ h C, st_at V (bw b.val) p ⟨g.val + 45, by omega⟩ h C, stS_apply, stS_apply]
  generalize colOf (bw b.val) ⟨256 * h.val + C.val, by omega⟩ = c
  rw [ext_code _ _ _ (by show (128 * g.val + K.val / 2) / 1440 < 4; omega) (Nat.mod_lt _ (by decide)),
    ← zq_and V ⟨g.val, by omega⟩ c, ← zq_and V ⟨g.val + 45, by omega⟩ c, ext_zero _ _ _ (Nat.mod_lt _ (by decide)),
    ofBits_code, ofBits_code, sub_code]
  unfold Wt codeE nq kidx
  have e1 : (128 * g.val + K.val / 2) % 1440 = (128 * (g.val + 45 * (K.val % 2)) + K.val / 2) % 1440 := by omega
  have e2 : (128 * g.val + K.val / 2) / 1440 + 4 * (K.val % 2) = (128 * (g.val + 45 * (K.val % 2)) + K.val / 2) / 1440 := by omega
  have e3 : (128 * (g.val + 45 * (K.val % 2)) + K.val / 2) / 128 = g.val + 45 * (K.val % 2) := by omega
  simp only [e1, e2, e3]
  by_cases hc : K.val % 2 = 0
  · simp only [hc, if_true, Nat.mul_zero, Nat.add_zero, zq_and]
  · have hc1 : K.val % 2 = 1 := by omega
    simp only [hc1, if_false, Nat.mul_one, zq_and, one_ne_zero]

/-! ## Sums -/

theorem valO_none : valO (F := Ideal) none = (0 : EReal) := by
  show Ideal.ofBits .f32 0 = 0
  simp [Ideal.ofBits, Ideal.ieee]

theorem valO_dep (o : Option (Ideal .f32)) (x : Ideal .f32) : valO (some (depO o x)) = (valO o + x : EReal) := by
  cases o with
  | none => rw [valO_none, zero_add]; rfl
  | some e => rfl

/-- What is accumulated is the sum of the rounds' passes. -/
theorem accO_sum (T : Nat → Fin 2 → FVec Ideal S256x256 .bf16) (X : Nat → Fin 2 → Fin 2 → FVec Ideal S96x256 .bf16)
    (M : Nat → Fin 2 → Fin 2 → Bool) (h : Fin 2) (n : Fin 192) (C : Fin 256) (G : Nat) :
    (valO (accO T X M h n C G) : EReal) = ∑ g ∈ Finset.range G,
      if M g h (halfOf n) then (pass (T g h) (X g h (halfOf n)) (Mxu.ix (inHalf n) C) : EReal) else 0 := by
  induction G with
  | zero => rw [Finset.sum_range_zero]; exact valO_none
  | succ G ih =>
    rw [Finset.sum_range_succ, ← ih]
    show valO (if M G h (halfOf n) then some (depO (accO T X M h n C G) (pass (T G h) (X G h (halfOf n)) (Mxu.ix (inHalf n) C)))
      else accO T X M h n C G) = _
    split
    · exact valO_dep _ _
    · rw [add_zero]

/-- One product of the sum. -/
def term (V : In Ideal) (n : Fin 192) (c : Fin 20736) (k : Fin 11520) : EReal := (V.x (ix2 n k) : EReal) * Wt V k c

/-- A chunk's share of the sum. -/
def chunkE (V : In Ideal) (n : Fin 192) (c : Fin 20736) (g : Fin 45) : EReal := ∑ K : Fin 256, term V n c (kidx g K)

theorem mxu_ix (a : Fin 96) (b : Fin 256) : (Mxu.ix a b : S96x256.Idx) = ix2 a b := by
  funext d
  match d with
  | ⟨0, _⟩ => rfl
  | ⟨1, _⟩ => rfl

theorem pass_chunk (V : In Ideal) (b : Fin 41) (l : Fin 3) (p : Fin 2) (g : Fin 45) (h : Fin 2) (n : Fin 192) (C : Fin 256) :
    (pass (wt V (bw b.val) l p g h) (xrS V g (halfOf n)) (Mxu.ix (inHalf n) C) : EReal)
      = chunkE V n (colOf (bw b.val) ⟨256 * h.val + C.val, by omega⟩) g := by
  rw [mxu_ix, pass_apply]
  refine Finset.sum_congr rfl fun K _ => ?_
  rw [wt_apply, xrS_apply]
  have e : (⟨96 * (halfOf n).val + (inHalf n).val, by have := (halfOf n).isLt; have := (inHalf n).isLt; omega⟩ : Fin 192) = n :=
    Fin.ext (by show 96 * (n.val / 96) + n.val % 96 = n.val; omega)
  rw [e]
  rfl

theorem ch_val (g : Fin 45) : ch g.val = g := Fin.ext (Nat.mod_eq_of_lt g.isLt)

/-- The chunks' shares are the whole sum. -/
theorem chunks_sum (f : Fin 11520 → EReal) : ∑ g : Fin 45, ∑ K : Fin 256, f (kidx g K) = ∑ k : Fin 11520, f k := by
  rw [← Fintype.sum_prod_type' (fun g K => f (kidx g K))]
  refine Fintype.sum_equiv ⟨fun x => kidx x.1 x.2, fun k => (⟨k.val / 128 % 45, Nat.mod_lt _ (by decide)⟩,
    ⟨2 * (k.val % 128) + k.val / 128 / 45, by have := k.isLt; omega⟩), ?_, ?_⟩ _ _ fun x => rfl
  · rintro ⟨g, K⟩
    have hg := g.isLt
    have hK := K.isLt
    have e3 : (128 * (g.val + 45 * (K.val % 2)) + K.val / 2) / 128 = g.val + 45 * (K.val % 2) := by omega
    have e4 : (128 * (g.val + 45 * (K.val % 2)) + K.val / 2) % 128 = K.val / 2 := by omega
    refine Prod.ext (Fin.ext ?_) (Fin.ext ?_)
    · show (128 * (g.val + 45 * (K.val % 2)) + K.val / 2) / 128 % 45 = g.val; rw [e3]; omega
    · show 2 * ((128 * (g.val + 45 * (K.val % 2)) + K.val / 2) % 128) + (128 * (g.val + 45 * (K.val % 2)) + K.val / 2) / 128 / 45 = K.val; rw [e3, e4]; omega
  · intro k
    have hk := k.isLt
    refine Fin.ext ?_
    show 128 * (k.val / 128 % 45 + 45 * ((2 * (k.val % 128) + k.val / 128 / 45) % 2)) + (2 * (k.val % 128) + k.val / 128 / 45) / 2 = k.val
    omega

/-- A block's accumulated entry is the sum over its column. -/
theorem ACC_sum (V : In Ideal) (b : Fin 41) (h : Fin 2) (n : Fin 192) (C : Fin 256) :
    (valO (ACC V b.val h n C) : EReal) = ∑ g : Fin 45, chunkE V n (colOf (bw b.val) ⟨256 * h.val + C.val, by omega⟩) g := by
  unfold ACC
  rw [accO_sum, Finset.sum_range]
  refine Finset.sum_congr rfl fun g _ => ?_
  unfold allM TB XB
  rw [if_pos rfl, if_pos g.isLt, ch_val, pass_chunk]

theorem LACC_sum (V : In Ideal) (h : Fin 2) (n : Fin 192) (C : Fin 256) :
    (valO (LACC V h n C) : EReal) = (∑ i ∈ Finset.range 22, chunkE V n (colOf (bw 40) ⟨256 * h.val + C.val, by omega⟩) (lch (i + 1) h))
      + if h = halfOf n then chunkE V n (colOf (bw 40) ⟨256 * h.val + C.val, by omega⟩) 0 else 0 := by
  unfold LACC
  rw [accO_sum, Finset.sum_range_succ']
  refine congrArg₂ (· + ·) (Finset.sum_congr rfl fun i _ => ?_) ?_
  · unfold ML TL XL
    rw [if_neg (Nat.succ_ne_zero i), if_pos rfl]
    exact pass_chunk V ⟨40, by decide⟩ 1 0 (lch (i + 1) h) h n C
  · have e : ML 0 h (halfOf n) = decide (h = halfOf n) := rfl
    rw [e]
    by_cases hc : h = halfOf n
    · rw [if_pos hc, if_pos (decide_eq_true hc)]
      exact pass_chunk V ⟨40, by decide⟩ 1 0 0 h n C
    · rw [if_neg hc, if_neg (by simpa using hc)]

/-- The two units' parts of the last half block add up to the sum over the column. -/
theorem LACC_total (V : In Ideal) (n : Fin 192) (C : Fin 256) (c : Fin 20736) (hc : c.val = 20480 + C.val) :
    (valO (LACC V 0 n C) + valO (LACC V 1 n C) : EReal) = ∑ g : Fin 45, chunkE V n c g := by
  have hC := C.isLt
  have ec : ∀ h : Fin 2, colOf (bw 40) ⟨256 * h.val + C.val, by omega⟩ = c := fun h => Fin.ext (by
    have hh := h.isLt
    refine (colOf_val ⟨40, by decide⟩ ⟨256 * h.val + C.val, by omega⟩).trans ?_
    show min (512 * 40 + 256 * ((256 * h.val + C.val) / 256)) 20480 + (256 * h.val + C.val) % 256 = _
    omega)
  rw [LACC_sum, LACC_sum, ec, ec]
  have e0 : ∀ i ∈ Finset.range 22, chunkE V n c (lch (i + 1) 0) = chunkE V n c (ch (i + 1)) := fun i _ => rfl
  have e1 : ∀ i ∈ Finset.range 22, chunkE V n c (lch (i + 1) 1) = chunkE V n c (ch (22 + i + 1)) := fun i _ => by
    have : lch (i + 1) 1 = ch (i + 1 + 22) := rfl
    rw [this, show i + 1 + 22 = 22 + i + 1 from by omega]
  rw [Finset.sum_congr rfl e0, Finset.sum_congr rfl e1]
  have et : ∑ g : Fin 45, chunkE V n c g = (∑ i ∈ Finset.range 22, chunkE V n c (ch (i + 1))
      + ∑ i ∈ Finset.range 22, chunkE V n c (ch (22 + i + 1))) + chunkE V n c 0 := by
    have : ∑ g : Fin 45, chunkE V n c g = ∑ g ∈ Finset.range 45, chunkE V n c (ch g) := by
      rw [Finset.sum_range]; exact Finset.sum_congr rfl fun g _ => by rw [ch_val]
    rw [this, Finset.sum_range_succ' _ 44, ← Finset.sum_range_add (fun i => chunkE V n c (ch (i + 1))) 22 22]
    rfl
  rw [et]
  have hn := n.isLt
  by_cases hh : n.val < 96
  · have h0 : (0 : Fin 2) = halfOf n := Fin.ext (by show 0 = n.val / 96; omega)
    have h1 : ¬ (1 : Fin 2) = halfOf n := fun e => by have := congrArg Fin.val e; change 1 = n.val / 96 at this; omega
    rw [if_pos h0, if_neg h1, add_zero]
    exact add_right_comm _ _ _
  · have h0 : ¬ (0 : Fin 2) = halfOf n := fun e => by have := congrArg Fin.val e; change 0 = n.val / 96 at this; omega
    have h1 : (1 : Fin 2) = halfOf n := Fin.ext (by show 1 = n.val / 96; omega)
    rw [if_neg h0, if_pos h1, add_zero]
    exact (add_assoc _ _ _).symm

/-- The kernel's result: every entry is the sum of the activations times the weights of its column. -/
theorem Y_apply (V : In Ideal) (n : Fin 192) (c : Fin 20736) : (Y V (ix2 n c) : EReal) = ∑ k : Fin 11520, term V n c k := by
  have hc := c.isLt
  rw [← chunks_sum (term V n c)]
  by_cases h : c.val < 20480
  · have e : Y V (ix2 n c) = valO (ACC V (c.val / 512) ⟨c.val % 512 / 256, by omega⟩ n ⟨c.val % 512 % 256, Nat.mod_lt _ (by decide)⟩) :=
      if_pos h
    rw [e, ACC_sum V ⟨c.val / 512, by omega⟩]
    have ec : colOf (bw (c.val / 512)) ⟨256 * (c.val % 512 / 256) + c.val % 512 % 256, by omega⟩ = c := Fin.ext (by
      refine (colOf_val ⟨c.val / 512, by omega⟩ ⟨256 * (c.val % 512 / 256) + c.val % 512 % 256, by omega⟩).trans ?_
      show min (512 * (c.val / 512) + 256 * ((256 * (c.val % 512 / 256) + c.val % 512 % 256) / 256)) 20480
        + (256 * (c.val % 512 / 256) + c.val % 512 % 256) % 256 = c.val
      omega)
    refine Finset.sum_congr rfl fun g _ => ?_
    exact congrArg (fun c => chunkE V n c g) ec
  · have e : Y V (ix2 n c) = (valO (LACC V 0 n ⟨c.val % 256 % 256, Nat.mod_lt _ (by decide)⟩)
        + valO (LACC V 1 n ⟨c.val % 256 % 256, Nat.mod_lt _ (by decide)⟩) : EReal) := if_neg h
    rw [e, LACC_total V n _ c (by show c.val = 20480 + c.val % 256 % 256; omega)]
    rfl

end Cert.Kernel.Rolled
-- ==== Proof.RefValue.lean ====
/- The reference's result over the extended reals, read at an index. -/
module

public import proofs.«01_k».proof.Proof.Gen.ReferenceIdeal
public import Idealize.ShloMosaic.Lib.Pointwise

@[expose] public section

noncomputable section

namespace Cert.ReferenceIdeal.Value

open Idealize.ShloMosaic Cert.ReferenceIdeal Cert.ReferenceIdeal.Gen

/-- The shift amounts. -/
def shiftsR : IVec S8 32 := muli (broadcastInDim S8 ![] bcast_S_S8 (constantI S_ 32 4#32)) (iotaInDim S8 32 0)

theorem shr_and (x : BitVec 32) (f : Fin 8) :
    IntOp.andi (IntOp.shrsi .host x (IntOp.muli 4#32 (BitVec.ofNat 32 f.val))) 15#32 = x >>> (4 * f.val) &&& 15#32 := by
  apply BitVec.eq_of_getLsbD_eq
  intro i hi
  fin_cases f <;> simp [IntOp.shrsi, IntOp.muli, IntOp.andi] <;> interval_cases i <;> simp [BitVec.getElem_sshiftRight]

/-- The codes. -/
def codesR (q : IVec S1440x20736 32) : IVec S8x1440x20736 32 :=
  andi (Host.shrsi (broadcastInDim S8x1440x20736 ![0, 1, 2] bcast_S1x1440x20736_S8x1440x20736_0_1_2 (broadcastInDim S1x1440x20736 ![1, 2] bcast_S1440x20736_S1x1440x20736_1_2 q)) (broadcastInDim S8x1440x20736 ![0, 1, 2] bcast_S8x1x1_S8x1440x20736_0_1_2 (broadcastInDim S8x1x1 ![0] bcast_S8_S8x1x1_0 shiftsR))) (broadcastInDim S8x1440x20736 ![] bcast_S_S8x1440x20736 (constantI S_ 32 15#32))

theorem codesR_apply (q : IVec S1440x20736 32) (f : Fin 8) (r : Fin 1440) (c : Fin 20736) :
    codesR q (ix3 f r c) = q (ix2 r c) >>> (4 * f.val) &&& 15#32 := by
  unfold codesR shiftsR
  pointwise []
  exact shr_and _ _

/-- The zeros. -/
def zerosR (z : IVec S90x2592 32) : IVec S90x2592x8 32 :=
  andi (Host.shrsi (broadcastInDim S90x2592x8 ![0, 1, 2] bcast_S90x2592x1_S90x2592x8_0_1_2 (broadcastInDim S90x2592x1 ![0, 1] bcast_S90x2592_S90x2592x1_0_1 z)) (broadcastInDim S90x2592x8 ![0, 1, 2] bcast_S1x1x8_S90x2592x8_0_1_2 (broadcastInDim S1x1x8 ![2] bcast_S8_S1x1x8_2 shiftsR))) (broadcastInDim S90x2592x8 ![] bcast_S_S90x2592x8 (constantI S_ 32 15#32))

theorem zerosR_apply (z : IVec S90x2592 32) (g : Fin 90) (w : Fin 2592) (f : Fin 8) :
    zerosR z (ix3 g w f) = z (ix2 g w) >>> (4 * f.val) &&& 15#32 := by
  unfold zerosR shiftsR
  pointwise []
  exact shr_and _ _

/-- The codes by groups. -/
def codesG (q : IVec S1440x20736 32) : FVec Ideal S90x128x20736 .bf16 :=
  shapeCast S90x128x20736 (sitofp .bf16 (codesR q)) shapeCasts_S8x1440x20736_S90x128x20736

theorem codesG_apply (q : IVec S1440x20736 32) (g : Fin 90) (j : Fin 128) (c : Fin 20736) :
    (codesG q (ix3 g j c) : EReal) = (((q (ix2 ⟨(128 * g.val + j.val) % 1440, Nat.mod_lt _ (by decide)⟩ c)
      >>> (4 * ((128 * g.val + j.val) / 1440)) &&& 15#32).toInt : ℝ) : EReal) := by
  have hj := j.isLt
  have hc := c.isLt
  unfold codesG
  generalize hC : codesR q = Q
  pointwise []
  rw [← hC, codesR_apply]
  have e1 : (g.val * 2654208 + j.val * 20736 + c.val) / 20736 % 1440 = (128 * g.val + j.val) % 1440 := by omega
  have e2 : (g.val * 2654208 + j.val * 20736 + c.val) / 29859840 = (128 * g.val + j.val) / 1440 := by omega
  simp only [e1, e2]
  rfl

def zerosG (z : IVec S90x2592 32) : FVec Ideal S90x20736 .bf16 :=
  sitofp .bf16 (shapeCast S90x20736 (zerosR z) shapeCasts_S90x2592x8_S90x20736)

theorem zerosG_apply (z : IVec S90x2592 32) (g : Fin 90) (c : Fin 20736) :
    (zerosG z (ix2 g c) : EReal) = (((z (ix2 g ⟨c.val / 8, by omega⟩) >>> (4 * (c.val % 8)) &&& 15#32).toInt : ℝ) : EReal) := by
  unfold zerosG
  generalize hC : zerosR z = Q
  pointwise []
  rw [← hC, zerosR_apply]
  rfl

/-- The weights by groups. -/
def weightsG (cd : FVec Ideal S90x128x20736 .bf16) (z s : FVec Ideal S90x20736 .bf16) : FVec Ideal S90x128x20736 .bf16 :=
  mulf (subf cd (broadcastInDim S90x128x20736 ![0, 1, 2] bcast_S90x1x20736_S90x128x20736_0_1_2 (broadcastInDim S90x1x20736 ![0, 2] bcast_S90x20736_S90x1x20736_0_2 z))) (broadcastInDim S90x128x20736 ![0, 1, 2] bcast_S90x1x20736_S90x128x20736_0_1_2 (broadcastInDim S90x1x20736 ![0, 2] bcast_S90x20736_S90x1x20736_0_2 s))

/-- The reference's result. -/
def resR (x : FVec Ideal S192x1x11520 .bf16) (W : FVec Ideal S90x128x20736 .bf16) : FVec Ideal S192x1x20736 .bf16 :=
  shapeCast S192x1x20736 (truncf .bf16 (Host.dotGeneral dot_S192x11520_S11520x20736_S192x20736_1_0_0_1_n_n none
    (shapeCast S192x11520 x shapeCasts_S192x1x11520_S192x11520)
    (shapeCast S11520x20736 W shapeCasts_S90x128x20736_S11520x20736) : FVec Ideal S192x20736 .f32) bitsLt_bf16_f32) shapeCasts_S192x20736_S192x1x20736

theorem weightsG_apply (cd : FVec Ideal S90x128x20736 .bf16) (z s : FVec Ideal S90x20736 .bf16) (g : Fin 90) (j : Fin 128) (c : Fin 20736) :
    (weightsG cd z s (ix3 g j c) : EReal) = ((cd (ix3 g j c) : EReal) - (z (ix2 g c) : EReal)) * (s (ix2 g c) : EReal) := by
  unfold weightsG
  pointwise []

theorem resR_apply (x : FVec Ideal S192x1x11520 .bf16) (W : FVec Ideal S90x128x20736 .bf16) (n : Fin 192) (c : Fin 20736) :
    (resR x W (ix3 n 0 c) : EReal) = ∑ k : Fin 11520, (x (ix3 n 0 k) : EReal)
      * (W (ix3 ⟨k.val / 128, by omega⟩ ⟨k.val % 128, Nat.mod_lt _ (by decide)⟩ c) : EReal) := by
  unfold resR
  pointwise []

end Cert.ReferenceIdeal.Value
-- ==== Proof.Final.lean ====
/- The two programs over the extended reals: both leave the same result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Sums
public import proofs.«01_k».proof.Proof.RefValue
public import Idealize.ShloMosaic.Lib.Quiescent

@[expose] public section

noncomputable section

namespace Cert.Final

open Idealize.ShloMosaic Idealize.ShloMosaic.TcCoe Idealize.SL.Sem Cert.Kernel.Rolled Cert.ReferenceIdeal.Value

/-- A code's number, read with or without sign. -/
theorem toInt_and (x : BitVec 32) : (((x &&& 15#32).toInt : ℝ) : EReal) = codeE (x &&& 15#32) := by
  have e : (x &&& 15#32).toNat < 16 := by
    rw [BitVec.toNat_and]; exact lt_of_le_of_lt Nat.and_le_right (by decide)
  unfold codeE
  rw [BitVec.toInt_eq_toNat_of_lt (by omega)]
  simp

/-- The reference's result is the kernel's. -/
theorem value_eq (V : In Ideal) (x : FVec Ideal Cert.ReferenceIdeal.S192x1x11520 .bf16)
    (hx : V.x = shapeCast Cert.Kernel.S192x11520 x Cert.Kernel.Gen.shapeCasts_S192x1x11520_S192x11520) :
    resR x (weightsG (codesG V.q) (zerosG V.z) V.s)
      = shapeCast Cert.Kernel.S192x1x20736 (Y V) Cert.Kernel.Gen.shapeCasts_S192x20736_S192x1x20736 := by
  have hY : ∀ (n : Fin 192) (c : Fin 20736), shapeCast Cert.Kernel.S192x1x20736 (Y V) Cert.Kernel.Gen.shapeCasts_S192x20736_S192x1x20736 (ix3 n 0 c)
      = Y V (ix2 n c) := fun n c => by
    generalize Y V = y
    pointwise []
  have hX : ∀ (n : Fin 192) (k : Fin 11520), V.x (ix2 n k) = x (ix3 n 0 k) := fun n k => by
    rw [hx]
    pointwise []
  have key : ∀ (n : Fin 192) (c : Fin 20736), (resR x (weightsG (codesG V.q) (zerosG V.z) V.s) (ix3 n 0 c) : EReal) = Y V (ix2 n c) := by
    intro n c
    rw [resR_apply, Y_apply]
    refine Finset.sum_congr rfl fun k _ => ?_
    have hk := k.isLt
    rw [weightsG_apply, codesG_apply, zerosG_apply, toInt_and, toInt_and]
    unfold term Wt nq zq
    rw [hX]
    have e : 128 * (k.val / 128) + k.val % 128 = k.val := by omega
    simp only [e]
  funext i
  have hi : i = ix3 (i 0) 0 (i 2) := by
    funext a
    match a with
    | ⟨0, _⟩ => rfl
    | ⟨1, _⟩ => exact Fin.ext (by have : (i 1).val < 1 := (i 1).isLt; show (i 1).val = 0; omega)
    | ⟨2, _⟩ => rfl
  rw [hi]
  exact (key (i 0) (i 2)).trans (hY (i 0) (i 2)).symm

end Cert.Final
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Run
public import proofs.«01_k».proof.Proof.Transport
public import proofs.«01_k».proof.Proof.Final

@[expose] public section

namespace Cert.Proof

open Idealize.ShloMosaic Idealize.SL.Sem

/-- The kernel's frame: it runs, its arguments end unchanged and every semaphore ends at zero. -/
theorem frame_kernel : Cert.quiescent_Kernel (hKernel := Cert.Kernel.Gen.facts) := fun m g _ =>
  (θ_run _ _ _).mono (fun _ h => ⟨fun c => (h.1 c).2, h.2⟩) (Cert.Kernel.Rolled.run m g)

/-- The idealized kernel's frame. -/
theorem frame_ideal : Cert.quiescent_KernelIdeal (hKernelIdeal := Cert.KernelIdeal.Gen.facts) := fun m g _ =>
  (θ_run _ _ _).mono (fun _ h => ⟨fun c => (h.1 c).2, h.2⟩) (Cert.Final.idealRun m g)

/-- The reference's frame: it has no semaphores. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- Over the extended reals the idealized kernel and the reference leave the same result. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => shapeCast Cert.KernelIdeal.S192x1x20736 (Cert.Kernel.Rolled.Y (Cert.Final.inpI m c))
    Cert.KernelIdeal.Gen.shapeCasts_S192x20736_S192x1x20736, ?_, ?_⟩
  · exact (θ_run _ _ _).mono (fun _ h c => h.1 c) (Cert.Final.idealRun m g)
  · refine (θ_run _ _ _).mono (fun _ h c => ⟨(h c).1.trans ?_, (h c).2⟩) (Cert.ReferenceIdeal.Value.run m' g')
    obtain ⟨h0, h1, h2, h3⟩ := hm c
    rw [h0, h1, h2, h3]
    exact Cert.Final.value_eq (Cert.Final.inpI m c) _ rfl

end Cert.Proof

/-- Every claim. -/
theorem Cert.Proof.claim : Cert.Claim :=
  ⟨Cert.Kernel.Gen.facts, Cert.KernelIdeal.Gen.facts, Cert.ReferenceIdeal.Gen.facts, Cert.Proof.frame_kernel,
    Cert.Proof.frame_ideal, Cert.Proof.frame_reference, trivial, Cert.Proof.algebraic⟩
